-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_operands [hPre_finite_scores_operands : Cert.Pre_finite_scores_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_operands [hPre_finite_scores_operands : Cert.Pre_finite_scores_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores_operands [hKernelIdeal : Cert.KernelIdeal.Facts] [hPre_finite_scores_operands : Cert.Pre_finite_scores_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores_operands [hReferenceIdeal : Cert.ReferenceIdeal.Facts] [hPre_finite_scores_operands : Cert.Pre_finite_scores_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores_operands [hKernelIdeal : Cert.KernelIdeal.Facts] [hReferenceIdeal : Cert.ReferenceIdeal.Facts] [hPre_finite_scores_operands : Cert.Pre_finite_scores_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v6) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores_operands : Cert.Pre_finite_scores_operands.Facts),
    quiescent_Kernel (hKernel := hKernel)
    ∧ quiescent_KernelIdeal (hKernelIdeal := hKernelIdeal)
    ∧ quiescent_KernelIdeal_pre_finite_scores_operands (hKernelIdeal := hKernelIdeal) (hPre_finite_scores_operands := hPre_finite_scores_operands)
    ∧ quiescent_ReferenceIdeal (hReferenceIdeal := hReferenceIdeal)
    ∧ quiescent_ReferenceIdeal_pre_finite_scores_operands (hReferenceIdeal := hReferenceIdeal) (hPre_finite_scores_operands := hPre_finite_scores_operands)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores_operands (hKernelIdeal := hKernelIdeal) (hReferenceIdeal := hReferenceIdeal) (hPre_finite_scores_operands := hPre_finite_scores_operands)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores_operands.lean ====
abbrev S4x4096x3072 : Shape := ⟨3, ![4, 4096, 3072]⟩
abbrev S1x128 : Shape := ⟨2, ![1, 128]⟩
abbrev S_ : Shape := ⟨0, ![]⟩

class Facts : Prop where
  bitsLt_bf16_f32 : FTy.bits .bf16 < FTy.bits .f32
  bcast_S_S4x4096x3072 : S_.BroadcastsInDim S4x4096x3072 (![] : Fin 0 → Fin S4x4096x3072.rank)

variable [Facts]

def fn {F : FTy → Type} [FloatOps F] (main_arg0 : FVec F S4x4096x3072 .bf16) (main_arg1 : FVec F S1x128 .f32) : IVec S4x4096x3072 1 :=
  let main_v0 : FVec F S4x4096x3072 .f32 := (extf .f32 · bitsLt_bf16_f32) main_arg0
  let main_v1 : FVec F S4x4096x3072 .f32 := Host.absf main_v0
  let main_cst : FVec F S_ .f32 := constant S_ .f32 0x7F800000#32
  let main_v2 : FVec F S4x4096x3072 .f32 := broadcastInDim S4x4096x3072 ![] bcast_S_S4x4096x3072 main_cst
  let main_v3 : IVec S4x4096x3072 1 := cmpf .olt main_v1 main_v2
  main_v3
-- ==== Kernel.lean ====
abbrev S4x4096x3072 : Shape := ⟨3, ![4, 4096, 3072]⟩
abbrev S1x128 : Shape := ⟨2, ![1, 128]⟩
abbrev S4x4096x1024 : Shape := ⟨3, ![4, 4096, 1024]⟩
abbrev S1x512x128 : Shape := ⟨3, ![1, 512, 128]⟩
abbrev S1x4096x128 : Shape := ⟨3, ![1, 4096, 128]⟩
abbrev S512x128 : Shape := ⟨2, ![512, 128]⟩
abbrev S2x512x256 : Shape := ⟨3, ![2, 512, 256]⟩
abbrev S2x512x128 : Shape := ⟨3, ![2, 512, 128]⟩
abbrev S128x256 : Shape := ⟨2, ![128, 256]⟩
abbrev S256x256 : Shape := ⟨2, ![256, 256]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S1x128x256 : Shape := ⟨3, ![1, 128, 256]⟩
abbrev S128 : Shape := ⟨1, ![128]⟩
abbrev S128x1 : Shape := ⟨2, ![128, 1]⟩
abbrev S512 : Shape := ⟨1, ![512]⟩
abbrev S512x1 : Shape := ⟨2, ![512, 1]⟩

abbrev nBuf : Space → Nat
  | .hbm => 3
  | .vmem => 15
  | .smem => 0
  | _ => 0

abbrev bufTy : (tb : Table) → Fin (tcTables nBuf tb) → BufTy
  | .hbm, ⟨0, _⟩ => ⟨S4x4096x3072, .bf16⟩
  | .hbm, ⟨1, _⟩ => ⟨S1x128, .f32⟩
  | .hbm, ⟨2, _⟩ => ⟨S4x4096x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x128, .f32⟩
  | .local _ .vmem, ⟨7, _⟩ => ⟨S1x512x128, .bf16⟩
  | .local _ .vmem, ⟨8, _⟩ => ⟨S1x512x128, .bf16⟩
  | .local _ .vmem, ⟨9, _⟩ => ⟨S512x128, .f32⟩
  | .local _ .vmem, ⟨10, _⟩ => ⟨S512x128, .f32⟩
  | .local _ .vmem, ⟨11, _⟩ => ⟨S2x512x256, .f32⟩
  | .local _ .vmem, ⟨12, _⟩ => ⟨S2x512x256, .bf16⟩
  | .local _ .vmem, ⟨13, _⟩ => ⟨S2x512x256, .bf16⟩
  | .local _ .vmem, ⟨14, _⟩ => ⟨S2x512x128, .f32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let c2_i32 : BitVec 32 := 2#32
  let arg2 : BitVec 32 := BitVec.ofNat 32 (i 2).val
  let v16 : BitVec 32 := Scalar.muli c2_i32 arg2
  let c1_i32 : BitVec 32 := 1#32
  let v17 : BitVec 32 := Scalar.addi v16 c1_i32
  let c256_i32 : BitVec 32 := 256#32
  let v20 : BitVec 32 := Scalar.muli v17 c256_i32
  v20
def k0_off1 (i : grid0.Coords) : Fin 3 → Nat :=
  let c0_6 : Index := 0#32
  let c2_i32 : BitVec 32 := 2#32
  let arg2 : BitVec 32 := BitVec.ofNat 32 (i 2).val
  let v16 : BitVec 32 := Scalar.muli c2_i32 arg2
  let c1_i32 : BitVec 32 := 1#32
  let v17 : BitVec 32 := Scalar.addi v16 c1_i32
  let c256_i32 : BitVec 32 := 256#32
  let v20 : BitVec 32 := Scalar.muli v17 c256_i32
  let v21 : BitVec 32 := v20
  let v22 : Index := Scalar.indexCast v21
  let c0_7 : Index := 0#32
  ![0, v22.toNat, 0]
def k0_mult2 (i : grid0.Coords) : BitVec 32 :=
  let c2_i32 : BitVec 32 := 2#32
  let arg2 : BitVec 32 := BitVec.ofNat 32 (i 2).val
  let v16 : BitVec 32 := Scalar.muli c2_i32 arg2
  let c1_i32 : BitVec 32 := 1#32
  let v17 : BitVec 32 := Scalar.addi v16 c1_i32
  let c256_i32_11 : BitVec 32 := 256#32
  let v28 : BitVec 32 := Scalar.muli v17 c256_i32_11
  v28
def k0_mult3 (i : grid0.Coords) : BitVec 32 :=
  let c2_i32_58 : BitVec 32 := 2#32
  let arg2 : BitVec 32 := BitVec.ofNat 32 (i 2).val
  let v120 : BitVec 32 := Scalar.muli c2_i32_58 arg2
  let c256_i32_64 : BitVec 32 := 256#32
  let v126 : BitVec 32 := Scalar.muli v120 c256_i32_64
  v126
def k0_off2 (i : grid0.Coords) : Fin 3 → Nat :=
  let c0_65 : Index := 0#32
  let c2_i32_58 : BitVec 32 := 2#32
  let arg2 : BitVec 32 := BitVec.ofNat 32 (i 2).val
  let v120 : BitVec 32 := Scalar.muli c2_i32_58 arg2
  let c256_i32_64 : BitVec 32 := 256#32
  let v126 : BitVec 32 := Scalar.muli v120 c256_i32_64
  let v127 : BitVec 32 := v126
  let v128 : Index := Scalar.indexCast v127
  let c0_66 : Index := 0#32
  ![0, v128.toNat, 0]
def k0_mult4 (i : grid0.Coords) : BitVec 32 :=
  let c2_i32_58 : BitVec 32 := 2#32
  let arg2 : BitVec 32 := BitVec.ofNat 32 (i 2).val
  let v120 : BitVec 32 := Scalar.muli c2_i32_58 arg2
  let c256_i32_70 : BitVec 32 := 256#32
  let v134 : BitVec 32 := Scalar.muli v120 c256_i32_70
  v134
def k0_mult5 (i : grid0.Coords) : BitVec 32 :=
  let c2_i32_58 : BitVec 32 := 2#32
  let arg2 : BitVec 32 := BitVec.ofNat 32 (i 2).val
  let v120 : BitVec 32 := Scalar.muli c2_i32_58 arg2
  let c256_i32_97 : BitVec 32 := 256#32
  let v184 : BitVec 32 := Scalar.muli v120 c256_i32_97
  v184
def k0_mult6 (i : grid0.Coords) : BitVec 32 :=
  let c2_i32_58 : BitVec 32 := 2#32
  let arg2 : BitVec 32 := BitVec.ofNat 32 (i 2).val
  let v120 : BitVec 32 := Scalar.muli c2_i32_58 arg2
  let c256_i32_132 : BitVec 32 := 256#32
  let v241 : BitVec 32 := Scalar.muli v120 c256_i32_132
  v241
def k0_mult7 (i : grid0.Coords) : BitVec 32 :=
  let c2_i32_56 : BitVec 32 := 2#32
  let arg2 : BitVec 32 := BitVec.ofNat 32 (i 2).val
  let v118 : BitVec 32 := Scalar.muli c2_i32_56 arg2
  let c1_i32_57 : BitVec 32 := 1#32
  let v119 : BitVec 32 := Scalar.addi v118 c1_i32_57
  let c256_i32_168 : BitVec 32 := 256#32
  let v296 : BitVec 32 := Scalar.muli v119 c256_i32_168
  v296
def k0_mult8 (i : grid0.Coords) : BitVec 32 :=
  let c2_i32_59 : BitVec 32 := 2#32
  let arg2 : BitVec 32 := BitVec.ofNat 32 (i 2).val
  let v121 : BitVec 32 := Scalar.muli c2_i32_59 arg2
  let c1_i32_60 : BitVec 32 := 1#32
  let v122 : BitVec 32 := Scalar.subi v121 c1_i32_60
  let c0_i32 : BitVec 32 := 0#32
  let v123 : BitVec 32 := Scalar.maxsi v122 c0_i32
  let c256_i32_184 : BitVec 32 := 256#32
  let v315 : BitVec 32 := Scalar.muli v123 c256_i32_184
  v315
def k0_off3 (i : grid0.Coords) : Fin 3 → Nat :=
  let c0_185 : Index := 0#32
  let c2_i32_59 : BitVec 32 := 2#32
  let arg2 : BitVec 32 := BitVec.ofNat 32 (i 2).val
  let v121 : BitVec 32 := Scalar.muli c2_i32_59 arg2
  let c1_i32_60 : BitVec 32 := 1#32
  let v122 : BitVec 32 := Scalar.subi v121 c1_i32_60
  let c0_i32 : BitVec 32 := 0#32
  let v123 : BitVec 32 := Scalar.maxsi v122 c0_i32
  let c256_i32_184 : BitVec 32 := 256#32
  let v315 : BitVec 32 := Scalar.muli v123 c256_i32_184
  let v316 : BitVec 32 := v315
  let v317 : Index := Scalar.indexCast v316
  let c0_186 : Index := 0#32
  ![0, v317.toNat, 0]
def k0_mult9 (i : grid0.Coords) : BitVec 32 :=
  let c2_i32_56 : BitVec 32 := 2#32
  let arg2 : BitVec 32 := BitVec.ofNat 32 (i 2).val
  let v118 : BitVec 32 := Scalar.muli c2_i32_56 arg2
  let c1_i32_57 : BitVec 32 := 1#32
  let v119 : BitVec 32 := Scalar.addi v118 c1_i32_57
  let c256_i32_220 : BitVec 32 := 256#32
  let v370 : BitVec 32 := Scalar.muli v119 c256_i32_220
  v370
@[reducible] def k0_t1_loop (i : grid0.Coords) : Scf.Loop 32 :=
  let c0_i32_233 : BitVec 32 := 0#32
  let arg2 : BitVec 32 := BitVec.ofNat 32 (i 2).val
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_235 : BitVec 32 := 1#32
  ⟨c0_i32_233, v391, c1_i32_235⟩
def k0_mult10 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c1_i32_352 : BitVec 32 := 1#32
  let v535 : BitVec 32 := Scalar.subi v534 c1_i32_352
  let c256_i32_358 : BitVec 32 := 256#32
  let v540 : BitVec 32 := Scalar.muli v535 c256_i32_358
  v540
def k0_off4 (i : grid0.Coords) (k0_t1 : Fin (k0_t1_loop i).trips) (c1_i32_352 : BitVec 32) : Fin 3 → Nat :=
  let c0_359 : Index := 0#32
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let v535 : BitVec 32 := Scalar.subi v534 c1_i32_352
  let c256_i32_358 : BitVec 32 := 256#32
  let v540 : BitVec 32 := Scalar.muli v535 c256_i32_358
  let v541 : BitVec 32 := v540
  let v542 : Index := Scalar.indexCast v541
  let c0_360 : Index := 0#32
  ![0, v542.toNat, 0]
def k0_mult11 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c256_i32_394 : BitVec 32 := 256#32
  let v595 : BitVec 32 := Scalar.muli v534 c256_i32_394
  v595
def k0_off5 (i : grid0.Coords) (k0_t1 : Fin (k0_t1_loop i).trips) : Fin 3 → Nat :=
  let c0_395 : Index := 0#32
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c256_i32_394 : BitVec 32 := 256#32
  let v595 : BitVec 32 := Scalar.muli v534 c256_i32_394
  let v596 : BitVec 32 := v595
  let v597 : Index := Scalar.indexCast v596
  let c0_396 : Index := 0#32
  ![0, v597.toNat, 0]
def k0_mult12 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c1_i32_352 : BitVec 32 := 1#32
  let v535 : BitVec 32 := Scalar.subi v534 c1_i32_352
  let c256_i32_410 : BitVec 32 := 256#32
  let v614 : BitVec 32 := Scalar.muli v535 c256_i32_410
  v614
def k0_mult13 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c256_i32_446 : BitVec 32 := 256#32
  let v669 : BitVec 32 := Scalar.muli v534 c256_i32_446
  v669
def k0_mult14 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c1_i32_352 : BitVec 32 := 1#32
  let v535 : BitVec 32 := Scalar.subi v534 c1_i32_352
  let c256_i32_462 : BitVec 32 := 256#32
  let v688 : BitVec 32 := Scalar.muli v535 c256_i32_462
  v688
def k0_mult15 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c256_i32_498 : BitVec 32 := 256#32
  let v743 : BitVec 32 := Scalar.muli v534 c256_i32_498
  v743
def k0_mult16 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c2_i32_354 : BitVec 32 := 2#32
  let v537 : BitVec 32 := Scalar.subi v534 c2_i32_354
  let c256_i32_514 : BitVec 32 := 256#32
  let v762 : BitVec 32 := Scalar.muli v537 c256_i32_514
  v762
def k0_mult17 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c256_i32_550 : BitVec 32 := 256#32
  let v817 : BitVec 32 := Scalar.muli v534 c256_i32_550
  v817
def k0_mult18 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c2_i32_564 : BitVec 32 := 2#32
  let v835 : BitVec 32 := Scalar.subi v534 c2_i32_564
  let c256_i32_570 : BitVec 32 := 256#32
  let v841 : BitVec 32 := Scalar.muli v835 c256_i32_570
  v841
def k0_mult19 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c1_i32_563 : BitVec 32 := 1#32
  let v834 : BitVec 32 := Scalar.subi v534 c1_i32_563
  let c256_i32_606 : BitVec 32 := 256#32
  let v896 : BitVec 32 := Scalar.muli v834 c256_i32_606
  v896
def k0_mult20 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c2_i32_564 : BitVec 32 := 2#32
  let v835 : BitVec 32 := Scalar.subi v534 c2_i32_564
  let c256_i32_622 : BitVec 32 := 256#32
  let v915 : BitVec 32 := Scalar.muli v835 c256_i32_622
  v915
def k0_mult21 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c1_i32_563 : BitVec 32 := 1#32
  let v834 : BitVec 32 := Scalar.subi v534 c1_i32_563
  let c256_i32_658 : BitVec 32 := 256#32
  let v970 : BitVec 32 := Scalar.muli v834 c256_i32_658
  v970
def k0_mult22 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c2_i32_564 : BitVec 32 := 2#32
  let v835 : BitVec 32 := Scalar.subi v534 c2_i32_564
  let c256_i32_674 : BitVec 32 := 256#32
  let v989 : BitVec 32 := Scalar.muli v835 c256_i32_674
  v989
def k0_mult23 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c1_i32_563 : BitVec 32 := 1#32
  let v834 : BitVec 32 := Scalar.subi v534 c1_i32_563
  let c256_i32_710 : BitVec 32 := 256#32
  let v1044 : BitVec 32 := Scalar.muli v834 c256_i32_710
  v1044
def k0_mult24 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c3_i32 : BitVec 32 := 3#32
  let v837 : BitVec 32 := Scalar.subi v534 c3_i32
  let c0_i32_566 : BitVec 32 := 0#32
  let v838 : BitVec 32 := Scalar.maxsi v837 c0_i32_566
  let c256_i32_726 : BitVec 32 := 256#32
  let v1063 : BitVec 32 := Scalar.muli v838 c256_i32_726
  v1063
def k0_off6 (i : grid0.Coords) (k0_t1 : Fin (k0_t1_loop i).trips) : Fin 3 → Nat :=
  let c0_727 : Index := 0#32
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c3_i32 : BitVec 32 := 3#32
  let v837 : BitVec 32 := Scalar.subi v534 c3_i32
  let c0_i32_566 : BitVec 32 := 0#32
  let v838 : BitVec 32 := Scalar.maxsi v837 c0_i32_566
  let c256_i32_726 : BitVec 32 := 256#32
  let v1063 : BitVec 32 := Scalar.muli v838 c256_i32_726
  let v1064 : BitVec 32 := v1063
  let v1065 : Index := Scalar.indexCast v1064
  let c0_728 : Index := 0#32
  ![0, v1065.toNat, 0]
def k0_mult25 (i : grid0.Coords) (k0_t1 : Fin (k0_t1_loop i).trips) : BitVec 32 :=
  let c2_i32_351 : BitVec 32 := 2#32
  let arg2 : BitVec 32 := BitVec.ofNat 32 (i 2).val
  let c0_i32_233 : BitVec 32 := 0#32
  let c1_i32_235 : BitVec 32 := 1#32
  let arg14 : BitVec 32 := Scf.iv c0_i32_233 c1_i32_235 k0_t1
  let v533 : BitVec 32 := Scalar.subi arg2 arg14
  let v534 : BitVec 32 := Scalar.muli c2_i32_351 v533
  let c1_i32_563 : BitVec 32 := 1#32
  let v834 : BitVec 32 := Scalar.subi v534 c1_i32_563
  let c256_i32_762 : BitVec 32 := 256#32
  let v1118 : BitVec 32 := Scalar.muli v834 c256_i32_762
  v1118
@[reducible] def k0_t2_loop (i : grid0.Coords) : Scf.Loop 32 :=
  let c0_i32_233 : BitVec 32 := 0#32
  let arg2 : BitVec 32 := BitVec.ofNat 32 (i 2).val
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let v388 : BitVec 32 := Scalar.addi c0_i32_233 v387
  let c1_i32_236 : BitVec 32 := 1#32
  ⟨v391, v388, c1_i32_236⟩
def k0_mult26 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c1_i32_352 : BitVec 32 := 1#32
  let v535 : BitVec 32 := Scalar.subi v534 c1_i32_352
  let c256_i32_358 : BitVec 32 := 256#32
  let v540 : BitVec 32 := Scalar.muli v535 c256_i32_358
  v540
def k0_off7 (i : grid0.Coords) (k0_t2 : Fin (k0_t2_loop i).trips) (c1_i32_352 : BitVec 32) : Fin 3 → Nat :=
  let c0_359 : Index := 0#32
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let v535 : BitVec 32 := Scalar.subi v534 c1_i32_352
  let c256_i32_358 : BitVec 32 := 256#32
  let v540 : BitVec 32 := Scalar.muli v535 c256_i32_358
  let v541 : BitVec 32 := v540
  let v542 : Index := Scalar.indexCast v541
  let c0_360 : Index := 0#32
  ![0, v542.toNat, 0]
def k0_mult27 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c256_i32_394 : BitVec 32 := 256#32
  let v595 : BitVec 32 := Scalar.muli v534 c256_i32_394
  v595
def k0_off8 (i : grid0.Coords) (k0_t2 : Fin (k0_t2_loop i).trips) : Fin 3 → Nat :=
  let c0_395 : Index := 0#32
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c256_i32_394 : BitVec 32 := 256#32
  let v595 : BitVec 32 := Scalar.muli v534 c256_i32_394
  let v596 : BitVec 32 := v595
  let v597 : Index := Scalar.indexCast v596
  let c0_396 : Index := 0#32
  ![0, v597.toNat, 0]
def k0_mult28 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c1_i32_352 : BitVec 32 := 1#32
  let v535 : BitVec 32 := Scalar.subi v534 c1_i32_352
  let c256_i32_410 : BitVec 32 := 256#32
  let v614 : BitVec 32 := Scalar.muli v535 c256_i32_410
  v614
def k0_mult29 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c256_i32_446 : BitVec 32 := 256#32
  let v669 : BitVec 32 := Scalar.muli v534 c256_i32_446
  v669
def k0_mult30 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c1_i32_352 : BitVec 32 := 1#32
  let v535 : BitVec 32 := Scalar.subi v534 c1_i32_352
  let c256_i32_462 : BitVec 32 := 256#32
  let v688 : BitVec 32 := Scalar.muli v535 c256_i32_462
  v688
def k0_mult31 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c256_i32_498 : BitVec 32 := 256#32
  let v743 : BitVec 32 := Scalar.muli v534 c256_i32_498
  v743
def k0_mult32 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c2_i32_354 : BitVec 32 := 2#32
  let v537 : BitVec 32 := Scalar.subi v534 c2_i32_354
  let c256_i32_514 : BitVec 32 := 256#32
  let v762 : BitVec 32 := Scalar.muli v537 c256_i32_514
  v762
def k0_mult33 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c256_i32_550 : BitVec 32 := 256#32
  let v817 : BitVec 32 := Scalar.muli v534 c256_i32_550
  v817
def k0_mult34 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c2_i32_564 : BitVec 32 := 2#32
  let v835 : BitVec 32 := Scalar.subi v534 c2_i32_564
  let c256_i32_570 : BitVec 32 := 256#32
  let v841 : BitVec 32 := Scalar.muli v835 c256_i32_570
  v841
def k0_mult35 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c1_i32_563 : BitVec 32 := 1#32
  let v834 : BitVec 32 := Scalar.subi v534 c1_i32_563
  let c256_i32_606 : BitVec 32 := 256#32
  let v896 : BitVec 32 := Scalar.muli v834 c256_i32_606
  v896
def k0_mult36 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c2_i32_564 : BitVec 32 := 2#32
  let v835 : BitVec 32 := Scalar.subi v534 c2_i32_564
  let c256_i32_622 : BitVec 32 := 256#32
  let v915 : BitVec 32 := Scalar.muli v835 c256_i32_622
  v915
def k0_mult37 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c1_i32_563 : BitVec 32 := 1#32
  let v834 : BitVec 32 := Scalar.subi v534 c1_i32_563
  let c256_i32_658 : BitVec 32 := 256#32
  let v970 : BitVec 32 := Scalar.muli v834 c256_i32_658
  v970
def k0_mult38 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c2_i32_564 : BitVec 32 := 2#32
  let v835 : BitVec 32 := Scalar.subi v534 c2_i32_564
  let c256_i32_674 : BitVec 32 := 256#32
  let v989 : BitVec 32 := Scalar.muli v835 c256_i32_674
  v989
def k0_mult39 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c1_i32_563 : BitVec 32 := 1#32
  let v834 : BitVec 32 := Scalar.subi v534 c1_i32_563
  let c256_i32_710 : BitVec 32 := 256#32
  let v1044 : BitVec 32 := Scalar.muli v834 c256_i32_710
  v1044
def k0_mult40 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c3_i32 : BitVec 32 := 3#32
  let v837 : BitVec 32 := Scalar.subi v534 c3_i32
  let c0_i32_566 : BitVec 32 := 0#32
  let v838 : BitVec 32 := Scalar.maxsi v837 c0_i32_566
  let c256_i32_726 : BitVec 32 := 256#32
  let v1063 : BitVec 32 := Scalar.muli v838 c256_i32_726
  v1063
def k0_off9 (i : grid0.Coords) (k0_t2 : Fin (k0_t2_loop i).trips) : Fin 3 → Nat :=
  let c0_727 : Index := 0#32
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c3_i32 : BitVec 32 := 3#32
  let v837 : BitVec 32 := Scalar.subi v534 c3_i32
  let c0_i32_566 : BitVec 32 := 0#32
  let v838 : BitVec 32 := Scalar.maxsi v837 c0_i32_566
  let c256_i32_726 : BitVec 32 := 256#32
  let v1063 : BitVec 32 := Scalar.muli v838 c256_i32_726
  let v1064 : BitVec 32 := v1063
  let v1065 : Index := Scalar.indexCast v1064
  let c0_728 : Index := 0#32
  ![0, v1065.toNat, 0]
def k0_mult41 (i : grid0.Coords) (k0_t2 : Fin (k0_t2_loop i).trips) : BitVec 32 :=
  let c2_i32_351 : BitVec 32 := 2#32
  let arg2 : BitVec 32 := BitVec.ofNat 32 (i 2).val
  let c0_i32_233 : BitVec 32 := 0#32
  let v387 : BitVec 32 := Scalar.subi arg2 c0_i32_233
  let c1_i32_234 : BitVec 32 := 1#32
  let v389 : BitVec 32 := Scalar.divsi v387 c1_i32_234
  let v390 : BitVec 32 := Scalar.muli v389 c1_i32_234
  let v391 : BitVec 32 := Scalar.addi c0_i32_233 v390
  let c1_i32_236 : BitVec 32 := 1#32
  let arg14 : BitVec 32 := Scf.iv v391 c1_i32_236 k0_t2
  let v533 : BitVec 32 := Scalar.subi arg2 arg14
  let v534 : BitVec 32 := Scalar.muli c2_i32_351 v533
  let c1_i32_563 : BitVec 32 := 1#32
  let v834 : BitVec 32 := Scalar.subi v534 c1_i32_563
  let c256_i32_762 : BitVec 32 := 256#32
  let v1118 : BitVec 32 := Scalar.muli v834 c256_i32_762
  v1118
def k0_mult42 : BitVec 32 :=
  let c0_i32_252 : BitVec 32 := 0#32
  c0_i32_252
def k0_mult43 : BitVec 32 :=
  let c0_i32_280 : BitVec 32 := 0#32
  c0_i32_280
def k0_mult44 : BitVec 32 :=
  let c0_i32_308 : BitVec 32 := 0#32
  c0_i32_308
def k0_mult45 : BitVec 32 :=
  let c0_i32_328 : BitVec 32 := 0#32
  c0_i32_328
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x3072 : Shape := ⟨3, ![4, 4096, 3072]⟩
abbrev S1x128 : Shape := ⟨2, ![1, 128]⟩
abbrev S4x4096x1024 : Shape := ⟨3, ![4, 4096, 1024]⟩
abbrev S4x4096x8x128 : Shape := ⟨4, ![4, 4096, 8, 128]⟩
abbrev S4x8x4096x128 : Shape := ⟨4, ![4, 8, 4096, 128]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S128 : Shape := ⟨1, ![128]⟩
abbrev S1x1x1x128 : Shape := ⟨4, ![1, 1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S1x128, .f32⟩
  | .hbm, ⟨2, _⟩ => ⟨S4x4096x1024, .bf16⟩
  | .hbm, ⟨3, _⟩ => ⟨S4x4096x1024, .f32⟩
  | .hbm, ⟨4, _⟩ => ⟨S4x4096x8x128, .f32⟩
  | .hbm, ⟨5, _⟩ => ⟨S4x8x4096x128, .f32⟩
  | .hbm, ⟨6, _⟩ => ⟨S4x4096x1024, .bf16⟩
  | .hbm, ⟨7, _⟩ => ⟨S4x4096x1024, .f32⟩
  | .hbm, ⟨8, _⟩ => ⟨S4x4096x8x128, .f32⟩
  | .hbm, ⟨9, _⟩ => ⟨S4x8x4096x128, .f32⟩
  | .hbm, ⟨10, _⟩ => ⟨S4x4096x1024, .bf16⟩
  | .hbm, ⟨11, _⟩ => ⟨S4x4096x1024, .f32⟩
  | .hbm, ⟨12, _⟩ => ⟨S4x4096x8x128, .f32⟩
  | .hbm, ⟨13, _⟩ => ⟨S4x8x4096x128, .f32⟩
  | .hbm, ⟨14, _⟩ => ⟨S4x8x4096x4096, .f32⟩
  | .hbm, ⟨15, _⟩ => ⟨S_, .f32⟩
  | .hbm, ⟨16, _⟩ => ⟨S4x8x4096x4096, .f32⟩
  | .hbm, ⟨17, _⟩ => ⟨S4x8x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4x8x4096x4096, .f32⟩
  | .hbm, ⟨25, _⟩ => ⟨S_, .f32⟩
  | .hbm, ⟨26, _⟩ => ⟨S4x8x4096x4096, .f32⟩
  | .hbm, ⟨27, _⟩ => ⟨S4x8x4096x4096, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .i1⟩
  | .hbm, ⟨31, _⟩ => ⟨S4x8x4096x4096, .f32⟩
  | .hbm, ⟨32, _⟩ => ⟨S4x8x4096x4096, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S4x8x4096x4096, .f32⟩
  | .hbm, ⟨42, _⟩ => ⟨S_, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .f32⟩
  | .hbm, ⟨46, _⟩ => ⟨S4x8x4096x4096, .f32⟩
  | .hbm, ⟨47, _⟩ => ⟨S4x8x4096x4096, .i1⟩
  | .hbm, ⟨48, _⟩ => ⟨S4x8x4096x4096, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .f32⟩
  | .hbm, ⟨57, _⟩ => ⟨S_, .f32⟩
  | .hbm, ⟨58, _⟩ => ⟨S_, .f32⟩
  | .hbm, ⟨59, _⟩ => ⟨S4x8x4096x4096, .i1⟩
  | .hbm, ⟨60, _⟩ => ⟨S4x8x4096x4096, .f32⟩
  | .hbm, ⟨61, _⟩ => ⟨S4x8x4096x4096, .f32⟩
  | .hbm, ⟨62, _⟩ => ⟨S_, .f32⟩
  | .hbm, ⟨63, _⟩ => ⟨S_, .f32⟩
  | .hbm, ⟨64, _⟩ => ⟨S4x8x4096x4096, .f32⟩
  | .hbm, ⟨65, _⟩ => ⟨S4x8x4096x4096, .f32⟩
  | .hbm, ⟨66, _⟩ => ⟨S4x8x4096x4096, .f32⟩
  | .hbm, ⟨67, _⟩ => ⟨S4x8x4096x4096, .f32⟩
  | .hbm, ⟨68, _⟩ => ⟨S_, .f32⟩
  | .hbm, ⟨69, _⟩ => ⟨S_, .f32⟩
  | .hbm, ⟨70, _⟩ => ⟨S4x8x4096x4096, .i1⟩
  | .hbm, ⟨71, _⟩ => ⟨S4x8x4096x4096, .f32⟩
  | .hbm, ⟨72, _⟩ => ⟨S4x8x4096x4096, .f32⟩
  | .hbm, ⟨73, _⟩ => ⟨S4x8x4096x128, .f32⟩
  | .hbm, ⟨74, _⟩ => ⟨S4x8x4096x128, .f32⟩
  | .hbm, ⟨75, _⟩ => ⟨S_, .f32⟩
  | .hbm, ⟨76, _⟩ => ⟨S4x8x4096, .f32⟩
  | .hbm, ⟨77, _⟩ => ⟨S4x8x4096x1, .f32⟩
  | .hbm, ⟨78, _⟩ => ⟨S_, .f32⟩
  | .hbm, ⟨79, _⟩ => ⟨S4x8x4096x1, .f32⟩
  | .hbm, ⟨80, _⟩ => ⟨S4x8x4096x1, .f32⟩
  | .hbm, ⟨81, _⟩ => ⟨S_, .f32⟩
  | .hbm, ⟨82, _⟩ => ⟨S4x8x4096x1, .f32⟩
  | .hbm, ⟨83, _⟩ => ⟨S4x8x4096x1, .f32⟩
  | .hbm, ⟨84, _⟩ => ⟨S4x8x4096x1, .f32⟩
  | .hbm, ⟨85, _⟩ => ⟨S4x8x4096x128, .f32⟩
  | .hbm, ⟨86, _⟩ => ⟨S4x8x4096x128, .f32⟩
  | .hbm, ⟨87, _⟩ => ⟨S128, .f32⟩
  | .hbm, ⟨88, _⟩ => ⟨S1x1x1x128, .f32⟩
  | .hbm, ⟨89, _⟩ => ⟨S4x8x4096x128, .f32⟩
  | .hbm, ⟨90, _⟩ => ⟨S4x8x4096x128, .f32⟩
  | .hbm, ⟨91, _⟩ => ⟨S4x4096x8x128, .f32⟩
  | .hbm, ⟨92, _⟩ => ⟨S4x4096x1024, .f32⟩
  | .hbm, ⟨93, _⟩ => ⟨S4x4096x1024, .bf16⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v21 : Ref sig .tc := ⟨.hbm, 39, rfl⟩
abbrev main_v22 : Ref sig .tc := ⟨.hbm, 40, rfl⟩
abbrev main_call1_v0 : Ref sig .tc := ⟨.hbm, 41, rfl⟩
abbrev main_call1_call0_cst : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_call0_v2 : Ref sig .tc := ⟨.hbm, 45, rfl⟩
abbrev main_call1_call0_v3 : Ref sig .tc := ⟨.hbm, 46, rfl⟩
abbrev main_call1_call0_v4 : Ref sig .tc := ⟨.hbm, 47, rfl⟩
abbrev main_call1_call0_v5 : Ref sig .tc := ⟨.hbm, 48, rfl⟩
abbrev main_call1_call0_v6 : Ref sig .tc := ⟨.hbm, 49, rfl⟩
abbrev main_call1_call0_v7 : Ref sig .tc := ⟨.hbm, 50, rfl⟩
abbrev main_call1_call0_v8 : Ref sig .tc := ⟨.hbm, 51, rfl⟩
abbrev main_call1_call0_v9 : Ref sig .tc := ⟨.hbm, 52, rfl⟩
abbrev main_call1_call0_v10 : Ref sig .tc := ⟨.hbm, 53, rfl⟩
abbrev main_call1_call0_v11 : Ref sig .tc := ⟨.hbm, 54, rfl⟩
abbrev main_call1_v1 : Ref sig .tc := ⟨.hbm, 55, rfl⟩
abbrev main_v23 : Ref sig .tc := ⟨.hbm, 56, rfl⟩
abbrev main_cst_0 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v24 : Ref sig .tc := ⟨.hbm, 61, rfl⟩
abbrev main_call3_cst : Ref sig .tc := ⟨.hbm, 62, rfl⟩
abbrev main_call3_v0 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_1 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_2 : Ref sig .tc := ⟨.hbm, 75, rfl⟩
abbrev main_v32 : Ref sig .tc := ⟨.hbm, 76, rfl⟩
abbrev main_v33 : Ref sig .tc := ⟨.hbm, 77, rfl⟩
abbrev main_cst_3 : Ref sig .tc := ⟨.hbm, 78, rfl⟩
abbrev main_v34 : Ref sig .tc := ⟨.hbm, 79, rfl⟩
abbrev main_v35 : Ref sig .tc := ⟨.hbm, 80, rfl⟩
abbrev main_cst_4 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x5504 : Shape := ⟨2, ![2048, 5504]⟩
abbrev S5504x2048 : Shape := ⟨2, ![5504, 2048]⟩
abbrev S2048x384 : Shape := ⟨2, ![2048, 384]⟩
abbrev S384x2048 : Shape := ⟨2, ![384, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩
abbrev S512x384 : Shape := ⟨2, ![512, 384]⟩

abbrev nBuf : Space → Nat
  | .hbm => 10
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5504, .bf16⟩
  | .hbm, ⟨3, _⟩ => ⟨S2048x5504, .bf16⟩
  | .hbm, ⟨4, _⟩ => ⟨S5504x2048, .bf16⟩
  | .hbm, ⟨5, _⟩ => ⟨S1x2048, .f32⟩
  | .hbm, ⟨6, _⟩ => ⟨S2048x384, .bf16⟩
  | .hbm, ⟨7, _⟩ => ⟨S2048x384, .bf16⟩
  | .hbm, ⟨8, _⟩ => ⟨S384x2048, .bf16⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S2048x384, .bf16⟩
  | .local _ .vmem, ⟨10, _⟩ => ⟨S2048x384, .bf16⟩
  | .local _ .vmem, ⟨11, _⟩ => ⟨S384x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x2048 : Shape := ⟨2, ![16384, 2048]⟩
abbrev S1x2048 : Shape := ⟨2, ![1, 2048]⟩
abbrev S2048x5504 : Shape := ⟨2, ![2048, 5504]⟩
abbrev S5504x2048 : Shape := ⟨2, ![5504, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x5504 : Shape := ⟨2, ![16384, 5504]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5504, .bf16⟩
  | .hbm, ⟨3, _⟩ => ⟨S2048x5504, .bf16⟩
  | .hbm, ⟨4, _⟩ => ⟨S5504x2048, .bf16⟩
  | .hbm, ⟨5, _⟩ => ⟨S1x2048, .f32⟩
  | .hbm, ⟨6, _⟩ => ⟨S2048x5504, .f32⟩
  | .hbm, ⟨7, _⟩ => ⟨S2048x5504, .f32⟩
  | .hbm, ⟨8, _⟩ => ⟨S5504x2048, .f32⟩
  | .hbm, ⟨9, _⟩ => ⟨S2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x5504, .f32⟩
  | .hbm, ⟨27, _⟩ => ⟨S16384x5504, .f32⟩
  | .hbm, ⟨28, _⟩ => ⟨S16384x5504, .f32⟩
  | .hbm, ⟨29, _⟩ => ⟨S_, .f32⟩
  | .hbm, ⟨30, _⟩ => ⟨S16384x5504, .f32⟩
  | .hbm, ⟨31, _⟩ => ⟨S16384x5504, .f32⟩
  | .hbm, ⟨32, _⟩ => ⟨S_, .f32⟩
  | .hbm, ⟨33, _⟩ => ⟨S16384x5504, .f32⟩
  | .hbm, ⟨34, _⟩ => ⟨S16384x5504, .f32⟩
  | .hbm, ⟨35, _⟩ => ⟨S16384x5504, .f32⟩
  | .hbm, ⟨36, _⟩ => ⟨S16384x5504, .f32⟩
  | .hbm, ⟨37, _⟩ => ⟨S16384x5504, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S2048x5504 : Shape := ⟨2, ![2048, 5504]⟩
abbrev S5504x2048 : Shape := ⟨2, ![5504, 2048]⟩
abbrev S2048x384 : Shape := ⟨2, ![2048, 384]⟩
abbrev S384x2048 : Shape := ⟨2, ![384, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩
abbrev S512x384 : Shape := ⟨2, ![512, 384]⟩

abbrev nBuf : Space → Nat
  | .hbm => 11
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5504, .bf16⟩
  | .hbm, ⟨3, _⟩ => ⟨S2048x5504, .bf16⟩
  | .hbm, ⟨4, _⟩ => ⟨S5504x2048, .bf16⟩
  | .hbm, ⟨5, _⟩ => ⟨S1x2048, .f32⟩
  | .hbm, ⟨6, _⟩ => ⟨S2048x384, .bf16⟩
  | .hbm, ⟨7, _⟩ => ⟨S2048x384, .bf16⟩
  | .hbm, ⟨8, _⟩ => ⟨S384x2048, .bf16⟩
  | .hbm, ⟨9, _⟩ => ⟨S16384x2048, .f32⟩
  | .hbm, ⟨10, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S2048x384, .bf16⟩
  | .local _ .vmem, ⟨10, _⟩ => ⟨S2048x384, .bf16⟩
  | .local _ .vmem, ⟨11, _⟩ => ⟨S384x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 11], ![false, false]⟩

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S16384x2048 : Shape := ⟨2, ![16384, 2048]⟩
abbrev S1x2048 : Shape := ⟨2, ![1, 2048]⟩
abbrev S2048x5504 : Shape := ⟨2, ![2048, 5504]⟩
abbrev S5504x2048 : Shape := ⟨2, ![5504, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x5504 : Shape := ⟨2, ![16384, 5504]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x5504, .bf16⟩
  | .hbm, ⟨3, _⟩ => ⟨S2048x5504, .bf16⟩
  | .hbm, ⟨4, _⟩ => ⟨S5504x2048, .bf16⟩
  | .hbm, ⟨5, _⟩ => ⟨S1x2048, .f32⟩
  | .hbm, ⟨6, _⟩ => ⟨S2048x5504, .f32⟩
  | .hbm, ⟨7, _⟩ => ⟨S2048x5504, .f32⟩
  | .hbm, ⟨8, _⟩ => ⟨S5504x2048, .f32⟩
  | .hbm, ⟨9, _⟩ => ⟨S2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S1x2048, .f32⟩
  | .hbm, ⟨24, _⟩ => ⟨S16384x2048, .f32⟩
  | .hbm, ⟨25, _⟩ => ⟨S16384x2048, .f32⟩
  | .hbm, ⟨26, _⟩ => ⟨S16384x5504, .f32⟩
  | .hbm, ⟨27, _⟩ => ⟨S16384x5504, .f32⟩
  | .hbm, ⟨28, _⟩ => ⟨S16384x5504, .f32⟩
  | .hbm, ⟨29, _⟩ => ⟨S_, .f32⟩
  | .hbm, ⟨30, _⟩ => ⟨S16384x5504, .f32⟩
  | .hbm, ⟨31, _⟩ => ⟨S16384x5504, .f32⟩
  | .hbm, ⟨32, _⟩ => ⟨S_, .f32⟩
  | .hbm, ⟨33, _⟩ => ⟨S16384x5504, .f32⟩
  | .hbm, ⟨34, _⟩ => ⟨S16384x5504, .f32⟩
  | .hbm, ⟨35, _⟩ => ⟨S16384x5504, .f32⟩
  | .hbm, ⟨36, _⟩ => ⟨S16384x5504, .f32⟩
  | .hbm, ⟨37, _⟩ => ⟨S16384x5504, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel4.lean ====
abbrev S16384x2048 : Shape := ⟨2, ![16384, 2048]⟩
abbrev S2048x7184 : Shape := ⟨2, ![2048, 7184]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x7184, .f32⟩
  | .hbm, ⟨2, _⟩ => ⟨S2048x3072, .f32⟩
  | .hbm, ⟨3, _⟩ => ⟨S2048x3072, .bf16⟩
  | .hbm, ⟨4, _⟩ => ⟨S16384x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x2048 : Shape := ⟨2, ![16384, 2048]⟩
abbrev S2048x7184 : Shape := ⟨2, ![2048, 7184]⟩
abbrev S16384x7184 : Shape := ⟨2, ![16384, 7184]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7184, .f32⟩
  | .hbm, ⟨2, _⟩ => ⟨S16384x2048, .f32⟩
  | .hbm, ⟨3, _⟩ => ⟨S16384x7184, .f32⟩
  | .hbm, ⟨4, _⟩ => ⟨S16384x3072, .f32⟩
  | .hbm, ⟨5, _⟩ => ⟨S16384x3072, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16384x2048 : Shape := ⟨2, ![16384, 2048]⟩
abbrev S2048x7184 : Shape := ⟨2, ![2048, 7184]⟩
abbrev S2048x3072 : Shape := ⟨2, ![2048, 3072]⟩
abbrev S2048x1024 : Shape := ⟨2, ![2048, 1024]⟩
abbrev S2048x4096 : Shape := ⟨2, ![2048, 4096]⟩
abbrev S2048x16 : Shape := ⟨2, ![2048, 16]⟩
abbrev S_ : Shape := ⟨0, ![]⟩
abbrev S2048x128 : Shape := ⟨2, ![2048, 128]⟩
abbrev S16384x4096 : Shape := ⟨2, ![16384, 4096]⟩
abbrev S16384x128 : Shape := ⟨2, ![16384, 128]⟩
abbrev S1024x2048 : Shape := ⟨2, ![1024, 2048]⟩
abbrev S1024x1024 : Shape := ⟨2, ![1024, 1024]⟩
abbrev S1024x128 : Shape := ⟨2, ![1024, 128]⟩

abbrev nBuf : Space → Nat
  | .hbm => 13
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x7184, .f32⟩
  | .hbm, ⟨2, _⟩ => ⟨S2048x3072, .f32⟩
  | .hbm, ⟨3, _⟩ => ⟨S2048x1024, .f32⟩
  | .hbm, ⟨4, _⟩ => ⟨S2048x4096, .f32⟩
  | .hbm, ⟨5, _⟩ => ⟨S2048x4096, .bf16⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S16384x4096, .f32⟩
  | .hbm, ⟨12, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S1024x1024, .f32⟩
  | .local _ .vmem, ⟨6, _⟩ => ⟨S1024x1024, .f32⟩
  | .local _ .vmem, ⟨7, _⟩ => ⟨S1024x128, .f32⟩
  | .local _ .vmem, ⟨8, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S16384x2048 : Shape := ⟨2, ![16384, 2048]⟩
abbrev S2048x7184 : Shape := ⟨2, ![2048, 7184]⟩
abbrev S16384x7184 : Shape := ⟨2, ![16384, 7184]⟩
abbrev S16384x3072 : Shape := ⟨2, ![16384, 3072]⟩
abbrev S16384x16 : Shape := ⟨2, ![16384, 16]⟩
abbrev S16384x1024 : Shape := ⟨2, ![16384, 1024]⟩
abbrev S16384x4096 : Shape := ⟨2, ![16384, 4096]⟩
abbrev S_ : Shape := ⟨0, ![]⟩
abbrev S16384x128 : Shape := ⟨2, ![16384, 128]⟩

abbrev nBuf : Space → Nat
  | .hbm => 11
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x7184, .f32⟩
  | .hbm, ⟨2, _⟩ => ⟨S16384x2048, .f32⟩
  | .hbm, ⟨3, _⟩ => ⟨S16384x7184, .f32⟩
  | .hbm, ⟨4, _⟩ => ⟨S16384x3072, .f32⟩
  | .hbm, ⟨5, _⟩ => ⟨S16384x16, .f32⟩
  | .hbm, ⟨6, _⟩ => ⟨S16384x1024, .f32⟩
  | .hbm, ⟨7, _⟩ => ⟨S16384x4096, .f32⟩
  | .hbm, ⟨8, _⟩ => ⟨S_, .i32⟩
  | .hbm, ⟨9, _⟩ => ⟨S_, .f32⟩
  | .hbm, ⟨10, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S16384x1024 : Shape := ⟨2, ![16384, 1024]⟩
abbrev S2048x2048 : Shape := ⟨2, ![2048, 2048]⟩
abbrev S16384x2048 : Shape := ⟨2, ![16384, 2048]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S2048x2048, .bf16⟩
  | .hbm, ⟨5, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16384x1024 : Shape := ⟨2, ![16384, 1024]⟩
abbrev S2048x2048 : Shape := ⟨2, ![2048, 2048]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S16384x2048, .f32⟩
  | .hbm, ⟨8, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.RI.lean ====
module

public import proofs.«01_k».proof.Defs
public import proofs.«01_k».proof.Proof.Gen.ReferenceIdeal.Read

@[expose] public section

noncomputable section

namespace Cert.Proof.SBR

open Cert.ReferenceIdeal
open Idealize.ShloMosaic Idealize.SL.Sem Idealize.ShloMosaic.TcCoe

variable {F : FTy → Type} [FloatOps F]

/-- The reference keeps its arguments; it has no counters. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Cert.ReferenceIdeal.Value.run m ρ)

end Cert.Proof.SBR

end
-- ==== Proof.P.Run.lean ====
module

public import proofs.«01_k».proof.Proof.Gen.Kernel.Frame
public import proofs.«01_k».proof.Proof.Gen.Kernel.Skeleton
public import proofs.«01_k».proof.Proof.Gen.Kernel.Loops
public import Idealize.ShloMosaic.Lib.Tactic
public import Idealize.ShloMosaic.Lib.LoopRemainder

@[expose] public section

set_option maxRecDepth 16384

noncomputable section

namespace Cert.Proof.SBP

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

/-- No recursion in the kernel's function table: no variants. -/
abbrev 𝒱₀ : Variants := Variants.none

section Body

variable (c : Dev nD) (i : grid0.Coords) (arg3 : Memref sig .tc .vmem S1x512x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x128 .f32) (harg6 : arg6.IsWhole) (arg7 : Memref sig .tc .vmem S1x512x128 .bf16) (harg7 : arg7.IsWhole)
  (arg8 : Memref sig .tc .vmem S512x128 .f32) (harg8 : arg8.IsWhole) (arg9 : Memref sig .tc .vmem S512x128 .f32) (harg9 : arg9.IsWhole)
  (arg10 : Memref sig .tc .vmem S2x512x256 .f32) (harg10 : arg10.IsWhole) (arg11 : Memref sig .tc .vmem S2x512x256 .bf16) (harg11 : arg11.IsWhole)
  (arg12 : Memref sig .tc .vmem S2x512x256 .bf16) (harg12 : arg12.IsWhole) (arg13 : Memref sig .tc .vmem S2x512x128 .f32) (harg13 : arg13.IsWhole)
  (arg2 : BitVec 32) (v7 : FVec F S256x256 .bf16) (v320 : FVec F S128x256 .f32) (v327 : FVec F S128x256 .f32) (v383 : FVec F S128x128 .f32)

/-- The loop keeps its operands, and owns the six scratch buffers at something. -/
@[sl_loop, instance_reducible] def loopInv_k0_t1 (f3 : Buf (Elt F) (arg3.view.loc (c : Thread nD τ))) (f4 : Buf (Elt F) (arg4.view.loc (c : Thread nD τ))) (f5 : Buf (Elt F) (arg5.view.loc (c : Thread nD τ))) (init : FVec F S128x256 .f32 × FVec F S128x256 .f32) :
    Gen.LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg2 v7 init.1 init.2 (constant S128x128 .f32 0#32) init where
  inv := fun _ _ => iprop((arg3.view.loc (c : Thread nD τ) ↦{fullShare} f3) ∗ (arg4.view.loc (c : Thread nD τ) ↦{fullShare} f4) ∗ (arg5.view.loc (c : Thread nD τ) ↦{fullShare} f5) ∗ (∃ f, arg8.view.loc (c : Thread nD τ) ↦{fullShare} f) ∗ (∃ f, arg9.view.loc (c : Thread nD τ) ↦{fullShare} f) ∗ (∃ f, arg10.view.loc (c : Thread nD τ) ↦{fullShare} f) ∗ (∃ f, arg11.view.loc (c : Thread nD τ) ↦{fullShare} f) ∗ (∃ f, arg12.view.loc (c : Thread nD τ) ↦{fullShare} f) ∗ (∃ f, arg13.view.loc (c : Thread nD τ) ↦{fullShare} f))
  step := fun k acc => by
    unfold Gen.k0_t1_body
    iintro ⟨H3, H4, H5, ⟨%f8, H8⟩, ⟨%f9, H9⟩, ⟨%f10, H10⟩, ⟨%f11, H11⟩, ⟨%f12, H12⟩, ⟨%f13, H13⟩⟩
    sl_exec_parts
    sl_step
    isplitl [H3]; · iexact H3
    isplitl [H4]; · iexact H4
    isplitl [H5]; · iexact H5
    isplitl [H8]; · iexists _; iexact H8
    isplitl [H9]; · iexists _; iexact H9
    isplitl [H10]; · iexists _; iexact H10
    isplitl [H11]; · iexists _; iexact H11
    isplitl [H12]; · iexists _; iexact H12
    iexists _; iexact H13

/-- The body keeps its operands, whatever the scratch buffers hold. -/
theorem body_run (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (K : PUnit → sProp 𝕄) :
    iprop((arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (∃ f, arg7.view.loc (c : Thread nD τ) ↦{fullShare} f) ∗ (∃ f, arg8.view.loc (c : Thread nD τ) ↦{fullShare} f) ∗ (∃ f, arg9.view.loc (c : Thread nD τ) ↦{fullShare} f) ∗ (∃ f, arg10.view.loc (c : Thread nD τ) ↦{fullShare} f) ∗ (∃ f, arg11.view.loc (c : Thread nD τ) ↦{fullShare} f) ∗ (∃ f, arg12.view.loc (c : Thread nD τ) ↦{fullShare} f) ∗ (∃ f, arg13.view.loc (c : Thread nD τ) ↦{fullShare} f)
        ∗ (iprop((arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (∃ f, arg7.view.loc (c : Thread nD τ) ↦{fullShare} f) ∗ (∃ f, arg8.view.loc (c : Thread nD τ) ↦{fullShare} f) ∗ (∃ f, arg9.view.loc (c : Thread nD τ) ↦{fullShare} f) ∗ (∃ f, arg10.view.loc (c : Thread nD τ) ↦{fullShare} f) ∗ (∃ f, arg11.view.loc (c : Thread nD τ) ↦{fullShare} f) ∗ (∃ f, arg12.view.loc (c : Thread nD τ) ↦{fullShare} f) ∗ (∃ f, arg13.view.loc (c : Thread nD τ) ↦{fullShare} f)) -∗ K ⟨⟩))
      ⊢ wp frame (wpE (defs₀ (F := F)) 𝒱₀ c none) Set.univ (cc0_sb_attn i arg3 harg3 arg4 harg4 arg5 harg5 arg6 harg6 arg7 harg7 arg8 harg8 arg9 harg9 arg10 harg10 arg11 harg11 arg12 harg12 arg13 harg13) K := by
  iintro ⟨H3, H4, H5, H6, ⟨%f7, H7⟩, ⟨%f8, H8⟩, ⟨%f9, H9⟩, ⟨%f10, H10⟩, ⟨%f11, H11⟩, ⟨%f12, H12⟩, ⟨%f13, H13⟩, Hk⟩
  sl_unfold [cc0_sb_attn]
  sl_exec_parts
  sl_step
  iapply Hk
  isplitl [H3]; · iexact H3
  isplitl [H4]; · iexact H4
  isplitl [H5]; · iexact H5
  isplitl [H6]; · iexact H6
  isplitl [H7]; · iexists _; iexact H7
  sl_close

end Body

variable (m : (ℓ : Loc nD τ sig) → Buf (Elt F) ℓ) (ρ : Dev nD → PrngReg)

/-- The call's data: the inputs at their blocks; nothing is said of the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Pipeline.Dat.unnamed 4 t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The result's window, of which nothing is said. -/
def fgt : Fin cfg0.W → Bool := fun w => decide (w.val = 4)

theorem fgt_0 : fgt 0 = false := rfl
theorem fgt_1 : fgt 1 = false := rfl
theorem fgt_2 : fgt 2 = false := rfl
theorem fgt_3 : fgt 3 = false := rfl
theorem fgt_4 : fgt 4 = true := rfl

/-- A whole buffer owned at a value, read as its contents. -/
theorem owns_to (t : Thread nD τ) {sp : Space} {sh : Shape} {e : EltTy} {mr : Memref sig t.2.kind sp sh e} (hw : mr.IsWhole) (X : sh.Idx → Elt F e) :
    (owns t mr fullShare X : sProp 𝕄) = (mr.view.loc t ↦{fullShare} hw.unread X) := by
  have hset : mr.view.set = Finset.univ := by
    obtain ⟨b, hsp, hsh, he, h⟩ := hw
    subst hsp hsh he
    cases h
    exact View.set_whole b
  have h₁ : iprop(∃ f, ⌜mr.view.read (Elt F) f = X⌝ ∗ (mr.view.loc t ↦{fullShare} f)) ⊢ (mr.view.loc t ↦{fullShare} hw.unread X : sProp 𝕄) := by
    iintro ⟨%f, %hf, H⟩
    obtain rfl := hw.eq_unread hf
    iexact H
  have h₂ : (mr.view.loc t ↦{fullShare} hw.unread X : sProp 𝕄) ⊢ iprop(∃ f, ⌜mr.view.read (Elt F) f = X⌝ ∗ (mr.view.loc t ↦{fullShare} f)) := by
    iintro H
    iexists _
    isplitr
    · ipureintro; exact hw.read_unread _
    iexact H
  unfold owns
  rw [hset]
  exact BI.equiv_iff.mp ⟨h₁, h₂⟩

/-- Window 0's staging buffer at a point. -/
abbrev m0 (t : Fin cfg0.N) := win0_0.stage (cfg0.slots t 0)
/-- It is a whole buffer. -/
abbrev w0 (t : Fin cfg0.N) : (m0 t).IsWhole := hstage0_0 ((cfg0.slots t 0).cast nbuf0_0)
/-- Window 1's staging buffer at a point. -/
abbrev m1 (t : Fin cfg0.N) := win0_1.stage (cfg0.slots t 1)
/-- It is a whole buffer. -/
abbrev w1 (t : Fin cfg0.N) : (m1 t).IsWhole := hstage0_1 ((cfg0.slots t 1).cast nbuf0_1)
/-- Window 2's staging buffer at a point. -/
abbrev m2 (t : Fin cfg0.N) := win0_2.stage (cfg0.slots t 2)
/-- It is a whole buffer. -/
abbrev w2 (t : Fin cfg0.N) : (m2 t).IsWhole := hstage0_2 ((cfg0.slots t 2).cast nbuf0_2)
/-- Window 3's staging buffer at a point. -/
abbrev m3 (t : Fin cfg0.N) := win0_3.stage (cfg0.slots t 3)
/-- It is a whole buffer. -/
abbrev w3 (t : Fin cfg0.N) : (m3 t).IsWhole := hstage0_3 ((cfg0.slots t 3).cast nbuf0_3)
/-- The result's staging buffer at a point. -/
abbrev m4 (t : Fin cfg0.N) := win0_4.stage (cfg0.slots t 4)
/-- It is a whole buffer. -/
abbrev w4 (t : Fin cfg0.N) : (m4 t).IsWhole := hstage0_4 ((cfg0.slots t 4).cast nbuf0_4)

set_option maxHeartbeats 1000000 in
/-- The body at one grid point keeps the blocks it reads. -/
theorem body_obligation (c : Dev nD) : BodyObligation (dats (F := F) m 0 c) (defs₀ (F := F)) 𝒱₀ () Set.univ fgt := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl]
  simp only [fgt_0, fgt_1, fgt_2, fgt_3, fgt_4, after0_0, after0_1, after0_2, after0_3]
  rw [show (dats m 0 c).Φ t.castSucc = Pipeline.ΦA spec0 c from rfl]
  unfold Pipeline.ΦA
  rw [scopedRest0_eq]
  simp only [owns_to (c : Thread nD τ) (w4 t)]
  rw [owns_to (c : Thread nD τ) (w0 t) (iblk m c 0 t)]
  rw [owns_to (c : Thread nD τ) (w1 t) (iblk m c 1 t)]
  rw [owns_to (c : Thread nD τ) (w2 t) (iblk m c 2 t)]
  rw [owns_to (c : Thread nD τ) (w3 t) (iblk m c 3 t)]
  iintro ⟨⟨⟨H8, H9, H10, H11, H12, H13⟩, Hr⟩, Ho, ⟨%d0, H0⟩, ⟨%d1, H1⟩, ⟨%d2, H2⟩, ⟨%d3, H3⟩, ⟨%d4, H4⟩⟩
  iapply body_run
  isplitl [H0]; · iexact H0
  isplitl [H1]; · iexact H1
  isplitl [H2]; · iexact H2
  isplitl [H3]; · iexact H3
  isplitl [H4]; · iexists _; iexact H4
  isplitl [H8]; · iexact H8
  isplitl [H9]; · iexact H9
  isplitl [H10]; · iexact H10
  isplitl [H11]; · iexact H11
  isplitl [H12]; · iexact H12
  isplitl [H13]; · iexact H13
  iintro ⟨H0, H1, H2, H3, ⟨%f, H4⟩, H8, H9, H10, H11, H12, H13⟩
  isplitl [H8 H9 H10 H11 H12 H13 Hr]
  · isplitl [H8 H9 H10 H11 H12 H13]
    · isplitl [H8]; · iexact H8
      isplitl [H9]; · iexact H9
      isplitl [H10]; · iexact H10
      isplitl [H11]; · iexact H11
      isplitl [H12]; · iexact H12
      iexact H13
    iexact Hr
  isplitl [Ho]; · iexact Ho
  isplitl [H0]; · iexact H0
  isplitl [H1]; · iexact H1
  isplitl [H2]; · iexact H2
  isplitl [H3]; · iexact H3
  have e := (w4 t).eq_unread (f := f) rfl
  rw [e]
  iexists _
  iexact H4

set_option backward.isDefEq.respectTransparency.types false in
/-- Every weakly fair run from any memory ends, the arguments as they were and the counters at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ 𝒱₀ fgt m ρ main
    (hbody := fun c => (body_obligation m c).loose) (hq := fun _ _ _ => rfl)
    (howed := fun _ _ => rfl) (V := V m) (hmain := hmain m 𝒱₀) (hA := fun _ _ => rfl) (hΦ := fun _ _ => rfl)

/-- The kernel as printed keeps its arguments and leaves every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
    ⟨(((dats m 0 c).toRForget_arrAt_iff (fgt := fgt) (w := 2) rfl _ _).mp ((h.1 c).1 2)).trans (((dats m 0 c).arrAt_in 2 rfl _).trans ((A_eq m c 2).trans (V_main_arg0 m c))),
      (((dats m 0 c).toRForget_arrAt_iff (fgt := fgt) (w := 3) rfl _ _).mp ((h.1 c).1 3)).trans (((dats m 0 c).arrAt_in 3 rfl _).trans ((A_eq m c 3).trans (V_main_arg1 m c)))⟩, h.2⟩) (run_main m ρ)

end Cert.Proof.SBP

end
-- ==== Proof.PI.Trip.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.LoopRemainder

@[expose] public section

set_option maxRecDepth 16384

noncomputable section

namespace Cert.Proof.SBI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the frame kit. -/
local notation "𝕄" => MT nD τ sig Unit (Elt F) ℕ (UR sig nD τ) ℕ

/-- No recursion in the kernel's function table: no variants. -/
abbrev 𝒱₀ : Variants := Variants.none

/-- What the loop changes: the contents of the six scratch buffers, and the two carried blocks (the scores of the next
    block for the first 128 rows, and the suffix sums of the current one for the same rows). -/
structure St (F : FTy → Type) (c : Dev nD) (arg8 arg9 : Memref sig .tc .vmem S512x128 .f32) (arg10 : Memref sig .tc .vmem S2x512x256 .f32)
    (arg11 arg12 : Memref sig .tc .vmem S2x512x256 .bf16) (arg13 : Memref sig .tc .vmem S2x512x128 .f32) where
  f8 : Buf (Elt F) (arg8.view.loc (c : Thread nD τ))
  f9 : Buf (Elt F) (arg9.view.loc (c : Thread nD τ))
  f10 : Buf (Elt F) (arg10.view.loc (c : Thread nD τ))
  f11 : Buf (Elt F) (arg11.view.loc (c : Thread nD τ))
  f12 : Buf (Elt F) (arg12.view.loc (c : Thread nD τ))
  f13 : Buf (Elt F) (arg13.view.loc (c : Thread nD τ))
  z : FVec F S128x256 .f32
  w : FVec F S128x256 .f32

variable (c : Dev nD) (i : grid0.Coords) (arg3 : Memref sig .tc .vmem S1x512x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x128 .f32) (harg6 : arg6.IsWhole) (arg7 : Memref sig .tc .vmem S1x512x128 .bf16) (harg7 : arg7.IsWhole)
  (arg8 : Memref sig .tc .vmem S512x128 .f32) (harg8 : arg8.IsWhole) (arg9 : Memref sig .tc .vmem S512x128 .f32) (harg9 : arg9.IsWhole)
  (arg10 : Memref sig .tc .vmem S2x512x256 .f32) (harg10 : arg10.IsWhole) (arg11 : Memref sig .tc .vmem S2x512x256 .bf16) (harg11 : arg11.IsWhole)
  (arg12 : Memref sig .tc .vmem S2x512x256 .bf16) (harg12 : arg12.IsWhole) (arg13 : Memref sig .tc .vmem S2x512x128 .f32) (harg13 : arg13.IsWhole)
  (arg2 : BitVec 32) (v7 : FVec F S256x256 .bf16) (v320 : FVec F S128x256 .f32) (v327 : FVec F S128x256 .f32) (v383 : FVec F S128x128 .f32)

/-- The operands the loop reads, at their contents, and the six scratch buffers at a state's. -/
abbrev Pts (f3 : Buf (Elt F) (arg3.view.loc (c : Thread nD τ))) (f4 : Buf (Elt F) (arg4.view.loc (c : Thread nD τ)))
    (f5 : Buf (Elt F) (arg5.view.loc (c : Thread nD τ))) (s : St F c arg8 arg9 arg10 arg11 arg12 arg13) : sProp 𝕄 :=
  iprop((arg3.view.loc (c : Thread nD τ) ↦{fullShare} f3) ∗ (arg4.view.loc (c : Thread nD τ) ↦{fullShare} f4) ∗ (arg5.view.loc (c : Thread nD τ) ↦{fullShare} f5) ∗ (arg8.view.loc (c : Thread nD τ) ↦{fullShare} s.f8) ∗ (arg9.view.loc (c : Thread nD τ) ↦{fullShare} s.f9) ∗ (arg10.view.loc (c : Thread nD τ) ↦{fullShare} s.f10) ∗ (arg11.view.loc (c : Thread nD τ) ↦{fullShare} s.f11) ∗ (arg12.view.loc (c : Thread nD τ) ↦{fullShare} s.f12) ∗ (arg13.view.loc (c : Thread nD τ) ↦{fullShare} s.f13))

/-- ONE trip of the loop from any state: the state it leaves, found by the run, with the proof that the trip leaves it. -/
def trip (f3 : Buf (Elt F) (arg3.view.loc (c : Thread nD τ))) (f4 : Buf (Elt F) (arg4.view.loc (c : Thread nD τ)))
    (f5 : Buf (Elt F) (arg5.view.loc (c : Thread nD τ))) (k : Fin (k0_t1_loop i).trips)
    (s : St F c arg8 arg9 arg10 arg11 arg12 arg13) :
    { s' : St F c arg8 arg9 arg10 arg11 arg12 arg13 //
      Pts c arg3 arg4 arg5 arg8 arg9 arg10 arg11 arg12 arg13 f3 f4 f5 s
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 arg10 harg10 arg11 harg11 arg12 harg12 arg13 harg13 arg2 v7 v320 v327 v383 k (s.z, s.w))
          (fun acc => iprop(Pts c arg3 arg4 arg5 arg8 arg9 arg10 arg11 arg12 arg13 f3 f4 f5 s' ∗ ⌜acc = (s'.z, s'.w)⌝)) } := by
  obtain ⟨f8, f9, f10, f11, f12, f13, z, w⟩ := s
  refine ⟨⟨?_, ?_, ?_, ?_, ?_, ?_, ?_, ?_⟩, ?run⟩
  case run =>
    unfold Gen.k0_t1_body Pts
    iintro ⟨H3, H4, H5, H8, H9, H10, H11, H12, H13⟩
    sl_exec_parts
    sl_step
    sl_close

end Cert.Proof.SBI

end
-- ==== Proof.PI.Body.lean ====
module

public import proofs.«01_k».proof.Proof.PI.Trip
public import proofs.«01_k».proof.Proof.Gen.KernelIdeal.Skeleton
public import proofs.«01_k».proof.Proof.Gen.KernelIdeal.Loops
public import Idealize.ShloMosaic.Lib.Tactic
public import Idealize.ShloMosaic.Lib.LoopRemainder

@[expose] public section

set_option maxRecDepth 16384

noncomputable section

namespace Cert.Proof.SBI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the frame kit. -/
local notation "𝕄" => MT nD τ sig Unit (Elt F) ℕ (UR sig nD τ) ℕ

variable (c : Dev nD) (i : grid0.Coords) (arg3 : Memref sig .tc .vmem S1x512x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x128 .f32) (harg6 : arg6.IsWhole) (arg7 : Memref sig .tc .vmem S1x512x128 .bf16) (harg7 : arg7.IsWhole)
  (arg8 : Memref sig .tc .vmem S512x128 .f32) (harg8 : arg8.IsWhole) (arg9 : Memref sig .tc .vmem S512x128 .f32) (harg9 : arg9.IsWhole)
  (arg10 : Memref sig .tc .vmem S2x512x256 .f32) (harg10 : arg10.IsWhole) (arg11 : Memref sig .tc .vmem S2x512x256 .bf16) (harg11 : arg11.IsWhole)
  (arg12 : Memref sig .tc .vmem S2x512x256 .bf16) (harg12 : arg12.IsWhole) (arg13 : Memref sig .tc .vmem S2x512x128 .f32) (harg13 : arg13.IsWhole)
  (arg2 : BitVec 32) (v7 : FVec F S256x256 .bf16) (v320 : FVec F S128x256 .f32) (v327 : FVec F S128x256 .f32) (v383 : FVec F S128x128 .f32)

/-- The state before trip `k`, from the one the loop is entered at. -/
def st (f3 : Buf (Elt F) (arg3.view.loc (c : Thread nD τ))) (f4 : Buf (Elt F) (arg4.view.loc (c : Thread nD τ)))
    (f5 : Buf (Elt F) (arg5.view.loc (c : Thread nD τ))) (s₀ : St F c arg8 arg9 arg10 arg11 arg12 arg13) : Nat → St F c arg8 arg9 arg10 arg11 arg12 arg13
  | 0 => s₀
  | k + 1 => if h : k < (k0_t1_loop i).trips then (trip c i arg3 harg3 arg4 harg4 arg5 harg5 arg6 harg6 arg7 harg7 arg8 harg8 arg9 harg9 arg10 harg10 arg11 harg11 arg12 harg12 arg13 harg13 arg2 v7 v320 v327 v383 f3 f4 f5 ⟨k, h⟩ (st f3 f4 f5 s₀ k)).1 else st f3 f4 f5 s₀ k

/-- The loop by its state. -/
@[sl_loop, instance_reducible] def loopInv_k0_t1 (f3 : Buf (Elt F) (arg3.view.loc (c : Thread nD τ))) (f4 : Buf (Elt F) (arg4.view.loc (c : Thread nD τ)))
    (f5 : Buf (Elt F) (arg5.view.loc (c : Thread nD τ)))
    (g8 : Buf (Elt F) (arg8.view.loc (c : Thread nD τ)))
    (g9 : Buf (Elt F) (arg9.view.loc (c : Thread nD τ)))
    (g10 : Buf (Elt F) (arg10.view.loc (c : Thread nD τ)))
    (g11 : Buf (Elt F) (arg11.view.loc (c : Thread nD τ)))
    (g12 : Buf (Elt F) (arg12.view.loc (c : Thread nD τ)))
    (g13 : Buf (Elt F) (arg13.view.loc (c : Thread nD τ)))
    (init : FVec F S128x256 .f32 × FVec F S128x256 .f32) :
    Gen.LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg2 v7 init.1 init.2 (constant S128x128 .f32 0#32) init where
  inv := fun k acc => iprop((arg3.view.loc (c : Thread nD τ) ↦{fullShare} f3) ∗ (arg4.view.loc (c : Thread nD τ) ↦{fullShare} f4) ∗ (arg5.view.loc (c : Thread nD τ) ↦{fullShare} f5)
    ∗ (arg8.view.loc (c : Thread nD τ) ↦{fullShare} (match k with | 0 => g8 | k + 1 => (st c i arg3 harg3 arg4 harg4 arg5 harg5 arg6 harg6 arg7 harg7 arg8 harg8 arg9 harg9 arg10 harg10 arg11 harg11 arg12 harg12 arg13 harg13 arg2 v7 init.1 init.2 (constant S128x128 .f32 0#32) f3 f4 f5 ⟨g8, g9, g10, g11, g12, g13, init.1, init.2⟩ (k + 1)).f8))
    ∗ (arg9.view.loc (c : Thread nD τ) ↦{fullShare} (match k with | 0 => g9 | k + 1 => (st c i arg3 harg3 arg4 harg4 arg5 harg5 arg6 harg6 arg7 harg7 arg8 harg8 arg9 harg9 arg10 harg10 arg11 harg11 arg12 harg12 arg13 harg13 arg2 v7 init.1 init.2 (constant S128x128 .f32 0#32) f3 f4 f5 ⟨g8, g9, g10, g11, g12, g13, init.1, init.2⟩ (k + 1)).f9))
    ∗ (arg10.view.loc (c : Thread nD τ) ↦{fullShare} (match k with | 0 => g10 | k + 1 => (st c i arg3 harg3 arg4 harg4 arg5 harg5 arg6 harg6 arg7 harg7 arg8 harg8 arg9 harg9 arg10 harg10 arg11 harg11 arg12 harg12 arg13 harg13 arg2 v7 init.1 init.2 (constant S128x128 .f32 0#32) f3 f4 f5 ⟨g8, g9, g10, g11, g12, g13, init.1, init.2⟩ (k + 1)).f10))
    ∗ (arg11.view.loc (c : Thread nD τ) ↦{fullShare} (match k with | 0 => g11 | k + 1 => (st c i arg3 harg3 arg4 harg4 arg5 harg5 arg6 harg6 arg7 harg7 arg8 harg8 arg9 harg9 arg10 harg10 arg11 harg11 arg12 harg12 arg13 harg13 arg2 v7 init.1 init.2 (constant S128x128 .f32 0#32) f3 f4 f5 ⟨g8, g9, g10, g11, g12, g13, init.1, init.2⟩ (k + 1)).f11))
    ∗ (arg12.view.loc (c : Thread nD τ) ↦{fullShare} (match k with | 0 => g12 | k + 1 => (st c i arg3 harg3 arg4 harg4 arg5 harg5 arg6 harg6 arg7 harg7 arg8 harg8 arg9 harg9 arg10 harg10 arg11 harg11 arg12 harg12 arg13 harg13 arg2 v7 init.1 init.2 (constant S128x128 .f32 0#32) f3 f4 f5 ⟨g8, g9, g10, g11, g12, g13, init.1, init.2⟩ (k + 1)).f12))
    ∗ (arg13.view.loc (c : Thread nD τ) ↦{fullShare} (match k with | 0 => g13 | k + 1 => (st c i arg3 harg3 arg4 harg4 arg5 harg5 arg6 harg6 arg7 harg7 arg8 harg8 arg9 harg9 arg10 harg10 arg11 harg11 arg12 harg12 arg13 harg13 arg2 v7 init.1 init.2 (constant S128x128 .f32 0#32) f3 f4 f5 ⟨g8, g9, g10, g11, g12, g13, init.1, init.2⟩ (k + 1)).f13))
    ∗ ⌜acc = match k with | 0 => init | k + 1 => ((st c i arg3 harg3 arg4 harg4 arg5 harg5 arg6 harg6 arg7 harg7 arg8 harg8 arg9 harg9 arg10 harg10 arg11 harg11 arg12 harg12 arg13 harg13 arg2 v7 init.1 init.2 (constant S128x128 .f32 0#32) f3 f4 f5 ⟨g8, g9, g10, g11, g12, g13, init.1, init.2⟩ (k + 1)).z, (st c i arg3 harg3 arg4 harg4 arg5 harg5 arg6 harg6 arg7 harg7 arg8 harg8 arg9 harg9 arg10 harg10 arg11 harg11 arg12 harg12 arg13 harg13 arg2 v7 init.1 init.2 (constant S128x128 .f32 0#32) f3 f4 f5 ⟨g8, g9, g10, g11, g12, g13, init.1, init.2⟩ (k + 1)).w)⌝)
  step := fun k acc => by
    have key := (trip c i arg3 harg3 arg4 harg4 arg5 harg5 arg6 harg6 arg7 harg7 arg8 harg8 arg9 harg9 arg10 harg10 arg11 harg11 arg12 harg12 arg13 harg13 arg2 v7 init.1 init.2 (constant S128x128 .f32 0#32) f3 f4 f5 k (st c i arg3 harg3 arg4 harg4 arg5 harg5 arg6 harg6 arg7 harg7 arg8 harg8 arg9 harg9 arg10 harg10 arg11 harg11 arg12 harg12 arg13 harg13 arg2 v7 init.1 init.2 (constant S128x128 .f32 0#32) f3 f4 f5 ⟨g8, g9, g10, g11, g12, g13, init.1, init.2⟩ k.val)).2
    have hk : st c i arg3 harg3 arg4 harg4 arg5 harg5 arg6 harg6 arg7 harg7 arg8 harg8 arg9 harg9 arg10 harg10 arg11 harg11 arg12 harg12 arg13 harg13 arg2 v7 init.1 init.2 (constant S128x128 .f32 0#32) f3 f4 f5 ⟨g8, g9, g10, g11, g12, g13, init.1, init.2⟩ (k.val + 1) = _ := dif_pos k.isLt
    rw [← hk] at key
    clear hk
    obtain ⟨k, hlt⟩ := k
    cases k with
    | zero =>
      dsimp only at key ⊢
      iintro ⟨H3, H4, H5, H8, H9, H10, H11, H12, H13, %he⟩
      obtain rfl := he
      iapply (wp_wand_r frame (wpE (defs₀ (F := F)) 𝒱₀ (c : Thread nD τ) none) Set.univ)
      isplitl
      · iapply key
        unfold Pts
        sl_close
      · iintro %acc
        unfold Pts
        iintro ⟨⟨H3, H4, H5, H8, H9, H10, H11, H12, H13⟩, %he⟩
        sl_close
    | succ k =>
      dsimp only at key ⊢
      iintro ⟨H3, H4, H5, H8, H9, H10, H11, H12, H13, %he⟩
      obtain rfl := he
      iapply (wp_wand_r frame (wpE (defs₀ (F := F)) 𝒱₀ (c : Thread nD τ) none) Set.univ)
      isplitl
      · iapply key
        unfold Pts
        sl_close
      · iintro %acc
        unfold Pts
        iintro ⟨⟨H3, H4, H5, H8, H9, H10, H11, H12, H13⟩, %he⟩
        sl_close

/-- A whole memref owned at a value is its buffer at that value. -/
theorem owns_unread (t : Thread nD τ) {sp : Space} {sh : Shape} {e : EltTy} {mr : Memref sig t.2.kind sp sh e} (hw : mr.IsWhole) (q : PosShare TreeShare) (X : sh.Idx → Elt F e) :
    (owns t mr q X : sProp 𝕄) = (mr.view.loc t ↦{q} hw.unread X) := by
  have hset : mr.view.set = Finset.univ := by
    obtain ⟨b, hsp, hsh, he, h⟩ := hw
    subst hsp hsh he
    cases h
    exact View.set_whole b
  have h₁ : iprop(∃ f, ⌜mr.view.read (Elt F) f = X⌝ ∗ (mr.view.loc t ↦{q} f)) ⊢ (mr.view.loc t ↦{q} hw.unread X : sProp 𝕄) := by
    iintro ⟨%f, %hf, H⟩
    obtain rfl := hw.eq_unread hf
    iexact H
  have h₂ : (mr.view.loc t ↦{q} hw.unread X : sProp 𝕄) ⊢ iprop(∃ f, ⌜mr.view.read (Elt F) f = X⌝ ∗ (mr.view.loc t ↦{q} f)) := by
    iintro H
    iexists _
    isplitr
    · ipureintro; exact hw.read_unread _
    iexact H
  unfold owns
  rw [hset]
  exact BI.equiv_iff.mp ⟨h₁, h₂⟩

/-- A store of a whole buffer, read whole, is the stored value. -/
theorem read_whole_store {σ : RefSig} {κ : Kind} {sp : Space} {s : Shape} {e : EltTy} {Val : EltTy → Type} (v : View σ κ sp s e) (f : v.ty.Contents Val)
    {off : Fin s.rank → Nat} (inb : ∀ a, off a + s.size a ≤ s.size a) (h : ∀ a, off a = 0) (w : s.Idx → Val e) (L : List (View.Piece Val s e)) :
    v.read Val (v.writes Val f ((⟨Rect.unit off (no_index s.size) inb, w⟩ : View.Piece Val s e) :: L)) = w := by
  funext x
  have hx : (Rect.unit (s := s) off s.size inb).emb x = x := by
    funext a
    apply Fin.ext
    have : ((Rect.unit (s := s) off s.size inb).emb x a : Nat) = off a + 1 * (x a : Nat) := rfl
    rw [this, h a]; omega
  have := View.read_writes_cons_emb v f (Rect.unit (s := s) off s.size inb) w L x
  rw [hx] at this
  exact this

/-- What the body leaves in the result's staging buffer, found by the run, with the proof that it does. -/
def kernelRun (x3 : Vec F S1x512x128 .bf16) (x4 x5 : Vec F S1x4096x128 .bf16) (x6 : Vec F S1x128 .f32)
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ)))
    (f13 : Buf (Elt F) (arg13.view.loc (c : Thread nD τ))) :
    { Y : Vec F S1x512x128 .bf16 //
      ∀ (K : PUnit → sProp 𝕄),
        iprop((arg3.view.loc (c : Thread nD τ) ↦{fullShare} harg3.unread x3) ∗ (arg4.view.loc (c : Thread nD τ) ↦{fullShare} harg4.unread x4) ∗ (arg5.view.loc (c : Thread nD τ) ↦{fullShare} harg5.unread x5) ∗ (arg6.view.loc (c : Thread nD τ) ↦{fullShare} harg6.unread x6) ∗ (∃ f, arg7.view.loc (c : Thread nD τ) ↦{fullShare} f) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) ∗ (arg13.view.loc (c : Thread nD τ) ↦{fullShare} f13)
            ∗ (iprop((arg3.view.loc (c : Thread nD τ) ↦{fullShare} harg3.unread x3) ∗ (arg4.view.loc (c : Thread nD τ) ↦{fullShare} harg4.unread x4) ∗ (arg5.view.loc (c : Thread nD τ) ↦{fullShare} harg5.unread x5) ∗ (arg6.view.loc (c : Thread nD τ) ↦{fullShare} harg6.unread x6) ∗ (∃ f, ⌜arg7.view.read (Elt F) f = Y⌝ ∗ (arg7.view.loc (c : Thread nD τ) ↦{fullShare} f)) ∗ (∃ f, arg8.view.loc (c : Thread nD τ) ↦{fullShare} f) ∗ (∃ f, arg9.view.loc (c : Thread nD τ) ↦{fullShare} f) ∗ (∃ f, arg10.view.loc (c : Thread nD τ) ↦{fullShare} f) ∗ (∃ f, arg11.view.loc (c : Thread nD τ) ↦{fullShare} f) ∗ (∃ f, arg12.view.loc (c : Thread nD τ) ↦{fullShare} f) ∗ (∃ f, arg13.view.loc (c : Thread nD τ) ↦{fullShare} f)) -∗ K ⟨⟩))
          ⊢ wp frame (wpE (defs₀ (F := F)) 𝒱₀ c none) Set.univ (cc0_sb_attn i arg3 harg3 arg4 harg4 arg5 harg5 arg6 harg6 arg7 harg7 arg8 harg8 arg9 harg9 arg10 harg10 arg11 harg11 arg12 harg12 arg13 harg13) K } := by
  apply Subtype.mk
  intro K
  iintro ⟨H3, H4, H5, H6, ⟨%f7, H7⟩, H8, H9, H10, H11, H12, H13, Hk⟩
  sl_unfold [cc0_sb_attn]
  sl_exec_parts
  sl_step
  iapply Hk
  isplitl [H3]; · iexact H3
  isplitl [H4]; · iexact H4
  isplitl [H5]; · iexact H5
  isplitl [H6]; · iexact H6
  isplitl [H7]
  · iexists _; isplitr; swap; · iexact H7
    ipureintro
    exact read_whole_store _ _ _ (by decide) _ _
  isplitl [H8]; · iexists _; iexact H8
  isplitl [H9]; · iexists _; iexact H9
  isplitl [H10]; · iexists _; iexact H10
  isplitl [H11]; · iexists _; iexact H11
  isplitl [H12]; · iexists _; iexact H12
  iexists _; iexact H13

end Cert.Proof.SBI

end
-- ==== Proof.PI.Rows.lean ====
module

public import proofs.«01_k».proof.Proof.PI.Trip
public import proofs.«01_k».proof.Proof.Gen.KernelIdeal.Skeleton
public import proofs.«01_k».proof.Proof.Gen.KernelIdeal.Loops
public import Idealize.ShloMosaic.Lib.Tactic
public import Idealize.ShloMosaic.Lib.LoopRemainder

@[expose] public section

set_option maxRecDepth 16384

noncomputable section

namespace Cert.Proof.SBI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the frame kit. -/
local notation "𝕄" => MT nD τ sig Unit (Elt F) ℕ (UR sig nD τ) ℕ

/-! ## Reading one rectangle of a buffer after a list of stores -/

section
variable {σ : RefSig} {κ : Kind} {sp : Space} {s : Shape} {e : EltTy} {Val : EltTy → Type}

/-- A load of the rectangle stored last reads the stored value. -/
theorem readAt_hit (v : View σ κ sp s e) (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

/-- A load of a rectangle apart from the one stored last does not see that store. -/
theorem readAt_skip (v : View σ κ sp s e) (f : v.ty.Contents Val) (r : Rect s) (w : r.shape.Idx → Val e) (L : List (View.Piece Val s e))
    (B : LoadRect s) (h : LoadRect.disj r B = true) :
    v.readAt Val B (v.writes Val f (⟨r, w⟩ :: L)) = v.readAt Val B (v.writes Val f L) :=
  funext fun j => View.read_writes_cons_miss v f ⟨r, w⟩ L _ (LoadRect.idx_not_mem_of_disj h j)
end

/-! ## One block of 128 rows -/

/-- What the loop keeps of one block of 128 query rows: the accumulator, the running sum, and of the current
    key block the log-betas, the two parts of the log-keeps and their row sums. -/
@[ext] structure Row (F : FTy → Type) where
  acc : Vec F S128x128 .f32
  run : Vec F S128x128 .f32
  lb : Vec F S1x128x256 .f32
  hi : Vec F S1x128x256 .bf16
  lo : Vec F S1x128x256 .bf16
  rs : Vec F S1x128x128 .f32

/-- Scores of 128 query rows against 256 keys. -/
abbrev zf (q : Vec F S1x128x128 .bf16) (k : Vec F S1x256x128 .bf16) : FVec F S128x256 .f32 := k0_pay3 q k
/-- Suffix sums within a block, from the two parts of the log-keeps. -/
abbrev sf (v7 : FVec F S256x256 .bf16) (hi lo : Vec F S1x128x256 .bf16) : FVec F S128x256 .f32 := k0_pay4 v7 hi lo
/-- Log-betas of a block the mask leaves whole. -/
abbrev lbf (z : FVec F S128x256 .f32) : Vec F S1x128x256 .f32 := k0_pay10 (k0_pay6 z)
/-- The bf16 part of its log-keeps. -/
abbrev hif (z : FVec F S128x256 .f32) : Vec F S1x128x256 .bf16 := k0_pay11 (k0_pay8 z)
/-- The rest of its log-keeps. -/
abbrev lof (z : FVec F S128x256 .f32) : Vec F S1x128x256 .bf16 := k0_pay12 (k0_pay9 z)
/-- The row sums of its log-keeps. -/
abbrev rsf (z : FVec F S128x256 .f32) : Vec F S1x128x128 .f32 := k0_pay13 (k0_pay7 z)
/-- A block's weighted values added to the accumulator. -/
abbrev accf (acc run : Vec F S128x128 .f32) (w : FVec F S128x256 .f32) (lb : Vec F S1x128x256 .f32) (v : Vec F S1x256x128 .bf16) :
    Vec F S128x128 .f32 := k0_pay15 acc (k0_pay14 w run lb v)
/-- A block's row sums added to the running sum. -/
abbrev runf (run : Vec F S128x128 .f32) (rs : Vec F S1x128x128 .f32) : Vec F S128x128 .f32 := k0_pay16 run rs

/-- Weigh the current key block of `s` with the values `v`, then score the next key block `k`. -/
def Row.next (v7 : FVec F S256x256 .bf16) (q : Vec F S1x128x128 .bf16) (k v : Vec F S1x256x128 .bf16) (s : Row F) : Row F where
  acc := accf s.acc s.run (sf v7 s.hi s.lo) s.lb v
  run := runf s.run s.rs
  lb := lbf (zf q k)
  hi := hif (zf q k)
  lo := lof (zf q k)
  rs := rsf (zf q k)

/-- Row block `r` of a `512 × 128` buffer. -/
abbrev rect2 : Fin 4 → Rect S512x128
  | 0 => Rect.unit ![0, 0] S128x128.size inb_S512x128_S128x128_0_0
  | 1 => Rect.unit ![128, 0] S128x128.size inb_S512x128_S128x128_128_0
  | 2 => Rect.unit ![256, 0] S128x128.size inb_S512x128_S128x128_256_0
  | 3 => Rect.unit ![384, 0] S128x128.size inb_S512x128_S128x128_384_0

theorem inbq (r : Fin 4) : ∀ a, (![0, 128 * r.val, 0] : Fin 3 → Nat) a + S1x128x128.size a ≤ S1x512x128.size a := by
  revert r; decide

/-- The running sum beside itself, 128 lanes becoming 256. -/
def cc (a : FVec F S128x128 .f32) : FVec F S128x256 .f32 :=
  concatenate S128x256 1 [⟨S128x128, a⟩, ⟨S128x128, a⟩] concatenates_S128x128_S128x128_S128x256_d1

/-- The printed concatenation is `cc`. -/
theorem cc_eq (a : FVec F S128x128 .f32) (h : Shape.Concatenates [S128x128, S128x128] S128x256 1) :
    concatenate S128x256 1 [⟨S128x128, a⟩, ⟨S128x128, a⟩] h = cc a := rfl

variable (c : Dev nD) (i : grid0.Coords) (arg3 : Memref sig .tc .vmem S1x512x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x128 .f32) (harg6 : arg6.IsWhole) (arg7 : Memref sig .tc .vmem S1x512x128 .bf16) (harg7 : arg7.IsWhole)
  (arg8 : Memref sig .tc .vmem S512x128 .f32) (harg8 : arg8.IsWhole) (arg9 : Memref sig .tc .vmem S512x128 .f32) (harg9 : arg9.IsWhole)
  (arg10 : Memref sig .tc .vmem S2x512x256 .f32) (harg10 : arg10.IsWhole) (arg11 : Memref sig .tc .vmem S2x512x256 .bf16) (harg11 : arg11.IsWhole)
  (arg12 : Memref sig .tc .vmem S2x512x256 .bf16) (harg12 : arg12.IsWhole) (arg13 : Memref sig .tc .vmem S2x512x128 .f32) (harg13 : arg13.IsWhole)
  (arg2 : BitVec 32) (v7 : FVec F S256x256 .bf16) (v320 : FVec F S128x256 .f32) (v327 : FVec F S128x256 .f32) (v383 : FVec F S128x128 .f32)

/-- Row block 0 of the second slot, from a state. -/
def row0 (s : St F c arg8 arg9 arg10 arg11 arg12 arg13) : Row F where
  acc := arg8.view.readAt (Elt F) (Rect.unit (s := S512x128) ![0, 0] S128x128.size inb_S512x128_S128x128_0_0).toLoadRect s.f8
  run := arg9.view.readAt (Elt F) (Rect.unit (s := S512x128) ![0, 0] S128x128.size inb_S512x128_S128x128_0_0).toLoadRect s.f9
  lb := arg10.view.readAt (Elt F) (Rect.unit (s := S2x512x256) ![1, 0, 0] S1x128x256.size inb_S2x512x256_S1x128x256_1_0_0).toLoadRect s.f10
  hi := arg11.view.readAt (Elt F) (Rect.unit (s := S2x512x256) ![1, 0, 0] S1x128x256.size inb_S2x512x256_S1x128x256_1_0_0).toLoadRect s.f11
  lo := arg12.view.readAt (Elt F) (Rect.unit (s := S2x512x256) ![1, 0, 0] S1x128x256.size inb_S2x512x256_S1x128x256_1_0_0).toLoadRect s.f12
  rs := arg13.view.readAt (Elt F) (Rect.unit (s := S2x512x128) ![1, 0, 0] S1x128x128.size inb_S2x512x128_S1x128x128_1_0_0).toLoadRect s.f13

/-- Row block 1 of the second slot, from a state. -/
def row1 (s : St F c arg8 arg9 arg10 arg11 arg12 arg13) : Row F where
  acc := arg8.view.readAt (Elt F) (Rect.unit (s := S512x128) ![128, 0] S128x128.size inb_S512x128_S128x128_128_0).toLoadRect s.f8
  run := arg9.view.readAt (Elt F) (Rect.unit (s := S512x128) ![128, 0] S128x128.size inb_S512x128_S128x128_128_0).toLoadRect s.f9
  lb := arg10.view.readAt (Elt F) (Rect.unit (s := S2x512x256) ![1, 128, 0] S1x128x256.size inb_S2x512x256_S1x128x256_1_128_0).toLoadRect s.f10
  hi := arg11.view.readAt (Elt F) (Rect.unit (s := S2x512x256) ![1, 128, 0] S1x128x256.size inb_S2x512x256_S1x128x256_1_128_0).toLoadRect s.f11
  lo := arg12.view.readAt (Elt F) (Rect.unit (s := S2x512x256) ![1, 128, 0] S1x128x256.size inb_S2x512x256_S1x128x256_1_128_0).toLoadRect s.f12
  rs := arg13.view.readAt (Elt F) (Rect.unit (s := S2x512x128) ![1, 128, 0] S1x128x128.size inb_S2x512x128_S1x128x128_1_128_0).toLoadRect s.f13

/-- Row block 2 of the second slot, from a state. -/
def row2 (s : St F c arg8 arg9 arg10 arg11 arg12 arg13) : Row F where
  acc := arg8.view.readAt (Elt F) (Rect.unit (s := S512x128) ![256, 0] S128x128.size inb_S512x128_S128x128_256_0).toLoadRect s.f8
  run := arg9.view.readAt (Elt F) (Rect.unit (s := S512x128) ![256, 0] S128x128.size inb_S512x128_S128x128_256_0).toLoadRect s.f9
  lb := arg10.view.readAt (Elt F) (Rect.unit (s := S2x512x256) ![1, 256, 0] S1x128x256.size inb_S2x512x256_S1x128x256_1_256_0).toLoadRect s.f10
  hi := arg11.view.readAt (Elt F) (Rect.unit (s := S2x512x256) ![1, 256, 0] S1x128x256.size inb_S2x512x256_S1x128x256_1_256_0).toLoadRect s.f11
  lo := arg12.view.readAt (Elt F) (Rect.unit (s := S2x512x256) ![1, 256, 0] S1x128x256.size inb_S2x512x256_S1x128x256_1_256_0).toLoadRect s.f12
  rs := arg13.view.readAt (Elt F) (Rect.unit (s := S2x512x128) ![1, 256, 0] S1x128x128.size inb_S2x512x128_S1x128x128_1_256_0).toLoadRect s.f13

/-- Row block 3 of the second slot, from a state. -/
def row3 (s : St F c arg8 arg9 arg10 arg11 arg12 arg13) : Row F where
  acc := arg8.view.readAt (Elt F) (Rect.unit (s := S512x128) ![384, 0] S128x128.size inb_S512x128_S128x128_384_0).toLoadRect s.f8
  run := arg9.view.readAt (Elt F) (Rect.unit (s := S512x128) ![384, 0] S128x128.size inb_S512x128_S128x128_384_0).toLoadRect s.f9
  lb := arg10.view.readAt (Elt F) (Rect.unit (s := S2x512x256) ![1, 384, 0] S1x128x256.size inb_S2x512x256_S1x128x256_1_384_0).toLoadRect s.f10
  hi := arg11.view.readAt (Elt F) (Rect.unit (s := S2x512x256) ![1, 384, 0] S1x128x256.size inb_S2x512x256_S1x128x256_1_384_0).toLoadRect s.f11
  lo := arg12.view.readAt (Elt F) (Rect.unit (s := S2x512x256) ![1, 384, 0] S1x128x256.size inb_S2x512x256_S1x128x256_1_384_0).toLoadRect s.f12
  rs := arg13.view.readAt (Elt F) (Rect.unit (s := S2x512x128) ![1, 384, 0] S1x128x128.size inb_S2x512x128_S1x128x128_1_384_0).toLoadRect s.f13

variable (f3 : Buf (Elt F) (arg3.view.loc (c : Thread nD τ))) (f4 : Buf (Elt F) (arg4.view.loc (c : Thread nD τ)))
    (f5 : Buf (Elt F) (arg5.view.loc (c : Thread nD τ))) (k : Fin (k0_t1_loop i).trips) (s : St F c arg8 arg9 arg10 arg11 arg12 arg13)

/-- The queries of row block 0. -/
abbrev q0 : Vec F S1x128x128 .bf16 := arg3.view.readAt (Elt F) (Rect.unit (s := S1x512x128) ![0, 0, 0] S1x128x128.size inb_S1x512x128_S1x128x128_0_0_0).toLoadRect f3
/-- The queries of row block 1. -/
abbrev q1 : Vec F S1x128x128 .bf16 := arg3.view.readAt (Elt F) (Rect.unit (s := S1x512x128) ![0, 128, 0] S1x128x128.size inb_S1x512x128_S1x128x128_0_128_0).toLoadRect f3
/-- The queries of row block 2. -/
abbrev q2 : Vec F S1x128x128 .bf16 := arg3.view.readAt (Elt F) (Rect.unit (s := S1x512x128) ![0, 256, 0] S1x128x128.size inb_S1x512x128_S1x128x128_0_256_0).toLoadRect f3
/-- The queries of row block 3. -/
abbrev q3 : Vec F S1x128x128 .bf16 := arg3.view.readAt (Elt F) (Rect.unit (s := S1x512x128) ![0, 384, 0] S1x128x128.size inb_S1x512x128_S1x128x128_0_384_0).toLoadRect f3
/-- The keys of the block one before the trip's current one. -/
abbrev kB1 : Vec F S1x256x128 .bf16 := arg4.view.readAt (Elt F) (Rect.unit (s := S1x4096x128) (k0_off4 i k 1#32) S1x256x128.size (k0_off4_inb i k 0)).toLoadRect f4
/-- The keys of the block two before it. -/
abbrev kB2 : Vec F S1x256x128 .bf16 := arg4.view.readAt (Elt F) (Rect.unit (s := S1x4096x128) (k0_off4 i k 2#32) S1x256x128.size (k0_off4_inb i k 1)).toLoadRect f4
/-- The keys of the block three before it (the first block when there is none). -/
abbrev kB3 : Vec F S1x256x128 .bf16 := arg4.view.readAt (Elt F) (Rect.unit (s := S1x4096x128) (k0_off6 i k) S1x256x128.size (k0_off6_inb i k)).toLoadRect f4
/-- The values of the trip's current block. -/
abbrev vB0 : Vec F S1x256x128 .bf16 := arg5.view.readAt (Elt F) (Rect.unit (s := S1x4096x128) (k0_off5 i k) S1x256x128.size (k0_off5_inb i k)).toLoadRect f5
/-- The values of the block one before it. -/
abbrev vB1 : Vec F S1x256x128 .bf16 := arg5.view.readAt (Elt F) (Rect.unit (s := S1x4096x128) (k0_off4 i k 1#32) S1x256x128.size (k0_off4_inb i k 0)).toLoadRect f5

set_option maxHeartbeats 2000000 in
/-- A trip at row block 1: two blocks weighed and two scored. -/
theorem trip_row1 :
    row1 c arg8 arg9 arg10 arg11 arg12 arg13 (trip c i arg3 harg3 arg4 harg4 arg5 harg5 arg6 harg6 arg7 harg7 arg8 harg8 arg9 harg9 arg10 harg10 arg11 harg11 arg12 harg12 arg13 harg13 arg2 v7 v320 v327 v383 f3 f4 f5 k s).1
      = Row.next v7 (q1 c arg3 f3) (kB2 c i arg4 f4 k) (vB1 c i arg5 f5 k)
          (Row.next v7 (q1 c arg3 f3) (kB1 c i arg4 f4 k) (vB0 c i arg5 f5 k) (row1 c arg8 arg9 arg10 arg11 arg12 arg13 s)) := by
  obtain ⟨f8, f9, f10, f11, f12, f13, z, w⟩ := s
  refine Row.ext ?_ ?_ ?_ ?_ ?_ ?_
  all_goals simp only [row0, row1, row2, row3, trip, trip.sl.H10_1, trip.sl.H10_2, trip.sl.H10_3, trip.sl.H10_4, trip.sl.H10_5, trip.sl.H10_6, trip.sl.H10_7, trip.sl.H10_8, trip.sl.H11_1, trip.sl.H11_2,
    trip.sl.H11_3, trip.sl.H11_4, trip.sl.H11_5, trip.sl.H11_6, trip.sl.H11_7, trip.sl.H12_1, trip.sl.H12_2, trip.sl.H12_3, trip.sl.H12_4, trip.sl.H12_5,
    trip.sl.H12_6, trip.sl.H12_7, trip.sl.H13_1, trip.sl.H13_2, trip.sl.H13_3, trip.sl.H13_4, trip.sl.H13_5, trip.sl.H13_6, trip.sl.H13_7, trip.sl.H13_8,
    trip.sl.H8_1, trip.sl.H8_2, trip.sl.H8_3, trip.sl.H8_4, trip.sl.H8_5, trip.sl.H8_6, trip.sl.H8_7, trip.sl.H9_1, trip.sl.H9_2, trip.sl.H9_3,
    trip.sl.H9_4, trip.sl.H9_5, trip.sl.H9_6, trip.sl.H9_7]
  all_goals simp (disch := decide) only [readAt_hit, readAt_skip]
  iterate 3
    all_goals try simp only [trip.sl.cst_361, trip.sl.cst_370, trip.sl.cst_371, trip.sl.cst_373, trip.sl.cst_383, trip.sl.cst_397, trip.sl.v1000, trip.sl.v1001, trip.sl.v1003,
    trip.sl.v1005, trip.sl.v1006, trip.sl.v1008, trip.sl.v1009, trip.sl.v1011, trip.sl.v1012, trip.sl.v1013, trip.sl.v1014, trip.sl.v1015, trip.sl.v1016,
    trip.sl.v1017, trip.sl.v1018, trip.sl.v1021, trip.sl.v1024, trip.sl.v1027, trip.sl.v1028, trip.sl.v1029, trip.sl.v1030, trip.sl.v1031, trip.sl.v1034,
    trip.sl.v1035, trip.sl.v1036, trip.sl.v1037, trip.sl.v1038, trip.sl.v1039, trip.sl.v1040, trip.sl.v1041, trip.sl.v1042, trip.sl.v1043, trip.sl.v1049,
    trip.sl.v1050, trip.sl.v1052, trip.sl.v1053, trip.sl.v1055, trip.sl.v1056, trip.sl.v1057, trip.sl.v1059, trip.sl.v1060, trip.sl.v1063, trip.sl.v1065,
    trip.sl.v1067, trip.sl.v1068, trip.sl.v1069, trip.sl.v1070, trip.sl.v1071, trip.sl.v1072, trip.sl.v1073, trip.sl.v1074, trip.sl.v1075, trip.sl.v1077,
    trip.sl.v1079, trip.sl.v1080, trip.sl.v1082, trip.sl.v1083, trip.sl.v1085, trip.sl.v1086, trip.sl.v1087, trip.sl.v1088, trip.sl.v1089, trip.sl.v1090,
    trip.sl.v1091, trip.sl.v1092, trip.sl.v1095, trip.sl.v1098, trip.sl.v1101, trip.sl.v1102, trip.sl.v1103, trip.sl.v1104, trip.sl.v1105, trip.sl.v1108,
    trip.sl.v1109, trip.sl.v1110, trip.sl.v1111, trip.sl.v1112, trip.sl.v1113, trip.sl.v1114, trip.sl.v1115, trip.sl.v1116, trip.sl.v1117, trip.sl.v1123,
    trip.sl.v1124, trip.sl.v1126, trip.sl.v1127, trip.sl.v1128, trip.sl.v1129, trip.sl.v539, trip.sl.v540, trip.sl.v542, trip.sl.v544, trip.sl.v545,
    trip.sl.v547, trip.sl.v548, trip.sl.v550, trip.sl.v551, trip.sl.v552, trip.sl.v553, trip.sl.v554, trip.sl.v555, trip.sl.v556, trip.sl.v557,
    trip.sl.v559, trip.sl.v560, trip.sl.v561, trip.sl.v562, trip.sl.v563, trip.sl.v564, trip.sl.v565, trip.sl.v566, trip.sl.v567, trip.sl.v568,
    trip.sl.v569, trip.sl.v571, trip.sl.v572, trip.sl.v574, trip.sl.v575, trip.sl.v577, trip.sl.v578, trip.sl.v579, trip.sl.v580, trip.sl.v581,
    trip.sl.v582, trip.sl.v584, trip.sl.v585, trip.sl.v587, trip.sl.v588, trip.sl.v589, trip.sl.v590, trip.sl.v591, trip.sl.v592, trip.sl.v594,
    trip.sl.v595, trip.sl.v597, trip.sl.v599, trip.sl.v600, trip.sl.v601, trip.sl.v603, trip.sl.v604, trip.sl.v606, trip.sl.v607, trip.sl.v608,
    trip.sl.v610, trip.sl.v611, trip.sl.v613, trip.sl.v619, trip.sl.v620, trip.sl.v621, trip.sl.v622, trip.sl.v623, trip.sl.v624, trip.sl.v625,
    trip.sl.v626, trip.sl.v628, trip.sl.v630, trip.sl.v631, trip.sl.v633, trip.sl.v634, trip.sl.v636, trip.sl.v637, trip.sl.v638, trip.sl.v639,
    trip.sl.v640, trip.sl.v641, trip.sl.v642, trip.sl.v643, trip.sl.v644, trip.sl.v645, trip.sl.v646, trip.sl.v647, trip.sl.v648, trip.sl.v649,
    trip.sl.v650, trip.sl.v651, trip.sl.v652, trip.sl.v653, trip.sl.v654, trip.sl.v655, trip.sl.v656, trip.sl.v657, trip.sl.v658, trip.sl.v659,
    trip.sl.v660, trip.sl.v661, trip.sl.v662, trip.sl.v663, trip.sl.v664, trip.sl.v665, trip.sl.v666, trip.sl.v667, trip.sl.v668, trip.sl.v674,
    trip.sl.v675, trip.sl.v677, trip.sl.v678, trip.sl.v680, trip.sl.v681, trip.sl.v682, trip.sl.v684, trip.sl.v685, trip.sl.v687, trip.sl.v693,
    trip.sl.v694, trip.sl.v695, trip.sl.v696, trip.sl.v697, trip.sl.v698, trip.sl.v699, trip.sl.v700, trip.sl.v702, trip.sl.v704, trip.sl.v705,
    trip.sl.v707, trip.sl.v708, trip.sl.v710, trip.sl.v711, trip.sl.v712, trip.sl.v713, trip.sl.v714, trip.sl.v715, trip.sl.v716, trip.sl.v717,
    trip.sl.v718, trip.sl.v719, trip.sl.v720, trip.sl.v721, trip.sl.v722, trip.sl.v723, trip.sl.v724, trip.sl.v725, trip.sl.v726, trip.sl.v727,
    trip.sl.v728, trip.sl.v729, trip.sl.v730, trip.sl.v731, trip.sl.v732, trip.sl.v733, trip.sl.v734, trip.sl.v735, trip.sl.v736, trip.sl.v737,
    trip.sl.v738, trip.sl.v739, trip.sl.v740, trip.sl.v741, trip.sl.v742, trip.sl.v748, trip.sl.v749, trip.sl.v751, trip.sl.v752, trip.sl.v754,
    trip.sl.v755, trip.sl.v756, trip.sl.v758, trip.sl.v759, trip.sl.v761, trip.sl.v762, trip.sl.v764, trip.sl.v766, trip.sl.v767, trip.sl.v768,
    trip.sl.v769, trip.sl.v770, trip.sl.v771, trip.sl.v772, trip.sl.v773, trip.sl.v774, trip.sl.v776, trip.sl.v778, trip.sl.v779, trip.sl.v781,
    trip.sl.v782, trip.sl.v784, trip.sl.v785, trip.sl.v786, trip.sl.v787, trip.sl.v788, trip.sl.v789, trip.sl.v790, trip.sl.v791, trip.sl.v792,
    trip.sl.v793, trip.sl.v794, trip.sl.v795, trip.sl.v796, trip.sl.v797, trip.sl.v798, trip.sl.v799, trip.sl.v800, trip.sl.v801, trip.sl.v802,
    trip.sl.v803, trip.sl.v804, trip.sl.v805, trip.sl.v806, trip.sl.v807, trip.sl.v808, trip.sl.v809, trip.sl.v810, trip.sl.v811, trip.sl.v812,
    trip.sl.v813, trip.sl.v814, trip.sl.v815, trip.sl.v816, trip.sl.v822, trip.sl.v823, trip.sl.v825, trip.sl.v826, trip.sl.v828, trip.sl.v829,
    trip.sl.v830, trip.sl.v832, trip.sl.v833, trip.sl.v837, trip.sl.v838, trip.sl.v846, trip.sl.v847, trip.sl.v848, trip.sl.v849, trip.sl.v850,
    trip.sl.v851, trip.sl.v852, trip.sl.v853, trip.sl.v855, trip.sl.v857, trip.sl.v858, trip.sl.v860, trip.sl.v861, trip.sl.v863, trip.sl.v864,
    trip.sl.v865, trip.sl.v866, trip.sl.v867, trip.sl.v868, trip.sl.v869, trip.sl.v870, trip.sl.v873, trip.sl.v874, trip.sl.v875, trip.sl.v876,
    trip.sl.v877, trip.sl.v878, trip.sl.v879, trip.sl.v880, trip.sl.v881, trip.sl.v882, trip.sl.v883, trip.sl.v886, trip.sl.v887, trip.sl.v888,
    trip.sl.v889, trip.sl.v890, trip.sl.v891, trip.sl.v892, trip.sl.v893, trip.sl.v894, trip.sl.v895, trip.sl.v900, trip.sl.v901, trip.sl.v902,
    trip.sl.v904, trip.sl.v905, trip.sl.v907, trip.sl.v908, trip.sl.v909, trip.sl.v911, trip.sl.v912, trip.sl.v920, trip.sl.v921, trip.sl.v922,
    trip.sl.v923, trip.sl.v924, trip.sl.v925, trip.sl.v926, trip.sl.v927, trip.sl.v929, trip.sl.v931, trip.sl.v932, trip.sl.v934, trip.sl.v935,
    trip.sl.v937, trip.sl.v938, trip.sl.v939, trip.sl.v940, trip.sl.v941, trip.sl.v942, trip.sl.v943, trip.sl.v944, trip.sl.v947, trip.sl.v948,
    trip.sl.v949, trip.sl.v950, trip.sl.v951, trip.sl.v952, trip.sl.v953, trip.sl.v954, trip.sl.v955, trip.sl.v956, trip.sl.v957, trip.sl.v960,
    trip.sl.v961, trip.sl.v962, trip.sl.v963, trip.sl.v964, trip.sl.v965, trip.sl.v966, trip.sl.v967, trip.sl.v968, trip.sl.v969, trip.sl.v975,
    trip.sl.v976, trip.sl.v978, trip.sl.v979, trip.sl.v981, trip.sl.v982, trip.sl.v983, trip.sl.v985, trip.sl.v986, trip.sl.v994, trip.sl.v995,
    trip.sl.v996, trip.sl.v997, trip.sl.v998, trip.sl.v999, View.readCov, cc_eq]
    all_goals try simp only [trip.sl.H10_1, trip.sl.H10_2, trip.sl.H10_3, trip.sl.H10_4, trip.sl.H10_5, trip.sl.H10_6, trip.sl.H10_7, trip.sl.H10_8, trip.sl.H11_1, trip.sl.H11_2,
    trip.sl.H11_3, trip.sl.H11_4, trip.sl.H11_5, trip.sl.H11_6, trip.sl.H11_7, trip.sl.H12_1, trip.sl.H12_2, trip.sl.H12_3, trip.sl.H12_4, trip.sl.H12_5,
    trip.sl.H12_6, trip.sl.H12_7, trip.sl.H13_1, trip.sl.H13_2, trip.sl.H13_3, trip.sl.H13_4, trip.sl.H13_5, trip.sl.H13_6, trip.sl.H13_7, trip.sl.H13_8,
    trip.sl.H8_1, trip.sl.H8_2, trip.sl.H8_3, trip.sl.H8_4, trip.sl.H8_5, trip.sl.H8_6, trip.sl.H8_7, trip.sl.H9_1, trip.sl.H9_2, trip.sl.H9_3,
    trip.sl.H9_4, trip.sl.H9_5, trip.sl.H9_6, trip.sl.H9_7]
    all_goals try simp (disch := decide) only [readAt_hit, readAt_skip, View.writes_nil]
  all_goals rfl

set_option maxHeartbeats 2000000 in
/-- A trip at row block 2: two blocks weighed and two scored. -/
theorem trip_row2 :
    row2 c arg8 arg9 arg10 arg11 arg12 arg13 (trip c i arg3 harg3 arg4 harg4 arg5 harg5 arg6 harg6 arg7 harg7 arg8 harg8 arg9 harg9 arg10 harg10 arg11 harg11 arg12 harg12 arg13 harg13 arg2 v7 v320 v327 v383 f3 f4 f5 k s).1
      = Row.next v7 (q2 c arg3 f3) (kB2 c i arg4 f4 k) (vB1 c i arg5 f5 k)
          (Row.next v7 (q2 c arg3 f3) (kB1 c i arg4 f4 k) (vB0 c i arg5 f5 k) (row2 c arg8 arg9 arg10 arg11 arg12 arg13 s)) := by
  obtain ⟨f8, f9, f10, f11, f12, f13, z, w⟩ := s
  refine Row.ext ?_ ?_ ?_ ?_ ?_ ?_
  all_goals simp only [row0, row1, row2, row3, trip, trip.sl.H10_1, trip.sl.H10_2, trip.sl.H10_3, trip.sl.H10_4, trip.sl.H10_5, trip.sl.H10_6, trip.sl.H10_7, trip.sl.H10_8, trip.sl.H11_1, trip.sl.H11_2,
    trip.sl.H11_3, trip.sl.H11_4, trip.sl.H11_5, trip.sl.H11_6, trip.sl.H11_7, trip.sl.H12_1, trip.sl.H12_2, trip.sl.H12_3, trip.sl.H12_4, trip.sl.H12_5,
    trip.sl.H12_6, trip.sl.H12_7, trip.sl.H13_1, trip.sl.H13_2, trip.sl.H13_3, trip.sl.H13_4, trip.sl.H13_5, trip.sl.H13_6, trip.sl.H13_7, trip.sl.H13_8,
    trip.sl.H8_1, trip.sl.H8_2, trip.sl.H8_3, trip.sl.H8_4, trip.sl.H8_5, trip.sl.H8_6, trip.sl.H8_7, trip.sl.H9_1, trip.sl.H9_2, trip.sl.H9_3,
    trip.sl.H9_4, trip.sl.H9_5, trip.sl.H9_6, trip.sl.H9_7]
  all_goals simp (disch := decide) only [readAt_hit, readAt_skip]
  iterate 3
    all_goals try simp only [trip.sl.cst_361, trip.sl.cst_370, trip.sl.cst_371, trip.sl.cst_373, trip.sl.cst_383, trip.sl.cst_397, trip.sl.v1000, trip.sl.v1001, trip.sl.v1003,
    trip.sl.v1005, trip.sl.v1006, trip.sl.v1008, trip.sl.v1009, trip.sl.v1011, trip.sl.v1012, trip.sl.v1013, trip.sl.v1014, trip.sl.v1015, trip.sl.v1016,
    trip.sl.v1017, trip.sl.v1018, trip.sl.v1021, trip.sl.v1024, trip.sl.v1027, trip.sl.v1028, trip.sl.v1029, trip.sl.v1030, trip.sl.v1031, trip.sl.v1034,
    trip.sl.v1035, trip.sl.v1036, trip.sl.v1037, trip.sl.v1038, trip.sl.v1039, trip.sl.v1040, trip.sl.v1041, trip.sl.v1042, trip.sl.v1043, trip.sl.v1049,
    trip.sl.v1050, trip.sl.v1052, trip.sl.v1053, trip.sl.v1055, trip.sl.v1056, trip.sl.v1057, trip.sl.v1059, trip.sl.v1060, trip.sl.v1063, trip.sl.v1065,
    trip.sl.v1067, trip.sl.v1068, trip.sl.v1069, trip.sl.v1070, trip.sl.v1071, trip.sl.v1072, trip.sl.v1073, trip.sl.v1074, trip.sl.v1075, trip.sl.v1077,
    trip.sl.v1079, trip.sl.v1080, trip.sl.v1082, trip.sl.v1083, trip.sl.v1085, trip.sl.v1086, trip.sl.v1087, trip.sl.v1088, trip.sl.v1089, trip.sl.v1090,
    trip.sl.v1091, trip.sl.v1092, trip.sl.v1095, trip.sl.v1098, trip.sl.v1101, trip.sl.v1102, trip.sl.v1103, trip.sl.v1104, trip.sl.v1105, trip.sl.v1108,
    trip.sl.v1109, trip.sl.v1110, trip.sl.v1111, trip.sl.v1112, trip.sl.v1113, trip.sl.v1114, trip.sl.v1115, trip.sl.v1116, trip.sl.v1117, trip.sl.v1123,
    trip.sl.v1124, trip.sl.v1126, trip.sl.v1127, trip.sl.v1128, trip.sl.v1129, trip.sl.v539, trip.sl.v540, trip.sl.v542, trip.sl.v544, trip.sl.v545,
    trip.sl.v547, trip.sl.v548, trip.sl.v550, trip.sl.v551, trip.sl.v552, trip.sl.v553, trip.sl.v554, trip.sl.v555, trip.sl.v556, trip.sl.v557,
    trip.sl.v559, trip.sl.v560, trip.sl.v561, trip.sl.v562, trip.sl.v563, trip.sl.v564, trip.sl.v565, trip.sl.v566, trip.sl.v567, trip.sl.v568,
    trip.sl.v569, trip.sl.v571, trip.sl.v572, trip.sl.v574, trip.sl.v575, trip.sl.v577, trip.sl.v578, trip.sl.v579, trip.sl.v580, trip.sl.v581,
    trip.sl.v582, trip.sl.v584, trip.sl.v585, trip.sl.v587, trip.sl.v588, trip.sl.v589, trip.sl.v590, trip.sl.v591, trip.sl.v592, trip.sl.v594,
    trip.sl.v595, trip.sl.v597, trip.sl.v599, trip.sl.v600, trip.sl.v601, trip.sl.v603, trip.sl.v604, trip.sl.v606, trip.sl.v607, trip.sl.v608,
    trip.sl.v610, trip.sl.v611, trip.sl.v613, trip.sl.v619, trip.sl.v620, trip.sl.v621, trip.sl.v622, trip.sl.v623, trip.sl.v624, trip.sl.v625,
    trip.sl.v626, trip.sl.v628, trip.sl.v630, trip.sl.v631, trip.sl.v633, trip.sl.v634, trip.sl.v636, trip.sl.v637, trip.sl.v638, trip.sl.v639,
    trip.sl.v640, trip.sl.v641, trip.sl.v642, trip.sl.v643, trip.sl.v644, trip.sl.v645, trip.sl.v646, trip.sl.v647, trip.sl.v648, trip.sl.v649,
    trip.sl.v650, trip.sl.v651, trip.sl.v652, trip.sl.v653, trip.sl.v654, trip.sl.v655, trip.sl.v656, trip.sl.v657, trip.sl.v658, trip.sl.v659,
    trip.sl.v660, trip.sl.v661, trip.sl.v662, trip.sl.v663, trip.sl.v664, trip.sl.v665, trip.sl.v666, trip.sl.v667, trip.sl.v668, trip.sl.v674,
    trip.sl.v675, trip.sl.v677, trip.sl.v678, trip.sl.v680, trip.sl.v681, trip.sl.v682, trip.sl.v684, trip.sl.v685, trip.sl.v687, trip.sl.v693,
    trip.sl.v694, trip.sl.v695, trip.sl.v696, trip.sl.v697, trip.sl.v698, trip.sl.v699, trip.sl.v700, trip.sl.v702, trip.sl.v704, trip.sl.v705,
    trip.sl.v707, trip.sl.v708, trip.sl.v710, trip.sl.v711, trip.sl.v712, trip.sl.v713, trip.sl.v714, trip.sl.v715, trip.sl.v716, trip.sl.v717,
    trip.sl.v718, trip.sl.v719, trip.sl.v720, trip.sl.v721, trip.sl.v722, trip.sl.v723, trip.sl.v724, trip.sl.v725, trip.sl.v726, trip.sl.v727,
    trip.sl.v728, trip.sl.v729, trip.sl.v730, trip.sl.v731, trip.sl.v732, trip.sl.v733, trip.sl.v734, trip.sl.v735, trip.sl.v736, trip.sl.v737,
    trip.sl.v738, trip.sl.v739, trip.sl.v740, trip.sl.v741, trip.sl.v742, trip.sl.v748, trip.sl.v749, trip.sl.v751, trip.sl.v752, trip.sl.v754,
    trip.sl.v755, trip.sl.v756, trip.sl.v758, trip.sl.v759, trip.sl.v761, trip.sl.v762, trip.sl.v764, trip.sl.v766, trip.sl.v767, trip.sl.v768,
    trip.sl.v769, trip.sl.v770, trip.sl.v771, trip.sl.v772, trip.sl.v773, trip.sl.v774, trip.sl.v776, trip.sl.v778, trip.sl.v779, trip.sl.v781,
    trip.sl.v782, trip.sl.v784, trip.sl.v785, trip.sl.v786, trip.sl.v787, trip.sl.v788, trip.sl.v789, trip.sl.v790, trip.sl.v791, trip.sl.v792,
    trip.sl.v793, trip.sl.v794, trip.sl.v795, trip.sl.v796, trip.sl.v797, trip.sl.v798, trip.sl.v799, trip.sl.v800, trip.sl.v801, trip.sl.v802,
    trip.sl.v803, trip.sl.v804, trip.sl.v805, trip.sl.v806, trip.sl.v807, trip.sl.v808, trip.sl.v809, trip.sl.v810, trip.sl.v811, trip.sl.v812,
    trip.sl.v813, trip.sl.v814, trip.sl.v815, trip.sl.v816, trip.sl.v822, trip.sl.v823, trip.sl.v825, trip.sl.v826, trip.sl.v828, trip.sl.v829,
    trip.sl.v830, trip.sl.v832, trip.sl.v833, trip.sl.v837, trip.sl.v838, trip.sl.v846, trip.sl.v847, trip.sl.v848, trip.sl.v849, trip.sl.v850,
    trip.sl.v851, trip.sl.v852, trip.sl.v853, trip.sl.v855, trip.sl.v857, trip.sl.v858, trip.sl.v860, trip.sl.v861, trip.sl.v863, trip.sl.v864,
    trip.sl.v865, trip.sl.v866, trip.sl.v867, trip.sl.v868, trip.sl.v869, trip.sl.v870, trip.sl.v873, trip.sl.v874, trip.sl.v875, trip.sl.v876,
    trip.sl.v877, trip.sl.v878, trip.sl.v879, trip.sl.v880, trip.sl.v881, trip.sl.v882, trip.sl.v883, trip.sl.v886, trip.sl.v887, trip.sl.v888,
    trip.sl.v889, trip.sl.v890, trip.sl.v891, trip.sl.v892, trip.sl.v893, trip.sl.v894, trip.sl.v895, trip.sl.v900, trip.sl.v901, trip.sl.v902,
    trip.sl.v904, trip.sl.v905, trip.sl.v907, trip.sl.v908, trip.sl.v909, trip.sl.v911, trip.sl.v912, trip.sl.v920, trip.sl.v921, trip.sl.v922,
    trip.sl.v923, trip.sl.v924, trip.sl.v925, trip.sl.v926, trip.sl.v927, trip.sl.v929, trip.sl.v931, trip.sl.v932, trip.sl.v934, trip.sl.v935,
    trip.sl.v937, trip.sl.v938, trip.sl.v939, trip.sl.v940, trip.sl.v941, trip.sl.v942, trip.sl.v943, trip.sl.v944, trip.sl.v947, trip.sl.v948,
    trip.sl.v949, trip.sl.v950, trip.sl.v951, trip.sl.v952, trip.sl.v953, trip.sl.v954, trip.sl.v955, trip.sl.v956, trip.sl.v957, trip.sl.v960,
    trip.sl.v961, trip.sl.v962, trip.sl.v963, trip.sl.v964, trip.sl.v965, trip.sl.v966, trip.sl.v967, trip.sl.v968, trip.sl.v969, trip.sl.v975,
    trip.sl.v976, trip.sl.v978, trip.sl.v979, trip.sl.v981, trip.sl.v982, trip.sl.v983, trip.sl.v985, trip.sl.v986, trip.sl.v994, trip.sl.v995,
    trip.sl.v996, trip.sl.v997, trip.sl.v998, trip.sl.v999, View.readCov, cc_eq]
    all_goals try simp only [trip.sl.H10_1, trip.sl.H10_2, trip.sl.H10_3, trip.sl.H10_4, trip.sl.H10_5, trip.sl.H10_6, trip.sl.H10_7, trip.sl.H10_8, trip.sl.H11_1, trip.sl.H11_2,
    trip.sl.H11_3, trip.sl.H11_4, trip.sl.H11_5, trip.sl.H11_6, trip.sl.H11_7, trip.sl.H12_1, trip.sl.H12_2, trip.sl.H12_3, trip.sl.H12_4, trip.sl.H12_5,
    trip.sl.H12_6, trip.sl.H12_7, trip.sl.H13_1, trip.sl.H13_2, trip.sl.H13_3, trip.sl.H13_4, trip.sl.H13_5, trip.sl.H13_6, trip.sl.H13_7, trip.sl.H13_8,
    trip.sl.H8_1, trip.sl.H8_2, trip.sl.H8_3, trip.sl.H8_4, trip.sl.H8_5, trip.sl.H8_6, trip.sl.H8_7, trip.sl.H9_1, trip.sl.H9_2, trip.sl.H9_3,
    trip.sl.H9_4, trip.sl.H9_5, trip.sl.H9_6, trip.sl.H9_7]
    all_goals try simp (disch := decide) only [readAt_hit, readAt_skip, View.writes_nil]
  all_goals rfl

set_option maxHeartbeats 2000000 in
/-- A trip at row block 3: two blocks weighed and two scored. -/
theorem trip_row3 :
    row3 c arg8 arg9 arg10 arg11 arg12 arg13 (trip c i arg3 harg3 arg4 harg4 arg5 harg5 arg6 harg6 arg7 harg7 arg8 harg8 arg9 harg9 arg10 harg10 arg11 harg11 arg12 harg12 arg13 harg13 arg2 v7 v320 v327 v383 f3 f4 f5 k s).1
      = Row.next v7 (q3 c arg3 f3) (kB2 c i arg4 f4 k) (vB1 c i arg5 f5 k)
          (Row.next v7 (q3 c arg3 f3) (kB1 c i arg4 f4 k) (vB0 c i arg5 f5 k) (row3 c arg8 arg9 arg10 arg11 arg12 arg13 s)) := by
  obtain ⟨f8, f9, f10, f11, f12, f13, z, w⟩ := s
  refine Row.ext ?_ ?_ ?_ ?_ ?_ ?_
  all_goals simp only [row0, row1, row2, row3, trip, trip.sl.H10_1, trip.sl.H10_2, trip.sl.H10_3, trip.sl.H10_4, trip.sl.H10_5, trip.sl.H10_6, trip.sl.H10_7, trip.sl.H10_8, trip.sl.H11_1, trip.sl.H11_2,
    trip.sl.H11_3, trip.sl.H11_4, trip.sl.H11_5, trip.sl.H11_6, trip.sl.H11_7, trip.sl.H12_1, trip.sl.H12_2, trip.sl.H12_3, trip.sl.H12_4, trip.sl.H12_5,
    trip.sl.H12_6, trip.sl.H12_7, trip.sl.H13_1, trip.sl.H13_2, trip.sl.H13_3, trip.sl.H13_4, trip.sl.H13_5, trip.sl.H13_6, trip.sl.H13_7, trip.sl.H13_8,
    trip.sl.H8_1, trip.sl.H8_2, trip.sl.H8_3, trip.sl.H8_4, trip.sl.H8_5, trip.sl.H8_6, trip.sl.H8_7, trip.sl.H9_1, trip.sl.H9_2, trip.sl.H9_3,
    trip.sl.H9_4, trip.sl.H9_5, trip.sl.H9_6, trip.sl.H9_7]
  all_goals simp (disch := decide) only [readAt_hit, readAt_skip]
  iterate 3
    all_goals try simp only [trip.sl.cst_361, trip.sl.cst_370, trip.sl.cst_371, trip.sl.cst_373, trip.sl.cst_383, trip.sl.cst_397, trip.sl.v1000, trip.sl.v1001, trip.sl.v1003,
    trip.sl.v1005, trip.sl.v1006, trip.sl.v1008, trip.sl.v1009, trip.sl.v1011, trip.sl.v1012, trip.sl.v1013, trip.sl.v1014, trip.sl.v1015, trip.sl.v1016,
    trip.sl.v1017, trip.sl.v1018, trip.sl.v1021, trip.sl.v1024, trip.sl.v1027, trip.sl.v1028, trip.sl.v1029, trip.sl.v1030, trip.sl.v1031, trip.sl.v1034,
    trip.sl.v1035, trip.sl.v1036, trip.sl.v1037, trip.sl.v1038, trip.sl.v1039, trip.sl.v1040, trip.sl.v1041, trip.sl.v1042, trip.sl.v1043, trip.sl.v1049,
    trip.sl.v1050, trip.sl.v1052, trip.sl.v1053, trip.sl.v1055, trip.sl.v1056, trip.sl.v1057, trip.sl.v1059, trip.sl.v1060, trip.sl.v1063, trip.sl.v1065,
    trip.sl.v1067, trip.sl.v1068, trip.sl.v1069, trip.sl.v1070, trip.sl.v1071, trip.sl.v1072, trip.sl.v1073, trip.sl.v1074, trip.sl.v1075, trip.sl.v1077,
    trip.sl.v1079, trip.sl.v1080, trip.sl.v1082, trip.sl.v1083, trip.sl.v1085, trip.sl.v1086, trip.sl.v1087, trip.sl.v1088, trip.sl.v1089, trip.sl.v1090,
    trip.sl.v1091, trip.sl.v1092, trip.sl.v1095, trip.sl.v1098, trip.sl.v1101, trip.sl.v1102, trip.sl.v1103, trip.sl.v1104, trip.sl.v1105, trip.sl.v1108,
    trip.sl.v1109, trip.sl.v1110, trip.sl.v1111, trip.sl.v1112, trip.sl.v1113, trip.sl.v1114, trip.sl.v1115, trip.sl.v1116, trip.sl.v1117, trip.sl.v1123,
    trip.sl.v1124, trip.sl.v1126, trip.sl.v1127, trip.sl.v1128, trip.sl.v1129, trip.sl.v539, trip.sl.v540, trip.sl.v542, trip.sl.v544, trip.sl.v545,
    trip.sl.v547, trip.sl.v548, trip.sl.v550, trip.sl.v551, trip.sl.v552, trip.sl.v553, trip.sl.v554, trip.sl.v555, trip.sl.v556, trip.sl.v557,
    trip.sl.v559, trip.sl.v560, trip.sl.v561, trip.sl.v562, trip.sl.v563, trip.sl.v564, trip.sl.v565, trip.sl.v566, trip.sl.v567, trip.sl.v568,
    trip.sl.v569, trip.sl.v571, trip.sl.v572, trip.sl.v574, trip.sl.v575, trip.sl.v577, trip.sl.v578, trip.sl.v579, trip.sl.v580, trip.sl.v581,
    trip.sl.v582, trip.sl.v584, trip.sl.v585, trip.sl.v587, trip.sl.v588, trip.sl.v589, trip.sl.v590, trip.sl.v591, trip.sl.v592, trip.sl.v594,
    trip.sl.v595, trip.sl.v597, trip.sl.v599, trip.sl.v600, trip.sl.v601, trip.sl.v603, trip.sl.v604, trip.sl.v606, trip.sl.v607, trip.sl.v608,
    trip.sl.v610, trip.sl.v611, trip.sl.v613, trip.sl.v619, trip.sl.v620, trip.sl.v621, trip.sl.v622, trip.sl.v623, trip.sl.v624, trip.sl.v625,
    trip.sl.v626, trip.sl.v628, trip.sl.v630, trip.sl.v631, trip.sl.v633, trip.sl.v634, trip.sl.v636, trip.sl.v637, trip.sl.v638, trip.sl.v639,
    trip.sl.v640, trip.sl.v641, trip.sl.v642, trip.sl.v643, trip.sl.v644, trip.sl.v645, trip.sl.v646, trip.sl.v647, trip.sl.v648, trip.sl.v649,
    trip.sl.v650, trip.sl.v651, trip.sl.v652, trip.sl.v653, trip.sl.v654, trip.sl.v655, trip.sl.v656, trip.sl.v657, trip.sl.v658, trip.sl.v659,
    trip.sl.v660, trip.sl.v661, trip.sl.v662, trip.sl.v663, trip.sl.v664, trip.sl.v665, trip.sl.v666, trip.sl.v667, trip.sl.v668, trip.sl.v674,
    trip.sl.v675, trip.sl.v677, trip.sl.v678, trip.sl.v680, trip.sl.v681, trip.sl.v682, trip.sl.v684, trip.sl.v685, trip.sl.v687, trip.sl.v693,
    trip.sl.v694, trip.sl.v695, trip.sl.v696, trip.sl.v697, trip.sl.v698, trip.sl.v699, trip.sl.v700, trip.sl.v702, trip.sl.v704, trip.sl.v705,
    trip.sl.v707, trip.sl.v708, trip.sl.v710, trip.sl.v711, trip.sl.v712, trip.sl.v713, trip.sl.v714, trip.sl.v715, trip.sl.v716, trip.sl.v717,
    trip.sl.v718, trip.sl.v719, trip.sl.v720, trip.sl.v721, trip.sl.v722, trip.sl.v723, trip.sl.v724, trip.sl.v725, trip.sl.v726, trip.sl.v727,
    trip.sl.v728, trip.sl.v729, trip.sl.v730, trip.sl.v731, trip.sl.v732, trip.sl.v733, trip.sl.v734, trip.sl.v735, trip.sl.v736, trip.sl.v737,
    trip.sl.v738, trip.sl.v739, trip.sl.v740, trip.sl.v741, trip.sl.v742, trip.sl.v748, trip.sl.v749, trip.sl.v751, trip.sl.v752, trip.sl.v754,
    trip.sl.v755, trip.sl.v756, trip.sl.v758, trip.sl.v759, trip.sl.v761, trip.sl.v762, trip.sl.v764, trip.sl.v766, trip.sl.v767, trip.sl.v768,
    trip.sl.v769, trip.sl.v770, trip.sl.v771, trip.sl.v772, trip.sl.v773, trip.sl.v774, trip.sl.v776, trip.sl.v778, trip.sl.v779, trip.sl.v781,
    trip.sl.v782, trip.sl.v784, trip.sl.v785, trip.sl.v786, trip.sl.v787, trip.sl.v788, trip.sl.v789, trip.sl.v790, trip.sl.v791, trip.sl.v792,
    trip.sl.v793, trip.sl.v794, trip.sl.v795, trip.sl.v796, trip.sl.v797, trip.sl.v798, trip.sl.v799, trip.sl.v800, trip.sl.v801, trip.sl.v802,
    trip.sl.v803, trip.sl.v804, trip.sl.v805, trip.sl.v806, trip.sl.v807, trip.sl.v808, trip.sl.v809, trip.sl.v810, trip.sl.v811, trip.sl.v812,
    trip.sl.v813, trip.sl.v814, trip.sl.v815, trip.sl.v816, trip.sl.v822, trip.sl.v823, trip.sl.v825, trip.sl.v826, trip.sl.v828, trip.sl.v829,
    trip.sl.v830, trip.sl.v832, trip.sl.v833, trip.sl.v837, trip.sl.v838, trip.sl.v846, trip.sl.v847, trip.sl.v848, trip.sl.v849, trip.sl.v850,
    trip.sl.v851, trip.sl.v852, trip.sl.v853, trip.sl.v855, trip.sl.v857, trip.sl.v858, trip.sl.v860, trip.sl.v861, trip.sl.v863, trip.sl.v864,
    trip.sl.v865, trip.sl.v866, trip.sl.v867, trip.sl.v868, trip.sl.v869, trip.sl.v870, trip.sl.v873, trip.sl.v874, trip.sl.v875, trip.sl.v876,
    trip.sl.v877, trip.sl.v878, trip.sl.v879, trip.sl.v880, trip.sl.v881, trip.sl.v882, trip.sl.v883, trip.sl.v886, trip.sl.v887, trip.sl.v888,
    trip.sl.v889, trip.sl.v890, trip.sl.v891, trip.sl.v892, trip.sl.v893, trip.sl.v894, trip.sl.v895, trip.sl.v900, trip.sl.v901, trip.sl.v902,
    trip.sl.v904, trip.sl.v905, trip.sl.v907, trip.sl.v908, trip.sl.v909, trip.sl.v911, trip.sl.v912, trip.sl.v920, trip.sl.v921, trip.sl.v922,
    trip.sl.v923, trip.sl.v924, trip.sl.v925, trip.sl.v926, trip.sl.v927, trip.sl.v929, trip.sl.v931, trip.sl.v932, trip.sl.v934, trip.sl.v935,
    trip.sl.v937, trip.sl.v938, trip.sl.v939, trip.sl.v940, trip.sl.v941, trip.sl.v942, trip.sl.v943, trip.sl.v944, trip.sl.v947, trip.sl.v948,
    trip.sl.v949, trip.sl.v950, trip.sl.v951, trip.sl.v952, trip.sl.v953, trip.sl.v954, trip.sl.v955, trip.sl.v956, trip.sl.v957, trip.sl.v960,
    trip.sl.v961, trip.sl.v962, trip.sl.v963, trip.sl.v964, trip.sl.v965, trip.sl.v966, trip.sl.v967, trip.sl.v968, trip.sl.v969, trip.sl.v975,
    trip.sl.v976, trip.sl.v978, trip.sl.v979, trip.sl.v981, trip.sl.v982, trip.sl.v983, trip.sl.v985, trip.sl.v986, trip.sl.v994, trip.sl.v995,
    trip.sl.v996, trip.sl.v997, trip.sl.v998, trip.sl.v999, View.readCov, cc_eq]
    all_goals try simp only [trip.sl.H10_1, trip.sl.H10_2, trip.sl.H10_3, trip.sl.H10_4, trip.sl.H10_5, trip.sl.H10_6, trip.sl.H10_7, trip.sl.H10_8, trip.sl.H11_1, trip.sl.H11_2,
    trip.sl.H11_3, trip.sl.H11_4, trip.sl.H11_5, trip.sl.H11_6, trip.sl.H11_7, trip.sl.H12_1, trip.sl.H12_2, trip.sl.H12_3, trip.sl.H12_4, trip.sl.H12_5,
    trip.sl.H12_6, trip.sl.H12_7, trip.sl.H13_1, trip.sl.H13_2, trip.sl.H13_3, trip.sl.H13_4, trip.sl.H13_5, trip.sl.H13_6, trip.sl.H13_7, trip.sl.H13_8,
    trip.sl.H8_1, trip.sl.H8_2, trip.sl.H8_3, trip.sl.H8_4, trip.sl.H8_5, trip.sl.H8_6, trip.sl.H8_7, trip.sl.H9_1, trip.sl.H9_2, trip.sl.H9_3,
    trip.sl.H9_4, trip.sl.H9_5, trip.sl.H9_6, trip.sl.H9_7]
    all_goals try simp (disch := decide) only [readAt_hit, readAt_skip, View.writes_nil]
  all_goals rfl

set_option maxHeartbeats 2000000 in
/-- A trip at row block 0: two blocks weighed and two scored. -/
theorem trip_row0 (hz : s.z = zf (q0 c arg3 f3) (kB1 c i arg4 f4 k)) (hw : s.w = sf v7 (row0 c arg8 arg9 arg10 arg11 arg12 arg13 s).hi (row0 c arg8 arg9 arg10 arg11 arg12 arg13 s).lo) :
    row0 c arg8 arg9 arg10 arg11 arg12 arg13 (trip c i arg3 harg3 arg4 harg4 arg5 harg5 arg6 harg6 arg7 harg7 arg8 harg8 arg9 harg9 arg10 harg10 arg11 harg11 arg12 harg12 arg13 harg13 arg2 v7 v320 v327 v383 f3 f4 f5 k s).1
      = Row.next v7 (q0 c arg3 f3) (kB2 c i arg4 f4 k) (vB1 c i arg5 f5 k)
          (Row.next v7 (q0 c arg3 f3) (kB1 c i arg4 f4 k) (vB0 c i arg5 f5 k) (row0 c arg8 arg9 arg10 arg11 arg12 arg13 s)) := by
  obtain ⟨f8, f9, f10, f11, f12, f13, z, w⟩ := s
  simp only [row0] at hz hw
  subst hz hw
  refine Row.ext ?_ ?_ ?_ ?_ ?_ ?_
  all_goals simp only [row0, row1, row2, row3, trip, trip.sl.H10_1, trip.sl.H10_2, trip.sl.H10_3, trip.sl.H10_4, trip.sl.H10_5, trip.sl.H10_6, trip.sl.H10_7, trip.sl.H10_8, trip.sl.H11_1, trip.sl.H11_2,
    trip.sl.H11_3, trip.sl.H11_4, trip.sl.H11_5, trip.sl.H11_6, trip.sl.H11_7, trip.sl.H12_1, trip.sl.H12_2, trip.sl.H12_3, trip.sl.H12_4, trip.sl.H12_5,
    trip.sl.H12_6, trip.sl.H12_7, trip.sl.H13_1, trip.sl.H13_2, trip.sl.H13_3, trip.sl.H13_4, trip.sl.H13_5, trip.sl.H13_6, trip.sl.H13_7, trip.sl.H13_8,
    trip.sl.H8_1, trip.sl.H8_2, trip.sl.H8_3, trip.sl.H8_4, trip.sl.H8_5, trip.sl.H8_6, trip.sl.H8_7, trip.sl.H9_1, trip.sl.H9_2, trip.sl.H9_3,
    trip.sl.H9_4, trip.sl.H9_5, trip.sl.H9_6, trip.sl.H9_7]
  all_goals simp (disch := decide) only [readAt_hit, readAt_skip]
  iterate 3
    all_goals try simp only [trip.sl.cst_361, trip.sl.cst_370, trip.sl.cst_371, trip.sl.cst_373, trip.sl.cst_383, trip.sl.cst_397, trip.sl.v1000, trip.sl.v1001, trip.sl.v1003,
    trip.sl.v1005, trip.sl.v1006, trip.sl.v1008, trip.sl.v1009, trip.sl.v1011, trip.sl.v1012, trip.sl.v1013, trip.sl.v1014, trip.sl.v1015, trip.sl.v1016,
    trip.sl.v1017, trip.sl.v1018, trip.sl.v1021, trip.sl.v1024, trip.sl.v1027, trip.sl.v1028, trip.sl.v1029, trip.sl.v1030, trip.sl.v1031, trip.sl.v1034,
    trip.sl.v1035, trip.sl.v1036, trip.sl.v1037, trip.sl.v1038, trip.sl.v1039, trip.sl.v1040, trip.sl.v1041, trip.sl.v1042, trip.sl.v1043, trip.sl.v1049,
    trip.sl.v1050, trip.sl.v1052, trip.sl.v1053, trip.sl.v1055, trip.sl.v1056, trip.sl.v1057, trip.sl.v1059, trip.sl.v1060, trip.sl.v1063, trip.sl.v1065,
    trip.sl.v1067, trip.sl.v1068, trip.sl.v1069, trip.sl.v1070, trip.sl.v1071, trip.sl.v1072, trip.sl.v1073, trip.sl.v1074, trip.sl.v1075, trip.sl.v1077,
    trip.sl.v1079, trip.sl.v1080, trip.sl.v1082, trip.sl.v1083, trip.sl.v1085, trip.sl.v1086, trip.sl.v1087, trip.sl.v1088, trip.sl.v1089, trip.sl.v1090,
    trip.sl.v1091, trip.sl.v1092, trip.sl.v1095, trip.sl.v1098, trip.sl.v1101, trip.sl.v1102, trip.sl.v1103, trip.sl.v1104, trip.sl.v1105, trip.sl.v1108,
    trip.sl.v1109, trip.sl.v1110, trip.sl.v1111, trip.sl.v1112, trip.sl.v1113, trip.sl.v1114, trip.sl.v1115, trip.sl.v1116, trip.sl.v1117, trip.sl.v1123,
    trip.sl.v1124, trip.sl.v1126, trip.sl.v1127, trip.sl.v1128, trip.sl.v1129, trip.sl.v539, trip.sl.v540, trip.sl.v542, trip.sl.v544, trip.sl.v545,
    trip.sl.v547, trip.sl.v548, trip.sl.v550, trip.sl.v551, trip.sl.v552, trip.sl.v553, trip.sl.v554, trip.sl.v555, trip.sl.v556, trip.sl.v557,
    trip.sl.v559, trip.sl.v560, trip.sl.v561, trip.sl.v562, trip.sl.v563, trip.sl.v564, trip.sl.v565, trip.sl.v566, trip.sl.v567, trip.sl.v568,
    trip.sl.v569, trip.sl.v571, trip.sl.v572, trip.sl.v574, trip.sl.v575, trip.sl.v577, trip.sl.v578, trip.sl.v579, trip.sl.v580, trip.sl.v581,
    trip.sl.v582, trip.sl.v584, trip.sl.v585, trip.sl.v587, trip.sl.v588, trip.sl.v589, trip.sl.v590, trip.sl.v591, trip.sl.v592, trip.sl.v594,
    trip.sl.v595, trip.sl.v597, trip.sl.v599, trip.sl.v600, trip.sl.v601, trip.sl.v603, trip.sl.v604, trip.sl.v606, trip.sl.v607, trip.sl.v608,
    trip.sl.v610, trip.sl.v611, trip.sl.v613, trip.sl.v619, trip.sl.v620, trip.sl.v621, trip.sl.v622, trip.sl.v623, trip.sl.v624, trip.sl.v625,
    trip.sl.v626, trip.sl.v628, trip.sl.v630, trip.sl.v631, trip.sl.v633, trip.sl.v634, trip.sl.v636, trip.sl.v637, trip.sl.v638, trip.sl.v639,
    trip.sl.v640, trip.sl.v641, trip.sl.v642, trip.sl.v643, trip.sl.v644, trip.sl.v645, trip.sl.v646, trip.sl.v647, trip.sl.v648, trip.sl.v649,
    trip.sl.v650, trip.sl.v651, trip.sl.v652, trip.sl.v653, trip.sl.v654, trip.sl.v655, trip.sl.v656, trip.sl.v657, trip.sl.v658, trip.sl.v659,
    trip.sl.v660, trip.sl.v661, trip.sl.v662, trip.sl.v663, trip.sl.v664, trip.sl.v665, trip.sl.v666, trip.sl.v667, trip.sl.v668, trip.sl.v674,
    trip.sl.v675, trip.sl.v677, trip.sl.v678, trip.sl.v680, trip.sl.v681, trip.sl.v682, trip.sl.v684, trip.sl.v685, trip.sl.v687, trip.sl.v693,
    trip.sl.v694, trip.sl.v695, trip.sl.v696, trip.sl.v697, trip.sl.v698, trip.sl.v699, trip.sl.v700, trip.sl.v702, trip.sl.v704, trip.sl.v705,
    trip.sl.v707, trip.sl.v708, trip.sl.v710, trip.sl.v711, trip.sl.v712, trip.sl.v713, trip.sl.v714, trip.sl.v715, trip.sl.v716, trip.sl.v717,
    trip.sl.v718, trip.sl.v719, trip.sl.v720, trip.sl.v721, trip.sl.v722, trip.sl.v723, trip.sl.v724, trip.sl.v725, trip.sl.v726, trip.sl.v727,
    trip.sl.v728, trip.sl.v729, trip.sl.v730, trip.sl.v731, trip.sl.v732, trip.sl.v733, trip.sl.v734, trip.sl.v735, trip.sl.v736, trip.sl.v737,
    trip.sl.v738, trip.sl.v739, trip.sl.v740, trip.sl.v741, trip.sl.v742, trip.sl.v748, trip.sl.v749, trip.sl.v751, trip.sl.v752, trip.sl.v754,
    trip.sl.v755, trip.sl.v756, trip.sl.v758, trip.sl.v759, trip.sl.v761, trip.sl.v762, trip.sl.v764, trip.sl.v766, trip.sl.v767, trip.sl.v768,
    trip.sl.v769, trip.sl.v770, trip.sl.v771, trip.sl.v772, trip.sl.v773, trip.sl.v774, trip.sl.v776, trip.sl.v778, trip.sl.v779, trip.sl.v781,
    trip.sl.v782, trip.sl.v784, trip.sl.v785, trip.sl.v786, trip.sl.v787, trip.sl.v788, trip.sl.v789, trip.sl.v790, trip.sl.v791, trip.sl.v792,
    trip.sl.v793, trip.sl.v794, trip.sl.v795, trip.sl.v796, trip.sl.v797, trip.sl.v798, trip.sl.v799, trip.sl.v800, trip.sl.v801, trip.sl.v802,
    trip.sl.v803, trip.sl.v804, trip.sl.v805, trip.sl.v806, trip.sl.v807, trip.sl.v808, trip.sl.v809, trip.sl.v810, trip.sl.v811, trip.sl.v812,
    trip.sl.v813, trip.sl.v814, trip.sl.v815, trip.sl.v816, trip.sl.v822, trip.sl.v823, trip.sl.v825, trip.sl.v826, trip.sl.v828, trip.sl.v829,
    trip.sl.v830, trip.sl.v832, trip.sl.v833, trip.sl.v837, trip.sl.v838, trip.sl.v846, trip.sl.v847, trip.sl.v848, trip.sl.v849, trip.sl.v850,
    trip.sl.v851, trip.sl.v852, trip.sl.v853, trip.sl.v855, trip.sl.v857, trip.sl.v858, trip.sl.v860, trip.sl.v861, trip.sl.v863, trip.sl.v864,
    trip.sl.v865, trip.sl.v866, trip.sl.v867, trip.sl.v868, trip.sl.v869, trip.sl.v870, trip.sl.v873, trip.sl.v874, trip.sl.v875, trip.sl.v876,
    trip.sl.v877, trip.sl.v878, trip.sl.v879, trip.sl.v880, trip.sl.v881, trip.sl.v882, trip.sl.v883, trip.sl.v886, trip.sl.v887, trip.sl.v888,
    trip.sl.v889, trip.sl.v890, trip.sl.v891, trip.sl.v892, trip.sl.v893, trip.sl.v894, trip.sl.v895, trip.sl.v900, trip.sl.v901, trip.sl.v902,
    trip.sl.v904, trip.sl.v905, trip.sl.v907, trip.sl.v908, trip.sl.v909, trip.sl.v911, trip.sl.v912, trip.sl.v920, trip.sl.v921, trip.sl.v922,
    trip.sl.v923, trip.sl.v924, trip.sl.v925, trip.sl.v926, trip.sl.v927, trip.sl.v929, trip.sl.v931, trip.sl.v932, trip.sl.v934, trip.sl.v935,
    trip.sl.v937, trip.sl.v938, trip.sl.v939, trip.sl.v940, trip.sl.v941, trip.sl.v942, trip.sl.v943, trip.sl.v944, trip.sl.v947, trip.sl.v948,
    trip.sl.v949, trip.sl.v950, trip.sl.v951, trip.sl.v952, trip.sl.v953, trip.sl.v954, trip.sl.v955, trip.sl.v956, trip.sl.v957, trip.sl.v960,
    trip.sl.v961, trip.sl.v962, trip.sl.v963, trip.sl.v964, trip.sl.v965, trip.sl.v966, trip.sl.v967, trip.sl.v968, trip.sl.v969, trip.sl.v975,
    trip.sl.v976, trip.sl.v978, trip.sl.v979, trip.sl.v981, trip.sl.v982, trip.sl.v983, trip.sl.v985, trip.sl.v986, trip.sl.v994, trip.sl.v995,
    trip.sl.v996, trip.sl.v997, trip.sl.v998, trip.sl.v999, View.readCov, cc_eq]
    all_goals try simp only [trip.sl.H10_1, trip.sl.H10_2, trip.sl.H10_3, trip.sl.H10_4, trip.sl.H10_5, trip.sl.H10_6, trip.sl.H10_7, trip.sl.H10_8, trip.sl.H11_1, trip.sl.H11_2,
    trip.sl.H11_3, trip.sl.H11_4, trip.sl.H11_5, trip.sl.H11_6, trip.sl.H11_7, trip.sl.H12_1, trip.sl.H12_2, trip.sl.H12_3, trip.sl.H12_4, trip.sl.H12_5,
    trip.sl.H12_6, trip.sl.H12_7, trip.sl.H13_1, trip.sl.H13_2, trip.sl.H13_3, trip.sl.H13_4, trip.sl.H13_5, trip.sl.H13_6, trip.sl.H13_7, trip.sl.H13_8,
    trip.sl.H8_1, trip.sl.H8_2, trip.sl.H8_3, trip.sl.H8_4, trip.sl.H8_5, trip.sl.H8_6, trip.sl.H8_7, trip.sl.H9_1, trip.sl.H9_2, trip.sl.H9_3,
    trip.sl.H9_4, trip.sl.H9_5, trip.sl.H9_6, trip.sl.H9_7]
    all_goals try simp (disch := decide) only [readAt_hit, readAt_skip, View.writes_nil]
  all_goals rfl

set_option maxHeartbeats 2000000 in
/-- The scores a trip hands on. -/
theorem trip_z : (trip c i arg3 harg3 arg4 harg4 arg5 harg5 arg6 harg6 arg7 harg7 arg8 harg8 arg9 harg9 arg10 harg10 arg11 harg11 arg12 harg12 arg13 harg13 arg2 v7 v320 v327 v383 f3 f4 f5 k s).1.z = zf (q0 c arg3 f3) (kB3 c i arg4 f4 k) := by
  obtain ⟨f8, f9, f10, f11, f12, f13, z, w⟩ := s
  simp only [trip, trip.sl.cst_361, trip.sl.cst_370, trip.sl.cst_371, trip.sl.cst_373, trip.sl.cst_383, trip.sl.cst_397, trip.sl.v1000, trip.sl.v1001, trip.sl.v1003,
    trip.sl.v1005, trip.sl.v1006, trip.sl.v1008, trip.sl.v1009, trip.sl.v1011, trip.sl.v1012, trip.sl.v1013, trip.sl.v1014, trip.sl.v1015, trip.sl.v1016,
    trip.sl.v1017, trip.sl.v1018, trip.sl.v1021, trip.sl.v1024, trip.sl.v1027, trip.sl.v1028, trip.sl.v1029, trip.sl.v1030, trip.sl.v1031, trip.sl.v1034,
    trip.sl.v1035, trip.sl.v1036, trip.sl.v1037, trip.sl.v1038, trip.sl.v1039, trip.sl.v1040, trip.sl.v1041, trip.sl.v1042, trip.sl.v1043, trip.sl.v1049,
    trip.sl.v1050, trip.sl.v1052, trip.sl.v1053, trip.sl.v1055, trip.sl.v1056, trip.sl.v1057, trip.sl.v1059, trip.sl.v1060, trip.sl.v1063, trip.sl.v1065,
    trip.sl.v1067, trip.sl.v1068, trip.sl.v1069, trip.sl.v1070, trip.sl.v1071, trip.sl.v1072, trip.sl.v1073, trip.sl.v1074, trip.sl.v1075, trip.sl.v1077,
    trip.sl.v1079, trip.sl.v1080, trip.sl.v1082, trip.sl.v1083, trip.sl.v1085, trip.sl.v1086, trip.sl.v1087, trip.sl.v1088, trip.sl.v1089, trip.sl.v1090,
    trip.sl.v1091, trip.sl.v1092, trip.sl.v1095, trip.sl.v1098, trip.sl.v1101, trip.sl.v1102, trip.sl.v1103, trip.sl.v1104, trip.sl.v1105, trip.sl.v1108,
    trip.sl.v1109, trip.sl.v1110, trip.sl.v1111, trip.sl.v1112, trip.sl.v1113, trip.sl.v1114, trip.sl.v1115, trip.sl.v1116, trip.sl.v1117, trip.sl.v1123,
    trip.sl.v1124, trip.sl.v1126, trip.sl.v1127, trip.sl.v1128, trip.sl.v1129, trip.sl.v539, trip.sl.v540, trip.sl.v542, trip.sl.v544, trip.sl.v545,
    trip.sl.v547, trip.sl.v548, trip.sl.v550, trip.sl.v551, trip.sl.v552, trip.sl.v553, trip.sl.v554, trip.sl.v555, trip.sl.v556, trip.sl.v557,
    trip.sl.v559, trip.sl.v560, trip.sl.v561, trip.sl.v562, trip.sl.v563, trip.sl.v564, trip.sl.v565, trip.sl.v566, trip.sl.v567, trip.sl.v568,
    trip.sl.v569, trip.sl.v571, trip.sl.v572, trip.sl.v574, trip.sl.v575, trip.sl.v577, trip.sl.v578, trip.sl.v579, trip.sl.v580, trip.sl.v581,
    trip.sl.v582, trip.sl.v584, trip.sl.v585, trip.sl.v587, trip.sl.v588, trip.sl.v589, trip.sl.v590, trip.sl.v591, trip.sl.v592, trip.sl.v594,
    trip.sl.v595, trip.sl.v597, trip.sl.v599, trip.sl.v600, trip.sl.v601, trip.sl.v603, trip.sl.v604, trip.sl.v606, trip.sl.v607, trip.sl.v608,
    trip.sl.v610, trip.sl.v611, trip.sl.v613, trip.sl.v619, trip.sl.v620, trip.sl.v621, trip.sl.v622, trip.sl.v623, trip.sl.v624, trip.sl.v625,
    trip.sl.v626, trip.sl.v628, trip.sl.v630, trip.sl.v631, trip.sl.v633, trip.sl.v634, trip.sl.v636, trip.sl.v637, trip.sl.v638, trip.sl.v639,
    trip.sl.v640, trip.sl.v641, trip.sl.v642, trip.sl.v643, trip.sl.v644, trip.sl.v645, trip.sl.v646, trip.sl.v647, trip.sl.v648, trip.sl.v649,
    trip.sl.v650, trip.sl.v651, trip.sl.v652, trip.sl.v653, trip.sl.v654, trip.sl.v655, trip.sl.v656, trip.sl.v657, trip.sl.v658, trip.sl.v659,
    trip.sl.v660, trip.sl.v661, trip.sl.v662, trip.sl.v663, trip.sl.v664, trip.sl.v665, trip.sl.v666, trip.sl.v667, trip.sl.v668, trip.sl.v674,
    trip.sl.v675, trip.sl.v677, trip.sl.v678, trip.sl.v680, trip.sl.v681, trip.sl.v682, trip.sl.v684, trip.sl.v685, trip.sl.v687, trip.sl.v693,
    trip.sl.v694, trip.sl.v695, trip.sl.v696, trip.sl.v697, trip.sl.v698, trip.sl.v699, trip.sl.v700, trip.sl.v702, trip.sl.v704, trip.sl.v705,
    trip.sl.v707, trip.sl.v708, trip.sl.v710, trip.sl.v711, trip.sl.v712, trip.sl.v713, trip.sl.v714, trip.sl.v715, trip.sl.v716, trip.sl.v717,
    trip.sl.v718, trip.sl.v719, trip.sl.v720, trip.sl.v721, trip.sl.v722, trip.sl.v723, trip.sl.v724, trip.sl.v725, trip.sl.v726, trip.sl.v727,
    trip.sl.v728, trip.sl.v729, trip.sl.v730, trip.sl.v731, trip.sl.v732, trip.sl.v733, trip.sl.v734, trip.sl.v735, trip.sl.v736, trip.sl.v737,
    trip.sl.v738, trip.sl.v739, trip.sl.v740, trip.sl.v741, trip.sl.v742, trip.sl.v748, trip.sl.v749, trip.sl.v751, trip.sl.v752, trip.sl.v754,
    trip.sl.v755, trip.sl.v756, trip.sl.v758, trip.sl.v759, trip.sl.v761, trip.sl.v762, trip.sl.v764, trip.sl.v766, trip.sl.v767, trip.sl.v768,
    trip.sl.v769, trip.sl.v770, trip.sl.v771, trip.sl.v772, trip.sl.v773, trip.sl.v774, trip.sl.v776, trip.sl.v778, trip.sl.v779, trip.sl.v781,
    trip.sl.v782, trip.sl.v784, trip.sl.v785, trip.sl.v786, trip.sl.v787, trip.sl.v788, trip.sl.v789, trip.sl.v790, trip.sl.v791, trip.sl.v792,
    trip.sl.v793, trip.sl.v794, trip.sl.v795, trip.sl.v796, trip.sl.v797, trip.sl.v798, trip.sl.v799, trip.sl.v800, trip.sl.v801, trip.sl.v802,
    trip.sl.v803, trip.sl.v804, trip.sl.v805, trip.sl.v806, trip.sl.v807, trip.sl.v808, trip.sl.v809, trip.sl.v810, trip.sl.v811, trip.sl.v812,
    trip.sl.v813, trip.sl.v814, trip.sl.v815, trip.sl.v816, trip.sl.v822, trip.sl.v823, trip.sl.v825, trip.sl.v826, trip.sl.v828, trip.sl.v829,
    trip.sl.v830, trip.sl.v832, trip.sl.v833, trip.sl.v837, trip.sl.v838, trip.sl.v846, trip.sl.v847, trip.sl.v848, trip.sl.v849, trip.sl.v850,
    trip.sl.v851, trip.sl.v852, trip.sl.v853, trip.sl.v855, trip.sl.v857, trip.sl.v858, trip.sl.v860, trip.sl.v861, trip.sl.v863, trip.sl.v864,
    trip.sl.v865, trip.sl.v866, trip.sl.v867, trip.sl.v868, trip.sl.v869, trip.sl.v870, trip.sl.v873, trip.sl.v874, trip.sl.v875, trip.sl.v876,
    trip.sl.v877, trip.sl.v878, trip.sl.v879, trip.sl.v880, trip.sl.v881, trip.sl.v882, trip.sl.v883, trip.sl.v886, trip.sl.v887, trip.sl.v888,
    trip.sl.v889, trip.sl.v890, trip.sl.v891, trip.sl.v892, trip.sl.v893, trip.sl.v894, trip.sl.v895, trip.sl.v900, trip.sl.v901, trip.sl.v902,
    trip.sl.v904, trip.sl.v905, trip.sl.v907, trip.sl.v908, trip.sl.v909, trip.sl.v911, trip.sl.v912, trip.sl.v920, trip.sl.v921, trip.sl.v922,
    trip.sl.v923, trip.sl.v924, trip.sl.v925, trip.sl.v926, trip.sl.v927, trip.sl.v929, trip.sl.v931, trip.sl.v932, trip.sl.v934, trip.sl.v935,
    trip.sl.v937, trip.sl.v938, trip.sl.v939, trip.sl.v940, trip.sl.v941, trip.sl.v942, trip.sl.v943, trip.sl.v944, trip.sl.v947, trip.sl.v948,
    trip.sl.v949, trip.sl.v950, trip.sl.v951, trip.sl.v952, trip.sl.v953, trip.sl.v954, trip.sl.v955, trip.sl.v956, trip.sl.v957, trip.sl.v960,
    trip.sl.v961, trip.sl.v962, trip.sl.v963, trip.sl.v964, trip.sl.v965, trip.sl.v966, trip.sl.v967, trip.sl.v968, trip.sl.v969, trip.sl.v975,
    trip.sl.v976, trip.sl.v978, trip.sl.v979, trip.sl.v981, trip.sl.v982, trip.sl.v983, trip.sl.v985, trip.sl.v986, trip.sl.v994, trip.sl.v995,
    trip.sl.v996, trip.sl.v997, trip.sl.v998, trip.sl.v999, View.readCov]
  rfl

set_option maxHeartbeats 2000000 in
/-- The suffix sums a trip hands on are those of the block it scored last. -/
theorem trip_w : (trip c i arg3 harg3 arg4 harg4 arg5 harg5 arg6 harg6 arg7 harg7 arg8 harg8 arg9 harg9 arg10 harg10 arg11 harg11 arg12 harg12 arg13 harg13 arg2 v7 v320 v327 v383 f3 f4 f5 k s).1.w = sf v7 (row0 c arg8 arg9 arg10 arg11 arg12 arg13 (trip c i arg3 harg3 arg4 harg4 arg5 harg5 arg6 harg6 arg7 harg7 arg8 harg8 arg9 harg9 arg10 harg10 arg11 harg11 arg12 harg12 arg13 harg13 arg2 v7 v320 v327 v383 f3 f4 f5 k s).1).hi (row0 c arg8 arg9 arg10 arg11 arg12 arg13 (trip c i arg3 harg3 arg4 harg4 arg5 harg5 arg6 harg6 arg7 harg7 arg8 harg8 arg9 harg9 arg10 harg10 arg11 harg11 arg12 harg12 arg13 harg13 arg2 v7 v320 v327 v383 f3 f4 f5 k s).1).lo := by
  obtain ⟨f8, f9, f10, f11, f12, f13, z, w⟩ := s
  simp only [row0, trip, trip.sl.cst_361, trip.sl.cst_370, trip.sl.cst_371, trip.sl.cst_373, trip.sl.cst_383, trip.sl.cst_397, trip.sl.v1000, trip.sl.v1001, trip.sl.v1003,
    trip.sl.v1005, trip.sl.v1006, trip.sl.v1008, trip.sl.v1009, trip.sl.v1011, trip.sl.v1012, trip.sl.v1013, trip.sl.v1014, trip.sl.v1015, trip.sl.v1016,
    trip.sl.v1017, trip.sl.v1018, trip.sl.v1021, trip.sl.v1024, trip.sl.v1027, trip.sl.v1028, trip.sl.v1029, trip.sl.v1030, trip.sl.v1031, trip.sl.v1034,
    trip.sl.v1035, trip.sl.v1036, trip.sl.v1037, trip.sl.v1038, trip.sl.v1039, trip.sl.v1040, trip.sl.v1041, trip.sl.v1042, trip.sl.v1043, trip.sl.v1049,
    trip.sl.v1050, trip.sl.v1052, trip.sl.v1053, trip.sl.v1055, trip.sl.v1056, trip.sl.v1057, trip.sl.v1059, trip.sl.v1060, trip.sl.v1063, trip.sl.v1065,
    trip.sl.v1067, trip.sl.v1068, trip.sl.v1069, trip.sl.v1070, trip.sl.v1071, trip.sl.v1072, trip.sl.v1073, trip.sl.v1074, trip.sl.v1075, trip.sl.v1077,
    trip.sl.v1079, trip.sl.v1080, trip.sl.v1082, trip.sl.v1083, trip.sl.v1085, trip.sl.v1086, trip.sl.v1087, trip.sl.v1088, trip.sl.v1089, trip.sl.v1090,
    trip.sl.v1091, trip.sl.v1092, trip.sl.v1095, trip.sl.v1098, trip.sl.v1101, trip.sl.v1102, trip.sl.v1103, trip.sl.v1104, trip.sl.v1105, trip.sl.v1108,
    trip.sl.v1109, trip.sl.v1110, trip.sl.v1111, trip.sl.v1112, trip.sl.v1113, trip.sl.v1114, trip.sl.v1115, trip.sl.v1116, trip.sl.v1117, trip.sl.v1123,
    trip.sl.v1124, trip.sl.v1126, trip.sl.v1127, trip.sl.v1128, trip.sl.v1129, trip.sl.v539, trip.sl.v540, trip.sl.v542, trip.sl.v544, trip.sl.v545,
    trip.sl.v547, trip.sl.v548, trip.sl.v550, trip.sl.v551, trip.sl.v552, trip.sl.v553, trip.sl.v554, trip.sl.v555, trip.sl.v556, trip.sl.v557,
    trip.sl.v559, trip.sl.v560, trip.sl.v561, trip.sl.v562, trip.sl.v563, trip.sl.v564, trip.sl.v565, trip.sl.v566, trip.sl.v567, trip.sl.v568,
    trip.sl.v569, trip.sl.v571, trip.sl.v572, trip.sl.v574, trip.sl.v575, trip.sl.v577, trip.sl.v578, trip.sl.v579, trip.sl.v580, trip.sl.v581,
    trip.sl.v582, trip.sl.v584, trip.sl.v585, trip.sl.v587, trip.sl.v588, trip.sl.v589, trip.sl.v590, trip.sl.v591, trip.sl.v592, trip.sl.v594,
    trip.sl.v595, trip.sl.v597, trip.sl.v599, trip.sl.v600, trip.sl.v601, trip.sl.v603, trip.sl.v604, trip.sl.v606, trip.sl.v607, trip.sl.v608,
    trip.sl.v610, trip.sl.v611, trip.sl.v613, trip.sl.v619, trip.sl.v620, trip.sl.v621, trip.sl.v622, trip.sl.v623, trip.sl.v624, trip.sl.v625,
    trip.sl.v626, trip.sl.v628, trip.sl.v630, trip.sl.v631, trip.sl.v633, trip.sl.v634, trip.sl.v636, trip.sl.v637, trip.sl.v638, trip.sl.v639,
    trip.sl.v640, trip.sl.v641, trip.sl.v642, trip.sl.v643, trip.sl.v644, trip.sl.v645, trip.sl.v646, trip.sl.v647, trip.sl.v648, trip.sl.v649,
    trip.sl.v650, trip.sl.v651, trip.sl.v652, trip.sl.v653, trip.sl.v654, trip.sl.v655, trip.sl.v656, trip.sl.v657, trip.sl.v658, trip.sl.v659,
    trip.sl.v660, trip.sl.v661, trip.sl.v662, trip.sl.v663, trip.sl.v664, trip.sl.v665, trip.sl.v666, trip.sl.v667, trip.sl.v668, trip.sl.v674,
    trip.sl.v675, trip.sl.v677, trip.sl.v678, trip.sl.v680, trip.sl.v681, trip.sl.v682, trip.sl.v684, trip.sl.v685, trip.sl.v687, trip.sl.v693,
    trip.sl.v694, trip.sl.v695, trip.sl.v696, trip.sl.v697, trip.sl.v698, trip.sl.v699, trip.sl.v700, trip.sl.v702, trip.sl.v704, trip.sl.v705,
    trip.sl.v707, trip.sl.v708, trip.sl.v710, trip.sl.v711, trip.sl.v712, trip.sl.v713, trip.sl.v714, trip.sl.v715, trip.sl.v716, trip.sl.v717,
    trip.sl.v718, trip.sl.v719, trip.sl.v720, trip.sl.v721, trip.sl.v722, trip.sl.v723, trip.sl.v724, trip.sl.v725, trip.sl.v726, trip.sl.v727,
    trip.sl.v728, trip.sl.v729, trip.sl.v730, trip.sl.v731, trip.sl.v732, trip.sl.v733, trip.sl.v734, trip.sl.v735, trip.sl.v736, trip.sl.v737,
    trip.sl.v738, trip.sl.v739, trip.sl.v740, trip.sl.v741, trip.sl.v742, trip.sl.v748, trip.sl.v749, trip.sl.v751, trip.sl.v752, trip.sl.v754,
    trip.sl.v755, trip.sl.v756, trip.sl.v758, trip.sl.v759, trip.sl.v761, trip.sl.v762, trip.sl.v764, trip.sl.v766, trip.sl.v767, trip.sl.v768,
    trip.sl.v769, trip.sl.v770, trip.sl.v771, trip.sl.v772, trip.sl.v773, trip.sl.v774, trip.sl.v776, trip.sl.v778, trip.sl.v779, trip.sl.v781,
    trip.sl.v782, trip.sl.v784, trip.sl.v785, trip.sl.v786, trip.sl.v787, trip.sl.v788, trip.sl.v789, trip.sl.v790, trip.sl.v791, trip.sl.v792,
    trip.sl.v793, trip.sl.v794, trip.sl.v795, trip.sl.v796, trip.sl.v797, trip.sl.v798, trip.sl.v799, trip.sl.v800, trip.sl.v801, trip.sl.v802,
    trip.sl.v803, trip.sl.v804, trip.sl.v805, trip.sl.v806, trip.sl.v807, trip.sl.v808, trip.sl.v809, trip.sl.v810, trip.sl.v811, trip.sl.v812,
    trip.sl.v813, trip.sl.v814, trip.sl.v815, trip.sl.v816, trip.sl.v822, trip.sl.v823, trip.sl.v825, trip.sl.v826, trip.sl.v828, trip.sl.v829,
    trip.sl.v830, trip.sl.v832, trip.sl.v833, trip.sl.v837, trip.sl.v838, trip.sl.v846, trip.sl.v847, trip.sl.v848, trip.sl.v849, trip.sl.v850,
    trip.sl.v851, trip.sl.v852, trip.sl.v853, trip.sl.v855, trip.sl.v857, trip.sl.v858, trip.sl.v860, trip.sl.v861, trip.sl.v863, trip.sl.v864,
    trip.sl.v865, trip.sl.v866, trip.sl.v867, trip.sl.v868, trip.sl.v869, trip.sl.v870, trip.sl.v873, trip.sl.v874, trip.sl.v875, trip.sl.v876,
    trip.sl.v877, trip.sl.v878, trip.sl.v879, trip.sl.v880, trip.sl.v881, trip.sl.v882, trip.sl.v883, trip.sl.v886, trip.sl.v887, trip.sl.v888,
    trip.sl.v889, trip.sl.v890, trip.sl.v891, trip.sl.v892, trip.sl.v893, trip.sl.v894, trip.sl.v895, trip.sl.v900, trip.sl.v901, trip.sl.v902,
    trip.sl.v904, trip.sl.v905, trip.sl.v907, trip.sl.v908, trip.sl.v909, trip.sl.v911, trip.sl.v912, trip.sl.v920, trip.sl.v921, trip.sl.v922,
    trip.sl.v923, trip.sl.v924, trip.sl.v925, trip.sl.v926, trip.sl.v927, trip.sl.v929, trip.sl.v931, trip.sl.v932, trip.sl.v934, trip.sl.v935,
    trip.sl.v937, trip.sl.v938, trip.sl.v939, trip.sl.v940, trip.sl.v941, trip.sl.v942, trip.sl.v943, trip.sl.v944, trip.sl.v947, trip.sl.v948,
    trip.sl.v949, trip.sl.v950, trip.sl.v951, trip.sl.v952, trip.sl.v953, trip.sl.v954, trip.sl.v955, trip.sl.v956, trip.sl.v957, trip.sl.v960,
    trip.sl.v961, trip.sl.v962, trip.sl.v963, trip.sl.v964, trip.sl.v965, trip.sl.v966, trip.sl.v967, trip.sl.v968, trip.sl.v969, trip.sl.v975,
    trip.sl.v976, trip.sl.v978, trip.sl.v979, trip.sl.v981, trip.sl.v982, trip.sl.v983, trip.sl.v985, trip.sl.v986, trip.sl.v994, trip.sl.v995,
    trip.sl.v996, trip.sl.v997, trip.sl.v998, trip.sl.v999, View.readCov]
  simp only [trip.sl.H10_1, trip.sl.H10_2, trip.sl.H10_3, trip.sl.H10_4, trip.sl.H10_5, trip.sl.H10_6, trip.sl.H10_7, trip.sl.H10_8, trip.sl.H11_1, trip.sl.H11_2,
    trip.sl.H11_3, trip.sl.H11_4, trip.sl.H11_5, trip.sl.H11_6, trip.sl.H11_7, trip.sl.H12_1, trip.sl.H12_2, trip.sl.H12_3, trip.sl.H12_4, trip.sl.H12_5,
    trip.sl.H12_6, trip.sl.H12_7, trip.sl.H13_1, trip.sl.H13_2, trip.sl.H13_3, trip.sl.H13_4, trip.sl.H13_5, trip.sl.H13_6, trip.sl.H13_7, trip.sl.H13_8,
    trip.sl.H8_1, trip.sl.H8_2, trip.sl.H8_3, trip.sl.H8_4, trip.sl.H8_5, trip.sl.H8_6, trip.sl.H8_7, trip.sl.H9_1, trip.sl.H9_2, trip.sl.H9_3,
    trip.sl.H9_4, trip.sl.H9_5, trip.sl.H9_6, trip.sl.H9_7]
  simp (disch := decide) only [readAt_hit, readAt_skip]
  rfl

end Cert.Proof.SBI

end
-- ==== Proof.PI.Start.lean ====
module

public import proofs.«01_k».proof.Proof.PI.Body
public import proofs.«01_k».proof.Proof.PI.Rows
public import proofs.«01_k».proof.Proof.Gen.KernelIdeal.Skeleton
public import proofs.«01_k».proof.Proof.Gen.KernelIdeal.Loops
public import Idealize.ShloMosaic.Lib.Tactic
public import Idealize.ShloMosaic.Lib.LoopRemainder

@[expose] public section

set_option maxRecDepth 16384

noncomputable section

namespace Cert.Proof.SBI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the frame kit. -/
local notation "𝕄" => MT nD τ sig Unit (Elt F) ℕ (UR sig nD τ) ℕ

/-! ## The rows without the buffers -/

/-- The strictly lower triangle of ones: key column by key row. -/
def tri : FVec F S256x256 .bf16 :=
  truncf .bf16 (sitofp .f32 (extui 32 (cmpi .sgt (iota .tc S256x256 32 [0] iota_S256x256_d0_w32) (iota .tc S256x256 32 [1] iota_S256x256_d1_w32)) (by decide))) bitsLt_bf16_f32

/-- A block of 128 query rows. -/
def qb (x : Vec F S1x512x128 .bf16) (r : Fin 4) : Vec F S1x128x128 .bf16 :=
  View.ld x (Rect.unit (s := S1x512x128) ![0, 128 * r.val, 0] S1x128x128.size (inbq r))

theorem inbk (n : Nat) : ∀ a, (![0, 256 * (n % 16), 0] : Fin 3 → Nat) a + S1x256x128.size a ≤ S1x4096x128.size a := by
  have h : ∀ m : Fin 16, ∀ a, (![0, 256 * m.val, 0] : Fin 3 → Nat) a + S1x256x128.size a ≤ S1x4096x128.size a := by decide
  exact h ⟨n % 16, Nat.mod_lt _ (by decide)⟩

/-- A block of 256 key or value rows. -/
def kb (x : Vec F S1x4096x128 .bf16) (n : Nat) : Vec F S1x256x128 .bf16 :=
  View.ld x (Rect.unit (s := S1x4096x128) ![0, 256 * (n % 16), 0] S1x256x128.size (inbk n))

/-- Where the mask keeps a score: the key's position before the row's. -/
def msk (co off : BitVec 32) : IVec S128x256 1 :=
  cmpi .slt (addi (iota .tc S128x256 32 [1] iota_S128x256_d1_w32) (broadcast S128x256 co)) (addi (iota .tc S128x256 32 [0] iota_S128x256_d0_w32) (broadcast S128x256 off))

/-- Masked log-keeps. -/
def mlk (co off : BitVec 32) (z : FVec F S128x256 .f32) : FVec F S128x256 .f32 :=
  select (msk co off) (k0_pay7 z) (broadcast S128x256 (Scalar.ofBits .f32 0#32))

/-- The first block scored by 128 rows, the mask cutting it. -/
def start (co off : BitVec 32) (q : Vec F S1x128x128 .bf16) (k : Vec F S1x256x128 .bf16) : Row F where
  acc := fun _ => Scalar.ofBits .f32 0#32
  run := fun _ => Scalar.ofBits .f32 0#32
  lb := k0_pay10 (select (msk co off) (k0_pay6 (zf q k)) (broadcast S128x256 (Named.named κ "mask" 0xF149F2CA#32)))
  hi := k0_pay11 (truncf .bf16 (mlk co off (zf q k)) bitsLt_bf16_f32)
  lo := k0_pay12 (subf (mlk co off (zf q k)) (extf .f32 (truncf .bf16 (mlk co off (zf q k)) bitsLt_bf16_f32) bitsLt_bf16_f32))
  rs := k0_pay13 (mlk co off (zf q k))

/-- From key block `m` down to key block 0. -/
def down (x4 x5 : Vec F S1x4096x128 .bf16) (q : Vec F S1x128x128 .bf16) : Nat → Row F → Row F
  | 0, s => s
  | m + 1, s => down x4 x5 q m (Row.next tri q (kb x4 m) (kb x5 (m + 1)) s)

/-- The accumulator once key block 0 is weighed. -/
def last (x5 : Vec F S1x4096x128 .bf16) (s : Row F) : FVec F S128x128 .f32 := accf s.acc s.run (sf tri s.hi s.lo) s.lb (kb x5 0)

/-- The accumulator of row block `r` of query block `n`. -/
def accRow (x3 : Vec F S1x512x128 .bf16) (x4 x5 : Vec F S1x4096x128 .bf16) (n : Nat) : Fin 4 → FVec F S128x128 .f32
  | 0 => last x5 (down x4 x5 (qb x3 0) (2 * n) (start 0#32 0#32 (qb x3 0) (kb x4 (2 * n))))
  | 1 => last x5 (down x4 x5 (qb x3 1) (2 * n) (start 0#32 128#32 (qb x3 1) (kb x4 (2 * n))))
  | 2 => last x5 (down x4 x5 (qb x3 2) (2 * n + 1) (start 256#32 256#32 (qb x3 2) (kb x4 (2 * n + 1))))
  | 3 => last x5 (down x4 x5 (qb x3 3) (2 * n + 1) (start 256#32 384#32 (qb x3 3) (kb x4 (2 * n + 1))))

/-- Four row blocks, one under the other. -/
def stack (a : Fin 4 → FVec F S128x128 .f32) : Vec F S512x128 .f32 := fun x =>
  a ⟨(x 0).val / 128, by have h : (x 0).val < 512 := (x 0).isLt; omega⟩
    (fun d => match d with | 0 => ⟨(x 0).val % 128, Nat.mod_lt _ (by decide)⟩ | 1 => x 1)

/-- What the body leaves in the result's buffer at query block `n`. -/
def outSpec (n : Nat) (x3 : Vec F S1x512x128 .bf16) (x4 x5 : Vec F S1x4096x128 .bf16) (x6 : Vec F S1x128 .f32) : Vec F S1x512x128 .bf16 :=
  k0_pay2 (stack (accRow x3 x4 x5 n)) x6

/-! ## The offsets -/

theorem coord_lt (i : grid0.Coords) : (i 2).val < 8 := (i 2).isLt

/-- The loop makes as many trips as there are query blocks before this one. -/
theorem trips_eq (i : grid0.Coords) : (k0_t1_loop i).trips = (i 2).val := by
  have h : ∀ n : Fin 8, Scf.trips 0#32 (Scalar.addi 0#32 (Scalar.muli (Scalar.divsi (Scalar.subi (BitVec.ofNat 32 n.val) 0#32) 1#32) 1#32)) 1#32 = n.val := by decide +kernel
  exact h ⟨(i 2).val, coord_lt i⟩

theorem off1_eq (i : grid0.Coords) : k0_off1 i = ![0, 256 * ((2 * (i 2).val + 1) % 16), 0] := by
  have h := coord_lt i
  unfold k0_off1
  dsimp only
  generalize (i 2).val = n at *
  congr 2
  revert h; revert n
  decide +kernel

theorem off2_eq (i : grid0.Coords) : k0_off2 i = ![0, 256 * ((2 * (i 2).val) % 16), 0] := by
  have h := coord_lt i
  unfold k0_off2
  dsimp only
  generalize (i 2).val = n at *
  congr 2
  revert h; revert n
  decide +kernel

theorem off3_eq (i : grid0.Coords) : k0_off3 i = ![0, 256 * ((2 * (i 2).val - 1) % 16), 0] := by
  have h := coord_lt i
  unfold k0_off3
  dsimp only
  generalize (i 2).val = n at *
  congr 2
  revert h; revert n
  decide +kernel

theorem off4_eq (i : grid0.Coords) (k : Fin (k0_t1_loop i).trips) :
    k0_off4 i k 1#32 = ![0, 256 * ((2 * ((i 2).val - k.val) - 1) % 16), 0] ∧ k0_off4 i k 2#32 = ![0, 256 * ((2 * ((i 2).val - k.val) - 2) % 16), 0]
      ∧ k0_off5 i k = ![0, 256 * ((2 * ((i 2).val - k.val)) % 16), 0] ∧ k0_off6 i k = ![0, 256 * ((2 * ((i 2).val - k.val) - 3) % 16), 0] := by
  have h := coord_lt i
  have hk : k.val < (i 2).val := lt_of_lt_of_eq k.isLt (trips_eq i)
  obtain ⟨k, hk'⟩ := k
  unfold k0_off4 k0_off5 k0_off6
  dsimp only at hk ⊢
  clear hk'
  generalize (i 2).val = n at *
  refine ⟨?_, ?_, ?_, ?_⟩ <;> congr 2 <;> (revert hk; revert k; revert h; revert n; decide +kernel)

variable (c : Dev nD) (i : grid0.Coords) (arg3 : Memref sig .tc .vmem S1x512x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x128 .f32) (harg6 : arg6.IsWhole) (arg7 : Memref sig .tc .vmem S1x512x128 .bf16) (harg7 : arg7.IsWhole)
  (arg8 : Memref sig .tc .vmem S512x128 .f32) (harg8 : arg8.IsWhole) (arg9 : Memref sig .tc .vmem S512x128 .f32) (harg9 : arg9.IsWhole)
  (arg10 : Memref sig .tc .vmem S2x512x256 .f32) (harg10 : arg10.IsWhole) (arg11 : Memref sig .tc .vmem S2x512x256 .bf16) (harg11 : arg11.IsWhole)
  (arg12 : Memref sig .tc .vmem S2x512x256 .bf16) (harg12 : arg12.IsWhole) (arg13 : Memref sig .tc .vmem S2x512x128 .f32) (harg13 : arg13.IsWhole)
  (arg2 : BitVec 32) (v7 : FVec F S256x256 .bf16) (v320 : FVec F S128x256 .f32) (v327 : FVec F S128x256 .f32) (v383 : FVec F S128x128 .f32)
  (x3 : Vec F S1x512x128 .bf16) (x4 x5 : Vec F S1x4096x128 .bf16) (x6 : Vec F S1x128 .f32)
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))
  (f12 : Buf (Elt F) (arg12.view.loc (c : Thread nD τ)))
  (f13 : Buf (Elt F) (arg13.view.loc (c : Thread nD τ)))

/-- A block of keys or values, read from its buffer. -/
theorem readAt_kb (m : Memref sig .tc .vmem S1x4096x128 .bf16) (hm : m.IsWhole) (x : Vec F S1x4096x128 .bf16) (off : Fin 3 → Nat) (n : Nat)
    (e : off = ![0, 256 * (n % 16), 0]) (h : ∀ a, off a + S1x256x128.size a ≤ S1x4096x128.size a) :
    m.view.readAt (Elt F) (Rect.unit (s := S1x4096x128) off S1x256x128.size h).toLoadRect (hm.unread x) = kb x n := by
  subst e
  funext y
  exact congrFun (hm.read_unread x) _

/-- A block of queries, read from its buffer. -/
theorem readAt_qb (m : Memref sig .tc .vmem S1x512x128 .bf16) (hm : m.IsWhole) (x : Vec F S1x512x128 .bf16) (off : Fin 3 → Nat) (r : Fin 4)
    (e : off = ![0, 128 * r.val, 0]) (h : ∀ a, off a + S1x128x128.size a ≤ S1x512x128.size a) :
    m.view.readAt (Elt F) (Rect.unit (s := S1x512x128) off S1x128x128.size h).toLoadRect (hm.unread x) = qb x r := by
  subst e
  funext y
  exact congrFun (hm.read_unread x) _

/-- A load after a whole store reads of the stored value. -/
theorem readAt_whole_store {σ : RefSig} {κ : Kind} {sp : Space} {s : Shape} {e : EltTy} {Val : EltTy → Type} (v : View σ κ sp s e) (f : v.ty.Contents Val)
    {off : Fin s.rank → Nat} (inb : ∀ a, off a + s.size a ≤ s.size a) (h : ∀ a, off a = 0) (w : s.Idx → Val e) (L : List (View.Piece Val s e)) (B : LoadRect s) :
    v.readAt Val B (v.writes Val f ((⟨Rect.unit off (no_index s.size) inb, w⟩ : View.Piece Val s e) :: L)) = fun x => w (B.idx x) :=
  funext fun x => congrFun (read_whole_store v f inb h w L) (B.idx x)

/-- The state at the loop's entry. -/
def S0 : St F c arg8 arg9 arg10 arg11 arg12 arg13 :=
  ⟨arg8.view.writes (Elt F) arg8.view.junk (kernelRun.sl.H8_3 i arg3 harg3 arg4 harg4 arg5 harg5 arg8 arg9 arg10 arg11 arg12 arg13 x3 x4 x5),
    arg9.view.writes (Elt F) arg9.view.junk (kernelRun.sl.H9_3 i arg3 harg3 arg4 harg4 arg9 arg13 x3 x4),
    arg10.view.writes (Elt F) f10 (kernelRun.sl.H10_6 i arg3 harg3 arg4 harg4 x3 x4), arg11.view.writes (Elt F) f11 (kernelRun.sl.H11_6 i arg3 harg3 arg4 harg4 x3 x4),
    arg12.view.writes (Elt F) f12 (kernelRun.sl.H12_6 i arg3 harg3 arg4 harg4 x3 x4), arg13.view.writes (Elt F) f13 (kernelRun.sl.H13_6 i arg3 harg3 arg4 harg4 x3 x4),
    kernelRun.sl.v320 i arg3 harg3 arg4 harg4 x3 x4, kernelRun.sl.v327 i arg3 harg3 arg4 harg4 arg11 arg12 x3 x4⟩

end Cert.Proof.SBI

end
-- ==== Proof.PI.Entry.lean ====
module

public import proofs.«01_k».proof.Proof.PI.Start
public import proofs.«01_k».proof.Proof.PI.Rows
public import proofs.«01_k».proof.Proof.Gen.KernelIdeal.Skeleton
public import proofs.«01_k».proof.Proof.Gen.KernelIdeal.Loops
public import Idealize.ShloMosaic.Lib.Tactic
public import Idealize.ShloMosaic.Lib.LoopRemainder

@[expose] public section

set_option maxRecDepth 16384

noncomputable section

namespace Cert.Proof.SBI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the frame kit. -/
local notation "𝕄" => MT nD τ sig Unit (Elt F) ℕ (UR sig nD τ) ℕ

variable (c : Dev nD) (i : grid0.Coords) (arg3 : Memref sig .tc .vmem S1x512x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x128 .f32) (harg6 : arg6.IsWhole) (arg7 : Memref sig .tc .vmem S1x512x128 .bf16) (harg7 : arg7.IsWhole)
  (arg8 : Memref sig .tc .vmem S512x128 .f32) (harg8 : arg8.IsWhole) (arg9 : Memref sig .tc .vmem S512x128 .f32) (harg9 : arg9.IsWhole)
  (arg10 : Memref sig .tc .vmem S2x512x256 .f32) (harg10 : arg10.IsWhole) (arg11 : Memref sig .tc .vmem S2x512x256 .bf16) (harg11 : arg11.IsWhole)
  (arg12 : Memref sig .tc .vmem S2x512x256 .bf16) (harg12 : arg12.IsWhole) (arg13 : Memref sig .tc .vmem S2x512x128 .f32) (harg13 : arg13.IsWhole)
  (arg2 : BitVec 32) (v7 : FVec F S256x256 .bf16) (v320 : FVec F S128x256 .f32) (v327 : FVec F S128x256 .f32) (v383 : FVec F S128x128 .f32)
  (x3 : Vec F S1x512x128 .bf16) (x4 x5 : Vec F S1x4096x128 .bf16) (x6 : Vec F S1x128 .f32)
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))
  (f12 : Buf (Elt F) (arg12.view.loc (c : Thread nD τ)))
  (f13 : Buf (Elt F) (arg13.view.loc (c : Thread nD τ)))

/-- What the body first stores whole is zero. -/
theorem zero_store : (kernelRun.sl.v11 : FVec F S512x128 .f32) = fun _ => Scalar.ofBits .f32 0#32 := rfl

set_option maxHeartbeats 1000000 in
/-- Row block 0 at the loop's entry: key block `2n` scored. -/
theorem entry0 :
    row0 c arg8 arg9 arg10 arg11 arg12 arg13 (S0 c i arg3 harg3 arg4 harg4 arg5 harg5 arg8 arg9 arg10 arg11 arg12 arg13 x3 x4 x5 f10 f11 f12 f13) = start 0#32 0#32 (qb x3 0) (kb x4 (2 * (i 2).val)) := by
  rw [← readAt_qb arg3 harg3 x3 ![0, 0, 0] 0 rfl inb_S1x512x128_S1x128x128_0_0_0, ← readAt_kb arg4 harg4 x4 (k0_off2 i) _ (off2_eq i) (k0_off2_inb i)]
  refine Row.ext ?_ ?_ ?_ ?_ ?_ ?_
  all_goals simp only [S0, row0, row1, row2, row3, kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
  all_goals try simp (disch := decide) only [readAt_hit, readAt_skip, readAt_whole_store]
  iterate 3
    all_goals try simp only [zero_store, kernelRun.sl.v0, kernelRun.sl.v1, kernelRun.sl.v2, kernelRun.sl.v3, kernelRun.sl.v5, kernelRun.sl.v6, kernelRun.sl.v7, kernelRun.sl.v10,
    kernelRun.sl.v14, kernelRun.sl.v16, kernelRun.sl.v17, kernelRun.sl.v19, kernelRun.sl.v20, kernelRun.sl.v22, kernelRun.sl.v24, kernelRun.sl.v25,
    kernelRun.sl.v27, kernelRun.sl.v108, kernelRun.sl.v109, kernelRun.sl.v110, kernelRun.sl.v111, kernelRun.sl.v112, kernelRun.sl.v113,
    kernelRun.sl.v114, kernelRun.sl.v115, kernelRun.sl.v116, kernelRun.sl.v117, kernelRun.sl.v122, kernelRun.sl.v123, kernelRun.sl.v125,
    kernelRun.sl.v126, kernelRun.sl.v128, kernelRun.sl.v130, kernelRun.sl.v131, kernelRun.sl.v133, kernelRun.sl.v139, kernelRun.sl.v140,
    kernelRun.sl.v141, kernelRun.sl.v179, kernelRun.sl.v180, kernelRun.sl.v181, kernelRun.sl.v189, kernelRun.sl.v190, kernelRun.sl.v191,
    kernelRun.sl.v192, kernelRun.sl.v193, kernelRun.sl.v194, kernelRun.sl.v195, kernelRun.sl.v196, kernelRun.sl.v198, kernelRun.sl.v199,
    kernelRun.sl.v200, kernelRun.sl.v201, kernelRun.sl.v203, kernelRun.sl.v204, kernelRun.sl.v205, kernelRun.sl.v206, kernelRun.sl.v207,
    kernelRun.sl.v208, kernelRun.sl.v209, kernelRun.sl.v210, kernelRun.sl.v212, kernelRun.sl.v214, kernelRun.sl.v247, kernelRun.sl.v248,
    kernelRun.sl.v249, kernelRun.sl.v250, kernelRun.sl.v251, kernelRun.sl.v252, kernelRun.sl.v253, kernelRun.sl.v255, kernelRun.sl.v257,
    kernelRun.sl.v258, kernelRun.sl.v260, kernelRun.sl.v261, kernelRun.sl.v263, kernelRun.sl.v264, kernelRun.sl.v265, kernelRun.sl.v266,
    kernelRun.sl.v267, kernelRun.sl.v268, kernelRun.sl.v269, kernelRun.sl.v270, kernelRun.sl.v271, kernelRun.sl.v272, kernelRun.sl.v273,
    kernelRun.sl.v274, kernelRun.sl.v275, kernelRun.sl.v276, kernelRun.sl.v277, kernelRun.sl.v278, kernelRun.sl.v279, kernelRun.sl.v280,
    kernelRun.sl.v281, kernelRun.sl.v282, kernelRun.sl.v283, kernelRun.sl.v284, kernelRun.sl.v285, kernelRun.sl.v286, kernelRun.sl.v287,
    kernelRun.sl.v288, kernelRun.sl.v289, kernelRun.sl.v290, kernelRun.sl.v291, kernelRun.sl.v292, kernelRun.sl.v293, kernelRun.sl.v294,
    kernelRun.sl.v295, kernelRun.sl.v300, kernelRun.sl.v301, kernelRun.sl.v302, kernelRun.sl.v304, kernelRun.sl.v305, kernelRun.sl.v307,
    kernelRun.sl.v308, kernelRun.sl.v309, kernelRun.sl.v311, kernelRun.sl.v312, kernelRun.sl.v315, kernelRun.sl.v317, kernelRun.sl.v319,
    kernelRun.sl.v320, kernelRun.sl.v321, kernelRun.sl.v322, kernelRun.sl.v323, kernelRun.sl.v324, kernelRun.sl.v325, kernelRun.sl.v326,
    kernelRun.sl.v327, kernelRun.sl.v329, kernelRun.sl.v331, kernelRun.sl.v332, kernelRun.sl.v334, kernelRun.sl.v335, kernelRun.sl.v337,
    kernelRun.sl.v338, kernelRun.sl.v339, kernelRun.sl.v340, kernelRun.sl.v341, kernelRun.sl.v342, kernelRun.sl.v343, kernelRun.sl.v344,
    kernelRun.sl.v345, kernelRun.sl.v346, kernelRun.sl.v347, kernelRun.sl.v348, kernelRun.sl.v349, kernelRun.sl.v350, kernelRun.sl.v351,
    kernelRun.sl.v352, kernelRun.sl.v353, kernelRun.sl.v354, kernelRun.sl.v355, kernelRun.sl.v356, kernelRun.sl.v357, kernelRun.sl.v358,
    kernelRun.sl.v359, kernelRun.sl.v360, kernelRun.sl.v361, kernelRun.sl.v362, kernelRun.sl.v363, kernelRun.sl.v364, kernelRun.sl.v365,
    kernelRun.sl.v366, kernelRun.sl.v367, kernelRun.sl.v368, kernelRun.sl.v369, kernelRun.sl.v375, kernelRun.sl.v376, kernelRun.sl.v378,
    kernelRun.sl.v379, kernelRun.sl.v381, kernelRun.sl.v382, kernelRun.sl.v383, kernelRun.sl.v385, kernelRun.sl.v386, kernelRun.sl.v387,
    kernelRun.sl.v388, kernelRun.sl.v389, kernelRun.sl.r_2, kernelRun.sl.r_4, kernelRun.sl.r_5, kernelRun.sl.r, kernelRun.sl.r_3, kernelRun.sl.r_1,
    kernelRun.sl.cst_8, kernelRun.sl.cst_52, kernelRun.sl.cst_240, kernelRun.sl.cst_171, kernelRun.sl.cst_112, kernelRun.sl.cst, kernelRun.sl.cst_74,
    kernelRun.sl.cst_255, View.readCov, cc_eq]
    all_goals try simp only [kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
    all_goals try simp (disch := decide) only [readAt_hit, readAt_skip, readAt_whole_store, View.writes_nil]
  all_goals try simp only [start, Row.next, mlk, cc, tri, msk, lbf, hif, lof, rsf, accf, runf, zf, sf, k0_pay3, k0_pay4, k0_pay5, k0_pay6, k0_pay7, k0_pay8, k0_pay9, k0_pay10, k0_pay11, k0_pay12, k0_pay13, k0_pay14, k0_pay15, k0_pay16, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281]
  all_goals rfl

set_option maxHeartbeats 1000000 in
/-- Row block 1 at the loop's entry: key block `2n` scored. -/
theorem entry1 :
    row1 c arg8 arg9 arg10 arg11 arg12 arg13 (S0 c i arg3 harg3 arg4 harg4 arg5 harg5 arg8 arg9 arg10 arg11 arg12 arg13 x3 x4 x5 f10 f11 f12 f13) = start 0#32 128#32 (qb x3 1) (kb x4 (2 * (i 2).val)) := by
  rw [← readAt_qb arg3 harg3 x3 ![0, 128, 0] 1 rfl inb_S1x512x128_S1x128x128_0_128_0, ← readAt_kb arg4 harg4 x4 (k0_off2 i) _ (off2_eq i) (k0_off2_inb i)]
  refine Row.ext ?_ ?_ ?_ ?_ ?_ ?_
  all_goals simp only [S0, row0, row1, row2, row3, kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
  all_goals try simp (disch := decide) only [readAt_hit, readAt_skip, readAt_whole_store]
  iterate 3
    all_goals try simp only [zero_store, kernelRun.sl.v0, kernelRun.sl.v1, kernelRun.sl.v2, kernelRun.sl.v3, kernelRun.sl.v5, kernelRun.sl.v6, kernelRun.sl.v7, kernelRun.sl.v10,
    kernelRun.sl.v14, kernelRun.sl.v16, kernelRun.sl.v17, kernelRun.sl.v19, kernelRun.sl.v20, kernelRun.sl.v22, kernelRun.sl.v24, kernelRun.sl.v25,
    kernelRun.sl.v27, kernelRun.sl.v108, kernelRun.sl.v109, kernelRun.sl.v110, kernelRun.sl.v111, kernelRun.sl.v112, kernelRun.sl.v113,
    kernelRun.sl.v114, kernelRun.sl.v115, kernelRun.sl.v116, kernelRun.sl.v117, kernelRun.sl.v122, kernelRun.sl.v123, kernelRun.sl.v125,
    kernelRun.sl.v126, kernelRun.sl.v128, kernelRun.sl.v130, kernelRun.sl.v131, kernelRun.sl.v133, kernelRun.sl.v139, kernelRun.sl.v140,
    kernelRun.sl.v141, kernelRun.sl.v179, kernelRun.sl.v180, kernelRun.sl.v181, kernelRun.sl.v189, kernelRun.sl.v190, kernelRun.sl.v191,
    kernelRun.sl.v192, kernelRun.sl.v193, kernelRun.sl.v194, kernelRun.sl.v195, kernelRun.sl.v196, kernelRun.sl.v198, kernelRun.sl.v199,
    kernelRun.sl.v200, kernelRun.sl.v201, kernelRun.sl.v203, kernelRun.sl.v204, kernelRun.sl.v205, kernelRun.sl.v206, kernelRun.sl.v207,
    kernelRun.sl.v208, kernelRun.sl.v209, kernelRun.sl.v210, kernelRun.sl.v212, kernelRun.sl.v214, kernelRun.sl.v247, kernelRun.sl.v248,
    kernelRun.sl.v249, kernelRun.sl.v250, kernelRun.sl.v251, kernelRun.sl.v252, kernelRun.sl.v253, kernelRun.sl.v255, kernelRun.sl.v257,
    kernelRun.sl.v258, kernelRun.sl.v260, kernelRun.sl.v261, kernelRun.sl.v263, kernelRun.sl.v264, kernelRun.sl.v265, kernelRun.sl.v266,
    kernelRun.sl.v267, kernelRun.sl.v268, kernelRun.sl.v269, kernelRun.sl.v270, kernelRun.sl.v271, kernelRun.sl.v272, kernelRun.sl.v273,
    kernelRun.sl.v274, kernelRun.sl.v275, kernelRun.sl.v276, kernelRun.sl.v277, kernelRun.sl.v278, kernelRun.sl.v279, kernelRun.sl.v280,
    kernelRun.sl.v281, kernelRun.sl.v282, kernelRun.sl.v283, kernelRun.sl.v284, kernelRun.sl.v285, kernelRun.sl.v286, kernelRun.sl.v287,
    kernelRun.sl.v288, kernelRun.sl.v289, kernelRun.sl.v290, kernelRun.sl.v291, kernelRun.sl.v292, kernelRun.sl.v293, kernelRun.sl.v294,
    kernelRun.sl.v295, kernelRun.sl.v300, kernelRun.sl.v301, kernelRun.sl.v302, kernelRun.sl.v304, kernelRun.sl.v305, kernelRun.sl.v307,
    kernelRun.sl.v308, kernelRun.sl.v309, kernelRun.sl.v311, kernelRun.sl.v312, kernelRun.sl.v315, kernelRun.sl.v317, kernelRun.sl.v319,
    kernelRun.sl.v320, kernelRun.sl.v321, kernelRun.sl.v322, kernelRun.sl.v323, kernelRun.sl.v324, kernelRun.sl.v325, kernelRun.sl.v326,
    kernelRun.sl.v327, kernelRun.sl.v329, kernelRun.sl.v331, kernelRun.sl.v332, kernelRun.sl.v334, kernelRun.sl.v335, kernelRun.sl.v337,
    kernelRun.sl.v338, kernelRun.sl.v339, kernelRun.sl.v340, kernelRun.sl.v341, kernelRun.sl.v342, kernelRun.sl.v343, kernelRun.sl.v344,
    kernelRun.sl.v345, kernelRun.sl.v346, kernelRun.sl.v347, kernelRun.sl.v348, kernelRun.sl.v349, kernelRun.sl.v350, kernelRun.sl.v351,
    kernelRun.sl.v352, kernelRun.sl.v353, kernelRun.sl.v354, kernelRun.sl.v355, kernelRun.sl.v356, kernelRun.sl.v357, kernelRun.sl.v358,
    kernelRun.sl.v359, kernelRun.sl.v360, kernelRun.sl.v361, kernelRun.sl.v362, kernelRun.sl.v363, kernelRun.sl.v364, kernelRun.sl.v365,
    kernelRun.sl.v366, kernelRun.sl.v367, kernelRun.sl.v368, kernelRun.sl.v369, kernelRun.sl.v375, kernelRun.sl.v376, kernelRun.sl.v378,
    kernelRun.sl.v379, kernelRun.sl.v381, kernelRun.sl.v382, kernelRun.sl.v383, kernelRun.sl.v385, kernelRun.sl.v386, kernelRun.sl.v387,
    kernelRun.sl.v388, kernelRun.sl.v389, kernelRun.sl.r_2, kernelRun.sl.r_4, kernelRun.sl.r_5, kernelRun.sl.r, kernelRun.sl.r_3, kernelRun.sl.r_1,
    kernelRun.sl.cst_8, kernelRun.sl.cst_52, kernelRun.sl.cst_240, kernelRun.sl.cst_171, kernelRun.sl.cst_112, kernelRun.sl.cst, kernelRun.sl.cst_74,
    kernelRun.sl.cst_255, View.readCov, cc_eq]
    all_goals try simp only [kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
    all_goals try simp (disch := decide) only [readAt_hit, readAt_skip, readAt_whole_store, View.writes_nil]
  all_goals try simp only [start, Row.next, mlk, cc, tri, msk, lbf, hif, lof, rsf, accf, runf, zf, sf, k0_pay3, k0_pay4, k0_pay5, k0_pay6, k0_pay7, k0_pay8, k0_pay9, k0_pay10, k0_pay11, k0_pay12, k0_pay13, k0_pay14, k0_pay15, k0_pay16, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281]
  all_goals rfl

set_option maxHeartbeats 1000000 in
/-- Row block 2 at the loop's entry: key block `2n + 1` weighed, `2n` scored. -/
theorem entry2 :
    row2 c arg8 arg9 arg10 arg11 arg12 arg13 (S0 c i arg3 harg3 arg4 harg4 arg5 harg5 arg8 arg9 arg10 arg11 arg12 arg13 x3 x4 x5 f10 f11 f12 f13) = Row.next tri (qb x3 2) (kb x4 (2 * (i 2).val)) (kb x5 (2 * (i 2).val + 1)) (start 256#32 256#32 (qb x3 2) (kb x4 (2 * (i 2).val + 1))) := by
  rw [← readAt_qb arg3 harg3 x3 ![0, 256, 0] 2 rfl inb_S1x512x128_S1x128x128_0_256_0, ← readAt_kb arg4 harg4 x4 (k0_off2 i) _ (off2_eq i) (k0_off2_inb i), ← readAt_kb arg4 harg4 x4 (k0_off1 i) _ (off1_eq i) (k0_off1_inb i), ← readAt_kb arg5 harg5 x5 (k0_off1 i) _ (off1_eq i) (k0_off1_inb i)]
  refine Row.ext ?_ ?_ ?_ ?_ ?_ ?_
  all_goals simp only [S0, row0, row1, row2, row3, kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
  all_goals try simp (disch := decide) only [readAt_hit, readAt_skip, readAt_whole_store]
  iterate 3
    all_goals try simp only [zero_store, kernelRun.sl.v0, kernelRun.sl.v1, kernelRun.sl.v2, kernelRun.sl.v3, kernelRun.sl.v5, kernelRun.sl.v6, kernelRun.sl.v7, kernelRun.sl.v10,
    kernelRun.sl.v14, kernelRun.sl.v16, kernelRun.sl.v17, kernelRun.sl.v19, kernelRun.sl.v20, kernelRun.sl.v22, kernelRun.sl.v24, kernelRun.sl.v25,
    kernelRun.sl.v27, kernelRun.sl.v108, kernelRun.sl.v109, kernelRun.sl.v110, kernelRun.sl.v111, kernelRun.sl.v112, kernelRun.sl.v113,
    kernelRun.sl.v114, kernelRun.sl.v115, kernelRun.sl.v116, kernelRun.sl.v117, kernelRun.sl.v122, kernelRun.sl.v123, kernelRun.sl.v125,
    kernelRun.sl.v126, kernelRun.sl.v128, kernelRun.sl.v130, kernelRun.sl.v131, kernelRun.sl.v133, kernelRun.sl.v139, kernelRun.sl.v140,
    kernelRun.sl.v141, kernelRun.sl.v179, kernelRun.sl.v180, kernelRun.sl.v181, kernelRun.sl.v189, kernelRun.sl.v190, kernelRun.sl.v191,
    kernelRun.sl.v192, kernelRun.sl.v193, kernelRun.sl.v194, kernelRun.sl.v195, kernelRun.sl.v196, kernelRun.sl.v198, kernelRun.sl.v199,
    kernelRun.sl.v200, kernelRun.sl.v201, kernelRun.sl.v203, kernelRun.sl.v204, kernelRun.sl.v205, kernelRun.sl.v206, kernelRun.sl.v207,
    kernelRun.sl.v208, kernelRun.sl.v209, kernelRun.sl.v210, kernelRun.sl.v212, kernelRun.sl.v214, kernelRun.sl.v247, kernelRun.sl.v248,
    kernelRun.sl.v249, kernelRun.sl.v250, kernelRun.sl.v251, kernelRun.sl.v252, kernelRun.sl.v253, kernelRun.sl.v255, kernelRun.sl.v257,
    kernelRun.sl.v258, kernelRun.sl.v260, kernelRun.sl.v261, kernelRun.sl.v263, kernelRun.sl.v264, kernelRun.sl.v265, kernelRun.sl.v266,
    kernelRun.sl.v267, kernelRun.sl.v268, kernelRun.sl.v269, kernelRun.sl.v270, kernelRun.sl.v271, kernelRun.sl.v272, kernelRun.sl.v273,
    kernelRun.sl.v274, kernelRun.sl.v275, kernelRun.sl.v276, kernelRun.sl.v277, kernelRun.sl.v278, kernelRun.sl.v279, kernelRun.sl.v280,
    kernelRun.sl.v281, kernelRun.sl.v282, kernelRun.sl.v283, kernelRun.sl.v284, kernelRun.sl.v285, kernelRun.sl.v286, kernelRun.sl.v287,
    kernelRun.sl.v288, kernelRun.sl.v289, kernelRun.sl.v290, kernelRun.sl.v291, kernelRun.sl.v292, kernelRun.sl.v293, kernelRun.sl.v294,
    kernelRun.sl.v295, kernelRun.sl.v300, kernelRun.sl.v301, kernelRun.sl.v302, kernelRun.sl.v304, kernelRun.sl.v305, kernelRun.sl.v307,
    kernelRun.sl.v308, kernelRun.sl.v309, kernelRun.sl.v311, kernelRun.sl.v312, kernelRun.sl.v315, kernelRun.sl.v317, kernelRun.sl.v319,
    kernelRun.sl.v320, kernelRun.sl.v321, kernelRun.sl.v322, kernelRun.sl.v323, kernelRun.sl.v324, kernelRun.sl.v325, kernelRun.sl.v326,
    kernelRun.sl.v327, kernelRun.sl.v329, kernelRun.sl.v331, kernelRun.sl.v332, kernelRun.sl.v334, kernelRun.sl.v335, kernelRun.sl.v337,
    kernelRun.sl.v338, kernelRun.sl.v339, kernelRun.sl.v340, kernelRun.sl.v341, kernelRun.sl.v342, kernelRun.sl.v343, kernelRun.sl.v344,
    kernelRun.sl.v345, kernelRun.sl.v346, kernelRun.sl.v347, kernelRun.sl.v348, kernelRun.sl.v349, kernelRun.sl.v350, kernelRun.sl.v351,
    kernelRun.sl.v352, kernelRun.sl.v353, kernelRun.sl.v354, kernelRun.sl.v355, kernelRun.sl.v356, kernelRun.sl.v357, kernelRun.sl.v358,
    kernelRun.sl.v359, kernelRun.sl.v360, kernelRun.sl.v361, kernelRun.sl.v362, kernelRun.sl.v363, kernelRun.sl.v364, kernelRun.sl.v365,
    kernelRun.sl.v366, kernelRun.sl.v367, kernelRun.sl.v368, kernelRun.sl.v369, kernelRun.sl.v375, kernelRun.sl.v376, kernelRun.sl.v378,
    kernelRun.sl.v379, kernelRun.sl.v381, kernelRun.sl.v382, kernelRun.sl.v383, kernelRun.sl.v385, kernelRun.sl.v386, kernelRun.sl.v387,
    kernelRun.sl.v388, kernelRun.sl.v389, kernelRun.sl.r_2, kernelRun.sl.r_4, kernelRun.sl.r_5, kernelRun.sl.r, kernelRun.sl.r_3, kernelRun.sl.r_1,
    kernelRun.sl.cst_8, kernelRun.sl.cst_52, kernelRun.sl.cst_240, kernelRun.sl.cst_171, kernelRun.sl.cst_112, kernelRun.sl.cst, kernelRun.sl.cst_74,
    kernelRun.sl.cst_255, View.readCov, cc_eq]
    all_goals try simp only [kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
    all_goals try simp (disch := decide) only [readAt_hit, readAt_skip, readAt_whole_store, View.writes_nil]
  all_goals try simp only [start, Row.next, mlk, cc, tri, msk, lbf, hif, lof, rsf, accf, runf, zf, sf, k0_pay3, k0_pay4, k0_pay5, k0_pay6, k0_pay7, k0_pay8, k0_pay9, k0_pay10, k0_pay11, k0_pay12, k0_pay13, k0_pay14, k0_pay15, k0_pay16, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281]
  all_goals rfl

set_option maxHeartbeats 1000000 in
/-- Row block 3 at the loop's entry: key block `2n + 1` weighed, `2n` scored. -/
theorem entry3 :
    row3 c arg8 arg9 arg10 arg11 arg12 arg13 (S0 c i arg3 harg3 arg4 harg4 arg5 harg5 arg8 arg9 arg10 arg11 arg12 arg13 x3 x4 x5 f10 f11 f12 f13) = Row.next tri (qb x3 3) (kb x4 (2 * (i 2).val)) (kb x5 (2 * (i 2).val + 1)) (start 256#32 384#32 (qb x3 3) (kb x4 (2 * (i 2).val + 1))) := by
  rw [← readAt_qb arg3 harg3 x3 ![0, 384, 0] 3 rfl inb_S1x512x128_S1x128x128_0_384_0, ← readAt_kb arg4 harg4 x4 (k0_off2 i) _ (off2_eq i) (k0_off2_inb i), ← readAt_kb arg4 harg4 x4 (k0_off1 i) _ (off1_eq i) (k0_off1_inb i), ← readAt_kb arg5 harg5 x5 (k0_off1 i) _ (off1_eq i) (k0_off1_inb i)]
  refine Row.ext ?_ ?_ ?_ ?_ ?_ ?_
  all_goals simp only [S0, row0, row1, row2, row3, kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
  all_goals try simp (disch := decide) only [readAt_hit, readAt_skip, readAt_whole_store]
  iterate 3
    all_goals try simp only [zero_store, kernelRun.sl.v0, kernelRun.sl.v1, kernelRun.sl.v2, kernelRun.sl.v3, kernelRun.sl.v5, kernelRun.sl.v6, kernelRun.sl.v7, kernelRun.sl.v10,
    kernelRun.sl.v14, kernelRun.sl.v16, kernelRun.sl.v17, kernelRun.sl.v19, kernelRun.sl.v20, kernelRun.sl.v22, kernelRun.sl.v24, kernelRun.sl.v25,
    kernelRun.sl.v27, kernelRun.sl.v108, kernelRun.sl.v109, kernelRun.sl.v110, kernelRun.sl.v111, kernelRun.sl.v112, kernelRun.sl.v113,
    kernelRun.sl.v114, kernelRun.sl.v115, kernelRun.sl.v116, kernelRun.sl.v117, kernelRun.sl.v122, kernelRun.sl.v123, kernelRun.sl.v125,
    kernelRun.sl.v126, kernelRun.sl.v128, kernelRun.sl.v130, kernelRun.sl.v131, kernelRun.sl.v133, kernelRun.sl.v139, kernelRun.sl.v140,
    kernelRun.sl.v141, kernelRun.sl.v179, kernelRun.sl.v180, kernelRun.sl.v181, kernelRun.sl.v189, kernelRun.sl.v190, kernelRun.sl.v191,
    kernelRun.sl.v192, kernelRun.sl.v193, kernelRun.sl.v194, kernelRun.sl.v195, kernelRun.sl.v196, kernelRun.sl.v198, kernelRun.sl.v199,
    kernelRun.sl.v200, kernelRun.sl.v201, kernelRun.sl.v203, kernelRun.sl.v204, kernelRun.sl.v205, kernelRun.sl.v206, kernelRun.sl.v207,
    kernelRun.sl.v208, kernelRun.sl.v209, kernelRun.sl.v210, kernelRun.sl.v212, kernelRun.sl.v214, kernelRun.sl.v247, kernelRun.sl.v248,
    kernelRun.sl.v249, kernelRun.sl.v250, kernelRun.sl.v251, kernelRun.sl.v252, kernelRun.sl.v253, kernelRun.sl.v255, kernelRun.sl.v257,
    kernelRun.sl.v258, kernelRun.sl.v260, kernelRun.sl.v261, kernelRun.sl.v263, kernelRun.sl.v264, kernelRun.sl.v265, kernelRun.sl.v266,
    kernelRun.sl.v267, kernelRun.sl.v268, kernelRun.sl.v269, kernelRun.sl.v270, kernelRun.sl.v271, kernelRun.sl.v272, kernelRun.sl.v273,
    kernelRun.sl.v274, kernelRun.sl.v275, kernelRun.sl.v276, kernelRun.sl.v277, kernelRun.sl.v278, kernelRun.sl.v279, kernelRun.sl.v280,
    kernelRun.sl.v281, kernelRun.sl.v282, kernelRun.sl.v283, kernelRun.sl.v284, kernelRun.sl.v285, kernelRun.sl.v286, kernelRun.sl.v287,
    kernelRun.sl.v288, kernelRun.sl.v289, kernelRun.sl.v290, kernelRun.sl.v291, kernelRun.sl.v292, kernelRun.sl.v293, kernelRun.sl.v294,
    kernelRun.sl.v295, kernelRun.sl.v300, kernelRun.sl.v301, kernelRun.sl.v302, kernelRun.sl.v304, kernelRun.sl.v305, kernelRun.sl.v307,
    kernelRun.sl.v308, kernelRun.sl.v309, kernelRun.sl.v311, kernelRun.sl.v312, kernelRun.sl.v315, kernelRun.sl.v317, kernelRun.sl.v319,
    kernelRun.sl.v320, kernelRun.sl.v321, kernelRun.sl.v322, kernelRun.sl.v323, kernelRun.sl.v324, kernelRun.sl.v325, kernelRun.sl.v326,
    kernelRun.sl.v327, kernelRun.sl.v329, kernelRun.sl.v331, kernelRun.sl.v332, kernelRun.sl.v334, kernelRun.sl.v335, kernelRun.sl.v337,
    kernelRun.sl.v338, kernelRun.sl.v339, kernelRun.sl.v340, kernelRun.sl.v341, kernelRun.sl.v342, kernelRun.sl.v343, kernelRun.sl.v344,
    kernelRun.sl.v345, kernelRun.sl.v346, kernelRun.sl.v347, kernelRun.sl.v348, kernelRun.sl.v349, kernelRun.sl.v350, kernelRun.sl.v351,
    kernelRun.sl.v352, kernelRun.sl.v353, kernelRun.sl.v354, kernelRun.sl.v355, kernelRun.sl.v356, kernelRun.sl.v357, kernelRun.sl.v358,
    kernelRun.sl.v359, kernelRun.sl.v360, kernelRun.sl.v361, kernelRun.sl.v362, kernelRun.sl.v363, kernelRun.sl.v364, kernelRun.sl.v365,
    kernelRun.sl.v366, kernelRun.sl.v367, kernelRun.sl.v368, kernelRun.sl.v369, kernelRun.sl.v375, kernelRun.sl.v376, kernelRun.sl.v378,
    kernelRun.sl.v379, kernelRun.sl.v381, kernelRun.sl.v382, kernelRun.sl.v383, kernelRun.sl.v385, kernelRun.sl.v386, kernelRun.sl.v387,
    kernelRun.sl.v388, kernelRun.sl.v389, kernelRun.sl.r_2, kernelRun.sl.r_4, kernelRun.sl.r_5, kernelRun.sl.r, kernelRun.sl.r_3, kernelRun.sl.r_1,
    kernelRun.sl.cst_8, kernelRun.sl.cst_52, kernelRun.sl.cst_240, kernelRun.sl.cst_171, kernelRun.sl.cst_112, kernelRun.sl.cst, kernelRun.sl.cst_74,
    kernelRun.sl.cst_255, View.readCov, cc_eq]
    all_goals try simp only [kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
    all_goals try simp (disch := decide) only [readAt_hit, readAt_skip, readAt_whole_store, View.writes_nil]
  all_goals try simp only [start, Row.next, mlk, cc, tri, msk, lbf, hif, lof, rsf, accf, runf, zf, sf, k0_pay3, k0_pay4, k0_pay5, k0_pay6, k0_pay7, k0_pay8, k0_pay9, k0_pay10, k0_pay11, k0_pay12, k0_pay13, k0_pay14, k0_pay15, k0_pay16, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281]
  all_goals rfl

set_option maxHeartbeats 1000000 in
/-- The score carried into the loop. -/
theorem entry_z :
    (S0 c i arg3 harg3 arg4 harg4 arg5 harg5 arg8 arg9 arg10 arg11 arg12 arg13 x3 x4 x5 f10 f11 f12 f13).z = zf (qb x3 0) (kb x4 (2 * (i 2).val - 1)) := by
  rw [← readAt_qb arg3 harg3 x3 ![0, 0, 0] 0 rfl inb_S1x512x128_S1x128x128_0_0_0, ← readAt_kb arg4 harg4 x4 (k0_off3 i) _ (off3_eq i) (k0_off3_inb i)]
  skip
  all_goals simp only [S0, row0, row1, row2, row3, kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
  all_goals try simp (disch := decide) only [readAt_hit, readAt_skip, readAt_whole_store]
  iterate 3
    all_goals try simp only [zero_store, kernelRun.sl.v0, kernelRun.sl.v1, kernelRun.sl.v2, kernelRun.sl.v3, kernelRun.sl.v5, kernelRun.sl.v6, kernelRun.sl.v7, kernelRun.sl.v10,
    kernelRun.sl.v14, kernelRun.sl.v16, kernelRun.sl.v17, kernelRun.sl.v19, kernelRun.sl.v20, kernelRun.sl.v22, kernelRun.sl.v24, kernelRun.sl.v25,
    kernelRun.sl.v27, kernelRun.sl.v108, kernelRun.sl.v109, kernelRun.sl.v110, kernelRun.sl.v111, kernelRun.sl.v112, kernelRun.sl.v113,
    kernelRun.sl.v114, kernelRun.sl.v115, kernelRun.sl.v116, kernelRun.sl.v117, kernelRun.sl.v122, kernelRun.sl.v123, kernelRun.sl.v125,
    kernelRun.sl.v126, kernelRun.sl.v128, kernelRun.sl.v130, kernelRun.sl.v131, kernelRun.sl.v133, kernelRun.sl.v139, kernelRun.sl.v140,
    kernelRun.sl.v141, kernelRun.sl.v179, kernelRun.sl.v180, kernelRun.sl.v181, kernelRun.sl.v189, kernelRun.sl.v190, kernelRun.sl.v191,
    kernelRun.sl.v192, kernelRun.sl.v193, kernelRun.sl.v194, kernelRun.sl.v195, kernelRun.sl.v196, kernelRun.sl.v198, kernelRun.sl.v199,
    kernelRun.sl.v200, kernelRun.sl.v201, kernelRun.sl.v203, kernelRun.sl.v204, kernelRun.sl.v205, kernelRun.sl.v206, kernelRun.sl.v207,
    kernelRun.sl.v208, kernelRun.sl.v209, kernelRun.sl.v210, kernelRun.sl.v212, kernelRun.sl.v214, kernelRun.sl.v247, kernelRun.sl.v248,
    kernelRun.sl.v249, kernelRun.sl.v250, kernelRun.sl.v251, kernelRun.sl.v252, kernelRun.sl.v253, kernelRun.sl.v255, kernelRun.sl.v257,
    kernelRun.sl.v258, kernelRun.sl.v260, kernelRun.sl.v261, kernelRun.sl.v263, kernelRun.sl.v264, kernelRun.sl.v265, kernelRun.sl.v266,
    kernelRun.sl.v267, kernelRun.sl.v268, kernelRun.sl.v269, kernelRun.sl.v270, kernelRun.sl.v271, kernelRun.sl.v272, kernelRun.sl.v273,
    kernelRun.sl.v274, kernelRun.sl.v275, kernelRun.sl.v276, kernelRun.sl.v277, kernelRun.sl.v278, kernelRun.sl.v279, kernelRun.sl.v280,
    kernelRun.sl.v281, kernelRun.sl.v282, kernelRun.sl.v283, kernelRun.sl.v284, kernelRun.sl.v285, kernelRun.sl.v286, kernelRun.sl.v287,
    kernelRun.sl.v288, kernelRun.sl.v289, kernelRun.sl.v290, kernelRun.sl.v291, kernelRun.sl.v292, kernelRun.sl.v293, kernelRun.sl.v294,
    kernelRun.sl.v295, kernelRun.sl.v300, kernelRun.sl.v301, kernelRun.sl.v302, kernelRun.sl.v304, kernelRun.sl.v305, kernelRun.sl.v307,
    kernelRun.sl.v308, kernelRun.sl.v309, kernelRun.sl.v311, kernelRun.sl.v312, kernelRun.sl.v315, kernelRun.sl.v317, kernelRun.sl.v319,
    kernelRun.sl.v320, kernelRun.sl.v321, kernelRun.sl.v322, kernelRun.sl.v323, kernelRun.sl.v324, kernelRun.sl.v325, kernelRun.sl.v326,
    kernelRun.sl.v327, kernelRun.sl.v329, kernelRun.sl.v331, kernelRun.sl.v332, kernelRun.sl.v334, kernelRun.sl.v335, kernelRun.sl.v337,
    kernelRun.sl.v338, kernelRun.sl.v339, kernelRun.sl.v340, kernelRun.sl.v341, kernelRun.sl.v342, kernelRun.sl.v343, kernelRun.sl.v344,
    kernelRun.sl.v345, kernelRun.sl.v346, kernelRun.sl.v347, kernelRun.sl.v348, kernelRun.sl.v349, kernelRun.sl.v350, kernelRun.sl.v351,
    kernelRun.sl.v352, kernelRun.sl.v353, kernelRun.sl.v354, kernelRun.sl.v355, kernelRun.sl.v356, kernelRun.sl.v357, kernelRun.sl.v358,
    kernelRun.sl.v359, kernelRun.sl.v360, kernelRun.sl.v361, kernelRun.sl.v362, kernelRun.sl.v363, kernelRun.sl.v364, kernelRun.sl.v365,
    kernelRun.sl.v366, kernelRun.sl.v367, kernelRun.sl.v368, kernelRun.sl.v369, kernelRun.sl.v375, kernelRun.sl.v376, kernelRun.sl.v378,
    kernelRun.sl.v379, kernelRun.sl.v381, kernelRun.sl.v382, kernelRun.sl.v383, kernelRun.sl.v385, kernelRun.sl.v386, kernelRun.sl.v387,
    kernelRun.sl.v388, kernelRun.sl.v389, kernelRun.sl.r_2, kernelRun.sl.r_4, kernelRun.sl.r_5, kernelRun.sl.r, kernelRun.sl.r_3, kernelRun.sl.r_1,
    kernelRun.sl.cst_8, kernelRun.sl.cst_52, kernelRun.sl.cst_240, kernelRun.sl.cst_171, kernelRun.sl.cst_112, kernelRun.sl.cst, kernelRun.sl.cst_74,
    kernelRun.sl.cst_255, View.readCov, cc_eq]
    all_goals try simp only [kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
    all_goals try simp (disch := decide) only [readAt_hit, readAt_skip, readAt_whole_store, View.writes_nil]
  all_goals try simp only [start, Row.next, mlk, cc, tri, msk, lbf, hif, lof, rsf, accf, runf, zf, sf, k0_pay3, k0_pay4, k0_pay5, k0_pay6, k0_pay7, k0_pay8, k0_pay9, k0_pay10, k0_pay11, k0_pay12, k0_pay13, k0_pay14, k0_pay15, k0_pay16, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281]
  all_goals rfl

set_option maxHeartbeats 1000000 in
/-- The suffix sums carried into the loop. -/
theorem entry_w :
    (S0 c i arg3 harg3 arg4 harg4 arg5 harg5 arg8 arg9 arg10 arg11 arg12 arg13 x3 x4 x5 f10 f11 f12 f13).w = sf tri (start 0#32 0#32 (qb x3 0) (kb x4 (2 * (i 2).val))).hi (start 0#32 0#32 (qb x3 0) (kb x4 (2 * (i 2).val))).lo := by
  rw [← readAt_qb arg3 harg3 x3 ![0, 0, 0] 0 rfl inb_S1x512x128_S1x128x128_0_0_0, ← readAt_kb arg4 harg4 x4 (k0_off2 i) _ (off2_eq i) (k0_off2_inb i)]
  skip
  all_goals simp only [S0, row0, row1, row2, row3, kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
  all_goals try simp (disch := decide) only [readAt_hit, readAt_skip, readAt_whole_store]
  iterate 3
    all_goals try simp only [zero_store, kernelRun.sl.v0, kernelRun.sl.v1, kernelRun.sl.v2, kernelRun.sl.v3, kernelRun.sl.v5, kernelRun.sl.v6, kernelRun.sl.v7, kernelRun.sl.v10,
    kernelRun.sl.v14, kernelRun.sl.v16, kernelRun.sl.v17, kernelRun.sl.v19, kernelRun.sl.v20, kernelRun.sl.v22, kernelRun.sl.v24, kernelRun.sl.v25,
    kernelRun.sl.v27, kernelRun.sl.v108, kernelRun.sl.v109, kernelRun.sl.v110, kernelRun.sl.v111, kernelRun.sl.v112, kernelRun.sl.v113,
    kernelRun.sl.v114, kernelRun.sl.v115, kernelRun.sl.v116, kernelRun.sl.v117, kernelRun.sl.v122, kernelRun.sl.v123, kernelRun.sl.v125,
    kernelRun.sl.v126, kernelRun.sl.v128, kernelRun.sl.v130, kernelRun.sl.v131, kernelRun.sl.v133, kernelRun.sl.v139, kernelRun.sl.v140,
    kernelRun.sl.v141, kernelRun.sl.v179, kernelRun.sl.v180, kernelRun.sl.v181, kernelRun.sl.v189, kernelRun.sl.v190, kernelRun.sl.v191,
    kernelRun.sl.v192, kernelRun.sl.v193, kernelRun.sl.v194, kernelRun.sl.v195, kernelRun.sl.v196, kernelRun.sl.v198, kernelRun.sl.v199,
    kernelRun.sl.v200, kernelRun.sl.v201, kernelRun.sl.v203, kernelRun.sl.v204, kernelRun.sl.v205, kernelRun.sl.v206, kernelRun.sl.v207,
    kernelRun.sl.v208, kernelRun.sl.v209, kernelRun.sl.v210, kernelRun.sl.v212, kernelRun.sl.v214, kernelRun.sl.v247, kernelRun.sl.v248,
    kernelRun.sl.v249, kernelRun.sl.v250, kernelRun.sl.v251, kernelRun.sl.v252, kernelRun.sl.v253, kernelRun.sl.v255, kernelRun.sl.v257,
    kernelRun.sl.v258, kernelRun.sl.v260, kernelRun.sl.v261, kernelRun.sl.v263, kernelRun.sl.v264, kernelRun.sl.v265, kernelRun.sl.v266,
    kernelRun.sl.v267, kernelRun.sl.v268, kernelRun.sl.v269, kernelRun.sl.v270, kernelRun.sl.v271, kernelRun.sl.v272, kernelRun.sl.v273,
    kernelRun.sl.v274, kernelRun.sl.v275, kernelRun.sl.v276, kernelRun.sl.v277, kernelRun.sl.v278, kernelRun.sl.v279, kernelRun.sl.v280,
    kernelRun.sl.v281, kernelRun.sl.v282, kernelRun.sl.v283, kernelRun.sl.v284, kernelRun.sl.v285, kernelRun.sl.v286, kernelRun.sl.v287,
    kernelRun.sl.v288, kernelRun.sl.v289, kernelRun.sl.v290, kernelRun.sl.v291, kernelRun.sl.v292, kernelRun.sl.v293, kernelRun.sl.v294,
    kernelRun.sl.v295, kernelRun.sl.v300, kernelRun.sl.v301, kernelRun.sl.v302, kernelRun.sl.v304, kernelRun.sl.v305, kernelRun.sl.v307,
    kernelRun.sl.v308, kernelRun.sl.v309, kernelRun.sl.v311, kernelRun.sl.v312, kernelRun.sl.v315, kernelRun.sl.v317, kernelRun.sl.v319,
    kernelRun.sl.v320, kernelRun.sl.v321, kernelRun.sl.v322, kernelRun.sl.v323, kernelRun.sl.v324, kernelRun.sl.v325, kernelRun.sl.v326,
    kernelRun.sl.v327, kernelRun.sl.v329, kernelRun.sl.v331, kernelRun.sl.v332, kernelRun.sl.v334, kernelRun.sl.v335, kernelRun.sl.v337,
    kernelRun.sl.v338, kernelRun.sl.v339, kernelRun.sl.v340, kernelRun.sl.v341, kernelRun.sl.v342, kernelRun.sl.v343, kernelRun.sl.v344,
    kernelRun.sl.v345, kernelRun.sl.v346, kernelRun.sl.v347, kernelRun.sl.v348, kernelRun.sl.v349, kernelRun.sl.v350, kernelRun.sl.v351,
    kernelRun.sl.v352, kernelRun.sl.v353, kernelRun.sl.v354, kernelRun.sl.v355, kernelRun.sl.v356, kernelRun.sl.v357, kernelRun.sl.v358,
    kernelRun.sl.v359, kernelRun.sl.v360, kernelRun.sl.v361, kernelRun.sl.v362, kernelRun.sl.v363, kernelRun.sl.v364, kernelRun.sl.v365,
    kernelRun.sl.v366, kernelRun.sl.v367, kernelRun.sl.v368, kernelRun.sl.v369, kernelRun.sl.v375, kernelRun.sl.v376, kernelRun.sl.v378,
    kernelRun.sl.v379, kernelRun.sl.v381, kernelRun.sl.v382, kernelRun.sl.v383, kernelRun.sl.v385, kernelRun.sl.v386, kernelRun.sl.v387,
    kernelRun.sl.v388, kernelRun.sl.v389, kernelRun.sl.r_2, kernelRun.sl.r_4, kernelRun.sl.r_5, kernelRun.sl.r, kernelRun.sl.r_3, kernelRun.sl.r_1,
    kernelRun.sl.cst_8, kernelRun.sl.cst_52, kernelRun.sl.cst_240, kernelRun.sl.cst_171, kernelRun.sl.cst_112, kernelRun.sl.cst, kernelRun.sl.cst_74,
    kernelRun.sl.cst_255, View.readCov, cc_eq]
    all_goals try simp only [kernelRun.sl.H8_1, kernelRun.sl.H8_2, kernelRun.sl.H8_3, kernelRun.sl.H9_2, kernelRun.sl.H9_3, kernelRun.sl.H10_1, kernelRun.sl.H10_2,
    kernelRun.sl.H10_3, kernelRun.sl.H10_4, kernelRun.sl.H10_5, kernelRun.sl.H10_6, kernelRun.sl.H11_1, kernelRun.sl.H11_2, kernelRun.sl.H11_3,
    kernelRun.sl.H11_4, kernelRun.sl.H11_5, kernelRun.sl.H11_6, kernelRun.sl.H12_1, kernelRun.sl.H12_2, kernelRun.sl.H12_3, kernelRun.sl.H12_4,
    kernelRun.sl.H12_5, kernelRun.sl.H12_6, kernelRun.sl.H13_1, kernelRun.sl.H13_2, kernelRun.sl.H13_3, kernelRun.sl.H13_4, kernelRun.sl.H13_5,
    kernelRun.sl.H13_6]
    all_goals try simp (disch := decide) only [readAt_hit, readAt_skip, readAt_whole_store, View.writes_nil]
  all_goals try simp only [start, Row.next, mlk, cc, tri, msk, lbf, hif, lof, rsf, accf, runf, zf, sf, k0_pay3, k0_pay4, k0_pay5, k0_pay6, k0_pay7, k0_pay8, k0_pay9, k0_pay10, k0_pay11, k0_pay12, k0_pay13, k0_pay14, k0_pay15, k0_pay16, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281]
  all_goals rfl

end Cert.Proof.SBI

end
-- ==== Proof.PI.Fin.lean ====
module

public import proofs.«01_k».proof.Proof.PI.Entry
public import Idealize.ShloMosaic.Lib.Pipeline.ValueKit.Basic
public import proofs.«01_k».proof.Proof.PI.Rows
public import proofs.«01_k».proof.Proof.Gen.KernelIdeal.Skeleton
public import proofs.«01_k».proof.Proof.Gen.KernelIdeal.Loops
public import Idealize.ShloMosaic.Lib.Tactic
public import Idealize.ShloMosaic.Lib.LoopRemainder

@[expose] public section

set_option maxRecDepth 16384

noncomputable section

namespace Cert.Proof.SBI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the frame kit. -/
local notation "𝕄" => MT nD τ sig Unit (Elt F) ℕ (UR sig nD τ) ℕ

variable (c : Dev nD) (i : grid0.Coords) (arg3 : Memref sig .tc .vmem S1x512x128 .bf16) (harg3 : arg3.IsWhole)
  (arg4 : Memref sig .tc .vmem S1x4096x128 .bf16) (harg4 : arg4.IsWhole) (arg5 : Memref sig .tc .vmem S1x4096x128 .bf16) (harg5 : arg5.IsWhole)
  (arg6 : Memref sig .tc .vmem S1x128 .f32) (harg6 : arg6.IsWhole) (arg7 : Memref sig .tc .vmem S1x512x128 .bf16) (harg7 : arg7.IsWhole)
  (arg8 : Memref sig .tc .vmem S512x128 .f32) (harg8 : arg8.IsWhole) (arg9 : Memref sig .tc .vmem S512x128 .f32) (harg9 : arg9.IsWhole)
  (arg10 : Memref sig .tc .vmem S2x512x256 .f32) (harg10 : arg10.IsWhole) (arg11 : Memref sig .tc .vmem S2x512x256 .bf16) (harg11 : arg11.IsWhole)
  (arg12 : Memref sig .tc .vmem S2x512x256 .bf16) (harg12 : arg12.IsWhole) (arg13 : Memref sig .tc .vmem S2x512x128 .f32) (harg13 : arg13.IsWhole)
  (arg2 : BitVec 32) (v7 : FVec F S256x256 .bf16) (v320 : FVec F S128x256 .f32) (v327 : FVec F S128x256 .f32) (v383 : FVec F S128x128 .f32)
  (x3 : Vec F S1x512x128 .bf16) (x4 x5 : Vec F S1x4096x128 .bf16) (x6 : Vec F S1x128 .f32)
  (f8 : Buf (Elt F) (arg8.view.loc (c : Thread nD τ)))
  (f9 : Buf (Elt F) (arg9.view.loc (c : Thread nD τ)))
  (f10 : Buf (Elt F) (arg10.view.loc (c : Thread nD τ)))
  (f11 : Buf (Elt F) (arg11.view.loc (c : Thread nD τ)))
  (f12 : Buf (Elt F) (arg12.view.loc (c : Thread nD τ)))
  (f13 : Buf (Elt F) (arg13.view.loc (c : Thread nD τ)))

theorem tri_eq : (kernelRun.sl.v7 : FVec F S256x256 .bf16) = tri := rfl

/-- Two blocks down. -/
theorem down_two (q : Vec F S1x128x128 .bf16) (m : Nat) (s : Row F) :
    down x4 x5 q (2 * (m + 1)) s = down x4 x5 q (2 * m) (Row.next tri q (kb x4 (2 * m)) (kb x5 (2 * m + 1)) (Row.next tri q (kb x4 (2 * m + 1)) (kb x5 (2 * m + 2)) s)) := rfl

/-- The state before trip `k`, the loop entered at `S0`. -/
def stA (k : Nat) : St F c arg8 arg9 arg10 arg11 arg12 arg13 := (st c i arg3 harg3 arg4 harg4 arg5 harg5 arg6 harg6 arg7 harg7 arg8 harg8 arg9 harg9 arg10 harg10 arg11 harg11 arg12 harg12 arg13 harg13 (BitVec.ofNat 32 (i 2).val) (kernelRun.sl.v7 : FVec F S256x256 .bf16) (kernelRun.sl.v320 i arg3 harg3 arg4 harg4 x3 x4) (kernelRun.sl.v327 i arg3 harg3 arg4 harg4 arg11 arg12 x3 x4) (constant S128x128 .f32 0#32) (harg3.unread x3) (harg4.unread x4) (harg5.unread x5) (S0 c i arg3 harg3 arg4 harg4 arg5 harg5 arg8 arg9 arg10 arg11 arg12 arg13 x3 x4 x5 f10 f11 f12 f13) k)

theorem stA_succ (k : Nat) (hk : k < (k0_t1_loop i).trips) :
    stA c i arg3 harg3 arg4 harg4 arg5 harg5 arg6 harg6 arg7 harg7 arg8 harg8 arg9 harg9 arg10 harg10 arg11 harg11 arg12 harg12 arg13 harg13 x3 x4 x5 f10 f11 f12 f13 (k + 1) = (trip c i arg3 harg3 arg4 harg4 arg5 harg5 arg6 harg6 arg7 harg7 arg8 harg8 arg9 harg9 arg10 harg10 arg11 harg11 arg12 harg12 arg13 harg13 (BitVec.ofNat 32 (i 2).val) (kernelRun.sl.v7 : FVec F S256x256 .bf16) (kernelRun.sl.v320 i arg3 harg3 arg4 harg4 x3 x4) (kernelRun.sl.v327 i arg3 harg3 arg4 harg4 arg11 arg12 x3 x4) (constant S128x128 .f32 0#32) (harg3.unread x3) (harg4.unread x4) (harg5.unread x5) ⟨k, hk⟩ (stA c i arg3 harg3 arg4 harg4 arg5 harg5 arg6 harg6 arg7 harg7 arg8 harg8 arg9 harg9 arg10 harg10 arg11 harg11 arg12 harg12 arg13 harg13 x3 x4 x5 f10 f11 f12 f13 k)).1 := dif_pos hk

/-- What is left to weigh and score, before trip `k`. -/
theorem rows_at (k : Nat) (hk : k ≤ (i 2).val) :
    down x4 x5 (qb x3 0) (2 * ((i 2).val - k)) (row0 c arg8 arg9 arg10 arg11 arg12 arg13 (stA c i arg3 harg3 arg4 harg4 arg5 harg5 arg6 harg6 arg7 harg7 arg8 harg8 arg9 harg9 arg10 harg10 arg11 harg11 arg12 harg12 arg13 harg13 x3 x4 x5 f10 f11 f12 f13 k)) = down x4 x5 (qb x3 0) (2 * (i 2).val) (row0 c arg8 arg9 arg10 arg11 arg12 arg13 (S0 c i arg3 harg3 arg4 harg4 arg5 harg5 arg8 arg9 arg10 arg11 arg12 arg13 x3 x4 x5 f10 f11 f12 f13))
    ∧ down x4 x5 (qb x3 1) (2 * ((i 2).val - k)) (row1 c arg8 arg9 arg10 arg11 arg12 arg13 (stA c i arg3 harg3 arg4 harg4 arg5 harg5 arg6 harg6 arg7 harg7 arg8 harg8 arg9 harg9 arg10 harg10 arg11 harg11 arg12 harg12 arg13 harg13 x3 x4 x5 f10 f11 f12 f13 k)) = down x4 x5 (qb x3 1) (2 * (i 2).val) (row1 c arg8 arg9 arg10 arg11 arg12 arg13 (S0 c i arg3 harg3 arg4 harg4 arg5 harg5 arg8 arg9 arg10 arg11 arg12 arg13 x3 x4 x5 f10 f11 f12 f13))
    ∧ down x4 x5 (qb x3 2) (2 * ((i 2).val - k)) (row2 c arg8 arg9 arg10 arg11 arg12 arg13 (stA c i arg3 harg3 arg4 harg4 arg5 harg5 arg6 harg6 arg7 harg7 arg8 harg8 arg9 harg9 arg10 harg10 arg11 harg11 arg12 harg12 arg13 harg13 x3 x4 x5 f10 f11 f12 f13 k)) = down x4 x5 (qb x3 2) (2 * (i 2).val) (row2 c arg8 arg9 arg10 arg11 arg12 arg13 (S0 c i arg3 harg3 arg4 harg4 arg5 harg5 arg8 arg9 arg10 arg11 arg12 arg13 x3 x4 x5 f10 f11 f12 f13))
    ∧ down x4 x5 (qb x3 3) (2 * ((i 2).val - k)) (row3 c arg8 arg9 arg10 arg11 arg12 arg13 (stA c i arg3 harg3 arg4 harg4 arg5 harg5 arg6 harg6 arg7 harg7 arg8 harg8 arg9 harg9 arg10 harg10 arg11 harg11 arg12 harg12 arg13 harg13 x3 x4 x5 f10 f11 f12 f13 k)) = down x4 x5 (qb x3 3) (2 * (i 2).val) (row3 c arg8 arg9 arg10 arg11 arg12 arg13 (S0 c i arg3 harg3 arg4 harg4 arg5 harg5 arg8 arg9 arg10 arg11 arg12 arg13 x3 x4 x5 f10 f11 f12 f13))
    ∧ (stA c i arg3 harg3 arg4 harg4 arg5 harg5 arg6 harg6 arg7 harg7 arg8 harg8 arg9 harg9 arg10 harg10 arg11 harg11 arg12 harg12 arg13 harg13 x3 x4 x5 f10 f11 f12 f13 k).z = zf (qb x3 0) (kb x4 (2 * ((i 2).val - k) - 1))
    ∧ (stA c i arg3 harg3 arg4 harg4 arg5 harg5 arg6 harg6 arg7 harg7 arg8 harg8 arg9 harg9 arg10 harg10 arg11 harg11 arg12 harg12 arg13 harg13 x3 x4 x5 f10 f11 f12 f13 k).w = sf tri (row0 c arg8 arg9 arg10 arg11 arg12 arg13 (stA c i arg3 harg3 arg4 harg4 arg5 harg5 arg6 harg6 arg7 harg7 arg8 harg8 arg9 harg9 arg10 harg10 arg11 harg11 arg12 harg12 arg13 harg13 x3 x4 x5 f10 f11 f12 f13 k)).hi (row0 c arg8 arg9 arg10 arg11 arg12 arg13 (stA c i arg3 harg3 arg4 harg4 arg5 harg5 arg6 harg6 arg7 harg7 arg8 harg8 arg9 harg9 arg10 harg10 arg11 harg11 arg12 harg12 arg13 harg13 x3 x4 x5 f10 f11 f12 f13 k)).lo := by
  induction k with
  | zero =>
    refine ⟨rfl, rfl, rfl, rfl, ?_, ?_⟩
    · exact entry_z c i arg3 harg3 arg4 harg4 arg5 harg5 arg8 arg9 arg10 arg11 arg12 arg13 x3 x4 x5 f10 f11 f12 f13
    · refine (entry_w c i arg3 harg3 arg4 harg4 arg5 harg5 arg8 arg9 arg10 arg11 arg12 arg13 x3 x4 x5 f10 f11 f12 f13).trans ?_
      have h : stA c i arg3 harg3 arg4 harg4 arg5 harg5 arg6 harg6 arg7 harg7 arg8 harg8 arg9 harg9 arg10 harg10 arg11 harg11 arg12 harg12 arg13 harg13 x3 x4 x5 f10 f11 f12 f13 0 = S0 c i arg3 harg3 arg4 harg4 arg5 harg5 arg8 arg9 arg10 arg11 arg12 arg13 x3 x4 x5 f10 f11 f12 f13 := rfl
      rw [h, entry0 c i arg3 harg3 arg4 harg4 arg5 harg5 arg8 arg9 arg10 arg11 arg12 arg13 x3 x4 x5 f10 f11 f12 f13]
  | succ k ih =>
    obtain ⟨h0, h1, h2, h3, hz, hw⟩ := ih (by omega)
    have hlt : k < (k0_t1_loop i).trips := by rw [trips_eq]; omega
    obtain ⟨e1, e2, e0, e3⟩ := off4_eq i ⟨k, hlt⟩
    dsimp only at e0 e1 e2 e3
    obtain ⟨m, hm⟩ : ∃ m, (i 2).val - k = m + 1 := ⟨(i 2).val - k - 1, by omega⟩
    have hm' : (i 2).val - (k + 1) = m := by omega
    rw [hm] at e0 e1 e2 e3 h0 h1 h2 h3 hz
    have k1 : kB1 c i arg4 (harg4.unread x4) ⟨k, hlt⟩ = kb x4 (2 * m + 1) := readAt_kb arg4 harg4 x4 _ (2 * m + 1) e1 _
    have k2 : kB2 c i arg4 (harg4.unread x4) ⟨k, hlt⟩ = kb x4 (2 * m) := readAt_kb arg4 harg4 x4 _ (2 * m) e2 _
    have k3 : kB3 c i arg4 (harg4.unread x4) ⟨k, hlt⟩ = kb x4 (2 * m - 1) := readAt_kb arg4 harg4 x4 _ (2 * m - 1) e3 _
    have v0 : vB0 c i arg5 (harg5.unread x5) ⟨k, hlt⟩ = kb x5 (2 * m + 2) := readAt_kb arg5 harg5 x5 _ (2 * m + 2) e0 _
    have v1 : vB1 c i arg5 (harg5.unread x5) ⟨k, hlt⟩ = kb x5 (2 * m + 1) := readAt_kb arg5 harg5 x5 _ (2 * m + 1) e1 _
    have g0 : q0 c arg3 (harg3.unread x3) = qb x3 0 := readAt_qb arg3 harg3 x3 _ 0 rfl _
    have g1 : q1 c arg3 (harg3.unread x3) = qb x3 1 := readAt_qb arg3 harg3 x3 _ 1 rfl _
    have g2 : q2 c arg3 (harg3.unread x3) = qb x3 2 := readAt_qb arg3 harg3 x3 _ 2 rfl _
    have g3 : q3 c arg3 (harg3.unread x3) = qb x3 3 := readAt_qb arg3 harg3 x3 _ 3 rfl _
    have hz' : (stA c i arg3 harg3 arg4 harg4 arg5 harg5 arg6 harg6 arg7 harg7 arg8 harg8 arg9 harg9 arg10 harg10 arg11 harg11 arg12 harg12 arg13 harg13 x3 x4 x5 f10 f11 f12 f13 k).z = zf (q0 c arg3 (harg3.unread x3)) (kB1 c i arg4 (harg4.unread x4) ⟨k, hlt⟩) := by
      rw [g0, k1]; exact hz
    have r0 := trip_row0 c i arg3 harg3 arg4 harg4 arg5 harg5 arg6 harg6 arg7 harg7 arg8 harg8 arg9 harg9 arg10 harg10 arg11 harg11 arg12 harg12 arg13 harg13 (BitVec.ofNat 32 (i 2).val) (kernelRun.sl.v7 : FVec F S256x256 .bf16) (kernelRun.sl.v320 i arg3 harg3 arg4 harg4 x3 x4) (kernelRun.sl.v327 i arg3 harg3 arg4 harg4 arg11 arg12 x3 x4) (constant S128x128 .f32 0#32) (harg3.unread x3) (harg4.unread x4) (harg5.unread x5) ⟨k, hlt⟩ (stA c i arg3 harg3 arg4 harg4 arg5 harg5 arg6 harg6 arg7 harg7 arg8 harg8 arg9 harg9 arg10 harg10 arg11 harg11 arg12 harg12 arg13 harg13 x3 x4 x5 f10 f11 f12 f13 k) hz' hw
    have r1 := trip_row1 c i arg3 harg3 arg4 harg4 arg5 harg5 arg6 harg6 arg7 harg7 arg8 harg8 arg9 harg9 arg10 harg10 arg11 harg11 arg12 harg12 arg13 harg13 (BitVec.ofNat 32 (i 2).val) (kernelRun.sl.v7 : FVec F S256x256 .bf16) (kernelRun.sl.v320 i arg3 harg3 arg4 harg4 x3 x4) (kernelRun.sl.v327 i arg3 harg3 arg4 harg4 arg11 arg12 x3 x4) (constant S128x128 .f32 0#32) (harg3.unread x3) (harg4.unread x4) (harg5.unread x5) ⟨k, hlt⟩ (stA c i arg3 harg3 arg4 harg4 arg5 harg5 arg6 harg6 arg7 harg7 arg8 harg8 arg9 harg9 arg10 harg10 arg11 harg11 arg12 harg12 arg13 harg13 x3 x4 x5 f10 f11 f12 f13 k)
    have r2 := trip_row2 c i arg3 harg3 arg4 harg4 arg5 harg5 arg6 harg6 arg7 harg7 arg8 harg8 arg9 harg9 arg10 harg10 arg11 harg11 arg12 harg12 arg13 harg13 (BitVec.ofNat 32 (i 2).val) (kernelRun.sl.v7 : FVec F S256x256 .bf16) (kernelRun.sl.v320 i arg3 harg3 arg4 harg4 x3 x4) (kernelRun.sl.v327 i arg3 harg3 arg4 harg4 arg11 arg12 x3 x4) (constant S128x128 .f32 0#32) (harg3.unread x3) (harg4.unread x4) (harg5.unread x5) ⟨k, hlt⟩ (stA c i arg3 harg3 arg4 harg4 arg5 harg5 arg6 harg6 arg7 harg7 arg8 harg8 arg9 harg9 arg10 harg10 arg11 harg11 arg12 harg12 arg13 harg13 x3 x4 x5 f10 f11 f12 f13 k)
    have r3 := trip_row3 c i arg3 harg3 arg4 harg4 arg5 harg5 arg6 harg6 arg7 harg7 arg8 harg8 arg9 harg9 arg10 harg10 arg11 harg11 arg12 harg12 arg13 harg13 (BitVec.ofNat 32 (i 2).val) (kernelRun.sl.v7 : FVec F S256x256 .bf16) (kernelRun.sl.v320 i arg3 harg3 arg4 harg4 x3 x4) (kernelRun.sl.v327 i arg3 harg3 arg4 harg4 arg11 arg12 x3 x4) (constant S128x128 .f32 0#32) (harg3.unread x3) (harg4.unread x4) (harg5.unread x5) ⟨k, hlt⟩ (stA c i arg3 harg3 arg4 harg4 arg5 harg5 arg6 harg6 arg7 harg7 arg8 harg8 arg9 harg9 arg10 harg10 arg11 harg11 arg12 harg12 arg13 harg13 x3 x4 x5 f10 f11 f12 f13 k)
    have rz := trip_z c i arg3 harg3 arg4 harg4 arg5 harg5 arg6 harg6 arg7 harg7 arg8 harg8 arg9 harg9 arg10 harg10 arg11 harg11 arg12 harg12 arg13 harg13 (BitVec.ofNat 32 (i 2).val) (kernelRun.sl.v7 : FVec F S256x256 .bf16) (kernelRun.sl.v320 i arg3 harg3 arg4 harg4 x3 x4) (kernelRun.sl.v327 i arg3 harg3 arg4 harg4 arg11 arg12 x3 x4) (constant S128x128 .f32 0#32) (harg3.unread x3) (harg4.unread x4) (harg5.unread x5) ⟨k, hlt⟩ (stA c i arg3 harg3 arg4 harg4 arg5 harg5 arg6 harg6 arg7 harg7 arg8 harg8 arg9 harg9 arg10 harg10 arg11 harg11 arg12 harg12 arg13 harg13 x3 x4 x5 f10 f11 f12 f13 k)
    have rw' := trip_w c i arg3 harg3 arg4 harg4 arg5 harg5 arg6 harg6 arg7 harg7 arg8 harg8 arg9 harg9 arg10 harg10 arg11 harg11 arg12 harg12 arg13 harg13 (BitVec.ofNat 32 (i 2).val) (kernelRun.sl.v7 : FVec F S256x256 .bf16) (kernelRun.sl.v320 i arg3 harg3 arg4 harg4 x3 x4) (kernelRun.sl.v327 i arg3 harg3 arg4 harg4 arg11 arg12 x3 x4) (constant S128x128 .f32 0#32) (harg3.unread x3) (harg4.unread x4) (harg5.unread x5) ⟨k, hlt⟩ (stA c i arg3 harg3 arg4 harg4 arg5 harg5 arg6 harg6 arg7 harg7 arg8 harg8 arg9 harg9 arg10 harg10 arg11 harg11 arg12 harg12 arg13 harg13 x3 x4 x5 f10 f11 f12 f13 k)
    rw [← stA_succ] at r0 r1 r2 r3 rz rw'
    rw [k1, k2, v0, v1, tri_eq] at r0 r1 r2 r3
    rw [g0] at r0 rz
    rw [g1] at r1
    rw [g2] at r2
    rw [g3] at r3
    rw [k3] at rz
    rw [tri_eq] at rw'
    rw [hm', r1, r2, r3, ← down_two, ← down_two, ← down_two]
    refine ⟨?_, h1, h2, h3, rz, rw'⟩
    rw [r0, ← down_two]
    exact h0

/-- The accumulator block `r`, as the body leaves it. -/
theorem acc_end :
    kernelRun.sl.v418 c i arg3 harg3 arg4 harg4 arg5 harg5 arg6 harg6 arg7 harg7 arg8 harg8 arg9 harg9 arg10 harg10 arg11 harg11 arg12 harg12 arg13 harg13 x3 x4 x5 f10 f11 f12 f13 = accRow x3 x4 x5 (i 2).val 0
    ∧ kernelRun.sl.v450 c i arg3 harg3 arg4 harg4 arg5 harg5 arg6 harg6 arg7 harg7 arg8 harg8 arg9 harg9 arg10 harg10 arg11 harg11 arg12 harg12 arg13 harg13 x3 x4 x5 f10 f11 f12 f13 = accRow x3 x4 x5 (i 2).val 1
    ∧ kernelRun.sl.v482 c i arg3 harg3 arg4 harg4 arg5 harg5 arg6 harg6 arg7 harg7 arg8 harg8 arg9 harg9 arg10 harg10 arg11 harg11 arg12 harg12 arg13 harg13 x3 x4 x5 f10 f11 f12 f13 = accRow x3 x4 x5 (i 2).val 2
    ∧ kernelRun.sl.v507 c i arg3 harg3 arg4 harg4 arg5 harg5 arg6 harg6 arg7 harg7 arg8 harg8 arg9 harg9 arg10 harg10 arg11 harg11 arg12 harg12 arg13 harg13 x3 x4 x5 f10 f11 f12 f13 = accRow x3 x4 x5 (i 2).val 3 := by
  obtain ⟨h0, h1, h2, h3, hz, hw⟩ := rows_at c i arg3 harg3 arg4 harg4 arg5 harg5 arg6 harg6 arg7 harg7 arg8 harg8 arg9 harg9 arg10 harg10 arg11 harg11 arg12 harg12 arg13 harg13 x3 x4 x5 f10 f11 f12 f13 (Scf.trips (k0_t1_loop i).lb (k0_t1_loop i).ub (k0_t1_loop i).st) (le_of_eq (trips_eq i))
  rw [show (i 2).val - Scf.trips (k0_t1_loop i).lb (k0_t1_loop i).ub (k0_t1_loop i).st = 0 from Nat.sub_eq_zero_of_le (le_of_eq (trips_eq i).symm), Nat.mul_zero] at h0 h1 h2 h3
  have hv : (View.readAt (Elt F) arg5.view (Rect.unit (s := S1x4096x128) ![0, 0, 0] S1x256x128.size inb_S1x4096x128_S1x256x128_0_0_0).toLoadRect (harg5.unread x5)) = kb x5 0 :=
    readAt_kb arg5 harg5 x5 _ 0 rfl _
  have e0 := (entry0 c i arg3 harg3 arg4 harg4 arg5 harg5 arg8 arg9 arg10 arg11 arg12 arg13 x3 x4 x5 f10 f11 f12 f13)
  have e1 := (entry1 c i arg3 harg3 arg4 harg4 arg5 harg5 arg8 arg9 arg10 arg11 arg12 arg13 x3 x4 x5 f10 f11 f12 f13)
  have e2 := (entry2 c i arg3 harg3 arg4 harg4 arg5 harg5 arg8 arg9 arg10 arg11 arg12 arg13 x3 x4 x5 f10 f11 f12 f13)
  have e3 := (entry3 c i arg3 harg3 arg4 harg4 arg5 harg5 arg8 arg9 arg10 arg11 arg12 arg13 x3 x4 x5 f10 f11 f12 f13)
  have a0 : accRow x3 x4 x5 (i 2).val 0 = last x5 (row0 c arg8 arg9 arg10 arg11 arg12 arg13 (stA c i arg3 harg3 arg4 harg4 arg5 harg5 arg6 harg6 arg7 harg7 arg8 harg8 arg9 harg9 arg10 harg10 arg11 harg11 arg12 harg12 arg13 harg13 x3 x4 x5 f10 f11 f12 f13 (Scf.trips (k0_t1_loop i).lb (k0_t1_loop i).ub (k0_t1_loop i).st))) := by
    unfold accRow; rw [← e0, ← h0]; rfl
  have a1 : accRow x3 x4 x5 (i 2).val 1 = last x5 (row1 c arg8 arg9 arg10 arg11 arg12 arg13 (stA c i arg3 harg3 arg4 harg4 arg5 harg5 arg6 harg6 arg7 harg7 arg8 harg8 arg9 harg9 arg10 harg10 arg11 harg11 arg12 harg12 arg13 harg13 x3 x4 x5 f10 f11 f12 f13 (Scf.trips (k0_t1_loop i).lb (k0_t1_loop i).ub (k0_t1_loop i).st))) := by
    unfold accRow; rw [← e1, ← h1]; rfl
  have a2 : accRow x3 x4 x5 (i 2).val 2 = last x5 (row2 c arg8 arg9 arg10 arg11 arg12 arg13 (stA c i arg3 harg3 arg4 harg4 arg5 harg5 arg6 harg6 arg7 harg7 arg8 harg8 arg9 harg9 arg10 harg10 arg11 harg11 arg12 harg12 arg13 harg13 x3 x4 x5 f10 f11 f12 f13 (Scf.trips (k0_t1_loop i).lb (k0_t1_loop i).ub (k0_t1_loop i).st))) := by
    have h : down x4 x5 (qb x3 2) (2 * (i 2).val + 1) (start 256#32 256#32 (qb x3 2) (kb x4 (2 * (i 2).val + 1))) = _ := congrArg (down x4 x5 (qb x3 2) (2 * (i 2).val)) e2.symm
    unfold accRow; dsimp only; rw [h, ← h2]; rfl
  have a3 : accRow x3 x4 x5 (i 2).val 3 = last x5 (row3 c arg8 arg9 arg10 arg11 arg12 arg13 (stA c i arg3 harg3 arg4 harg4 arg5 harg5 arg6 harg6 arg7 harg7 arg8 harg8 arg9 harg9 arg10 harg10 arg11 harg11 arg12 harg12 arg13 harg13 x3 x4 x5 f10 f11 f12 f13 (Scf.trips (k0_t1_loop i).lb (k0_t1_loop i).ub (k0_t1_loop i).st))) := by
    have h : down x4 x5 (qb x3 3) (2 * (i 2).val + 1) (start 256#32 384#32 (qb x3 3) (kb x4 (2 * (i 2).val + 1))) = _ := congrArg (down x4 x5 (qb x3 3) (2 * (i 2).val)) e3.symm
    unfold accRow; dsimp only; rw [h, ← h3]; rfl
  rw [a0, a1, a2, a3]
  unfold last
  rw [← hw, ← hv, ← tri_eq]
  simp only [stA, S0, row0, row1, row2, row3]
  simp only [kernelRun.sl.v390, kernelRun.sl.v391, kernelRun.sl.v394, kernelRun.sl.v395, kernelRun.sl.v396, kernelRun.sl.v397, kernelRun.sl.v398,
    kernelRun.sl.v399, kernelRun.sl.v400, kernelRun.sl.v401, kernelRun.sl.v402, kernelRun.sl.v403, kernelRun.sl.v404, kernelRun.sl.v405,
    kernelRun.sl.v406, kernelRun.sl.v407, kernelRun.sl.v408, kernelRun.sl.v409, kernelRun.sl.v413, kernelRun.sl.v414, kernelRun.sl.v415,
    kernelRun.sl.v417, kernelRun.sl.v418, kernelRun.sl.v420, kernelRun.sl.v421, kernelRun.sl.v422, kernelRun.sl.v424, kernelRun.sl.v425,
    kernelRun.sl.v426, kernelRun.sl.v427, kernelRun.sl.v428, kernelRun.sl.v429, kernelRun.sl.v430, kernelRun.sl.v431, kernelRun.sl.v432,
    kernelRun.sl.v433, kernelRun.sl.v434, kernelRun.sl.v435, kernelRun.sl.v436, kernelRun.sl.v437, kernelRun.sl.v438, kernelRun.sl.v439,
    kernelRun.sl.v440, kernelRun.sl.v441, kernelRun.sl.v446, kernelRun.sl.v447, kernelRun.sl.v449, kernelRun.sl.v450, kernelRun.sl.v452,
    kernelRun.sl.v453, kernelRun.sl.v454, kernelRun.sl.v456, kernelRun.sl.v457, kernelRun.sl.v458, kernelRun.sl.v459, kernelRun.sl.v460,
    kernelRun.sl.v461, kernelRun.sl.v462, kernelRun.sl.v463, kernelRun.sl.v464, kernelRun.sl.v465, kernelRun.sl.v466, kernelRun.sl.v467,
    kernelRun.sl.v468, kernelRun.sl.v469, kernelRun.sl.v470, kernelRun.sl.v471, kernelRun.sl.v472, kernelRun.sl.v473, kernelRun.sl.v478,
    kernelRun.sl.v479, kernelRun.sl.v481, kernelRun.sl.v482, kernelRun.sl.v484, kernelRun.sl.v485, kernelRun.sl.v486, kernelRun.sl.v488,
    kernelRun.sl.v489, kernelRun.sl.v490, kernelRun.sl.v491, kernelRun.sl.v492, kernelRun.sl.v493, kernelRun.sl.v494, kernelRun.sl.v495,
    kernelRun.sl.v496, kernelRun.sl.v497, kernelRun.sl.v498, kernelRun.sl.v503, kernelRun.sl.v504, kernelRun.sl.v506, kernelRun.sl.v507,
    kernelRun.sl.v509, kernelRun.sl.v515, kernelRun.sl.cst_171, kernelRun.sl.cst_240, kernelRun.sl.cst_255, accf, sf, k0_pay3, k0_pay4, k0_pay5, k0_pay6, k0_pay7, k0_pay8, k0_pay9, k0_pay10, k0_pay11, k0_pay12, k0_pay13, k0_pay14, k0_pay15, k0_pay16, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281]
  generalize Scf.trips (k0_t1_loop i).lb (k0_t1_loop i).ub (k0_t1_loop i).st = N
  cases N with
  | zero => simp only [st, and_self]
  | succ N => simp only [and_self]

/-- Four row blocks stored and loaded whole. -/
theorem read_stack (m : Memref sig .tc .vmem S512x128 .f32) (a : Fin 4 → FVec F S128x128 .f32) :
    m.view.readCov (Val := Elt F) [⟨rect2 3, a 3⟩, ⟨rect2 2, a 2⟩, ⟨rect2 1, a 1⟩, ⟨rect2 0, a 0⟩] (Rect.unit (s := S512x128) ![0, 0] S512x128.size inb_S512x128_S512x128_0_0).toLoadRect = stack a := by
  funext x
  have hx : (x 0).val < 512 := (x 0).isLt
  let y : S128x128.Idx := fun d => match d with | 0 => ⟨(x 0).val % 128, Nat.mod_lt _ (by decide)⟩ | 1 => x 1
  have hs : ∀ r : Fin 4, (x 0).val / 128 = r.val → stack a x = a r y := by
    intro r h
    have hlt : (x 0).val / 128 < 4 := by clear h; omega
    obtain rfl : (⟨(x 0).val / 128, hlt⟩ : Fin 4) = r := Fin.ext h
    rfl
  have hi : ∀ (o : Fin 2 → Nat) (h : ∀ b, o b + S128x128.size b ≤ S512x128.size b), o 0 + (x 0).val % 128 = (x 0).val → o 1 = 0 →
      (Rect.unit (s := S512x128) o S128x128.size h).emb y = (Rect.unit (s := S512x128) ![0, 0] S512x128.size inb_S512x128_S512x128_0_0).toLoadRect.idx x := by
    intro o h h0 h1
    funext b
    apply Fin.ext
    fin_cases b
    · show o 0 + 1 * ((x 0).val % 128) = 0 + 1 * (x 0).val
      omega
    · show o 1 + 1 * (x 1).val = 0 + 1 * (x 1).val
      omega
  have h4 : (x 0).val / 128 = 0 ∨ (x 0).val / 128 = 1 ∨ (x 0).val / 128 = 2 ∨ (x 0).val / 128 = 3 := by omega
  have key : ∀ (r : Fin 4) (R : Rect S512x128) (w : R.shape.Idx → Elt F .f32) (z : R.shape.Idx),
      m.view.readAt (Elt F) R.toLoadRect (m.view.writes (Elt F) m.view.junk [⟨rect2 3, a 3⟩, ⟨rect2 2, a 2⟩, ⟨rect2 1, a 1⟩, ⟨rect2 0, a 0⟩]) = w →
      R.emb z = (Rect.unit (s := S512x128) ![0, 0] S512x128.size inb_S512x128_S512x128_0_0).toLoadRect.idx x →
      m.view.readCov (Val := Elt F) [⟨rect2 3, a 3⟩, ⟨rect2 2, a 2⟩, ⟨rect2 1, a 1⟩, ⟨rect2 0, a 0⟩] (Rect.unit (s := S512x128) ![0, 0] S512x128.size inb_S512x128_S512x128_0_0).toLoadRect x = w z := by
    intro r R w z h hz
    rw [← h]
    show m.view.read (Elt F) _ _ = m.view.read (Elt F) _ _
    rw [← hz]
    rfl
  rcases h4 with h | h | h | h
  · rw [hs 0 h]
    exact key 0 (rect2 0) (a 0) y (by simp (disch := decide) only [readAt_hit, readAt_skip]) (hi _ _ (by show 0 + _ = _; omega) rfl)
  · rw [hs 1 h]
    exact key 1 (rect2 1) (a 1) y (by simp (disch := decide) only [readAt_hit, readAt_skip]) (hi _ _ (by show 128 + _ = _; omega) rfl)
  · rw [hs 2 h]
    exact key 2 (rect2 2) (a 2) y (by simp (disch := decide) only [readAt_hit, readAt_skip]) (hi _ _ (by show 256 + _ = _; omega) rfl)
  · rw [hs 3 h]
    exact key 3 (rect2 3) (a 3) y (by simp (disch := decide) only [readAt_hit, readAt_skip]) (hi _ _ (by show 384 + _ = _; omega) rfl)

/-- The body leaves `outSpec`, whatever was in the buffers before. -/
theorem run_value : (kernelRun c i arg3 harg3 arg4 harg4 arg5 harg5 arg6 harg6 arg7 harg7 arg8 harg8 arg9 harg9 arg10 harg10 arg11 harg11 arg12 harg12 arg13 harg13 x3 x4 x5 x6 f8 f9 f10 f11 f12 f13).1 = outSpec (i 2).val x3 x4 x5 x6 := by
  have h : arg6.view.readAt (Elt F) (Rect.unit (s := S1x128) ![0, 0] S1x128.size inb_S1x128_S1x128_0_0).toLoadRect (harg6.unread x6) = x6 :=
    (funext fun y => congrFun (harg6.read_unread x6) _ : _ = View.ld x6 (Rect.unit (s := S1x128) ![0, 0] S1x128.size inb_S1x128_S1x128_0_0)).trans (View.ld_unit_lit _ x6 (by decide))
  obtain ⟨a0, a1, a2, a3⟩ := acc_end c i arg3 harg3 arg4 harg4 arg5 harg5 arg6 harg6 arg7 harg7 arg8 harg8 arg9 harg9 arg10 harg10 arg11 harg11 arg12 harg12 arg13 harg13 x3 x4 x5 f10 f11 f12 f13
  show k0_pay2 (kernelRun.sl.v515 c i arg3 harg3 arg4 harg4 arg5 harg5 arg6 harg6 arg7 harg7 arg8 harg8 arg9 harg9 arg10 harg10 arg11 harg11 arg12 harg12 arg13 harg13 x3 x4 x5 f10 f11 f12 f13) _ = k0_pay2 _ _
  rw [h]
  congr 1
  simp only [kernelRun.sl.v515, kernelRun.sl.H8_4, kernelRun.sl.H8_1_1, kernelRun.sl.H8_2_1, a0, a1, a2, a3]
  exact read_stack arg8 _

end Cert.Proof.SBI

end
-- ==== Proof.PI.Run.lean ====
module

public import proofs.«01_k».proof.Proof.Gen.KernelIdeal.Frame
public import proofs.«01_k».proof.Proof.PI.Fin
public import proofs.«01_k».proof.Proof.Gen.KernelIdeal.Skeleton
public import proofs.«01_k».proof.Proof.Gen.KernelIdeal.Loops
public import Idealize.ShloMosaic.Lib.Tactic
public import Idealize.ShloMosaic.Lib.LoopRemainder

@[expose] public section

set_option maxRecDepth 16384

noncomputable section

namespace Cert.Proof.SBI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the frame kit. -/
local notation "𝕄" => MT nD τ sig Unit (Elt F) ℕ (UR sig nD τ) ℕ

variable (m : (ℓ : Loc nD τ sig) → Buf (Elt F) ℓ) (ρ : Dev nD → PrngReg)

/-- Window 0's staging buffer at a point. -/
abbrev m0 (t : Fin cfg0.N) := win0_0.stage (cfg0.slots t 0)
/-- It is a whole buffer. -/
abbrev w0 (t : Fin cfg0.N) : (m0 t).IsWhole := hstage0_0 ((cfg0.slots t 0).cast nbuf0_0)
/-- Window 1's staging buffer at a point. -/
abbrev m1 (t : Fin cfg0.N) := win0_1.stage (cfg0.slots t 1)
/-- It is a whole buffer. -/
abbrev w1 (t : Fin cfg0.N) : (m1 t).IsWhole := hstage0_1 ((cfg0.slots t 1).cast nbuf0_1)
/-- Window 2's staging buffer at a point. -/
abbrev m2 (t : Fin cfg0.N) := win0_2.stage (cfg0.slots t 2)
/-- It is a whole buffer. -/
abbrev w2 (t : Fin cfg0.N) : (m2 t).IsWhole := hstage0_2 ((cfg0.slots t 2).cast nbuf0_2)
/-- Window 3's staging buffer at a point. -/
abbrev m3 (t : Fin cfg0.N) := win0_3.stage (cfg0.slots t 3)
/-- It is a whole buffer. -/
abbrev w3 (t : Fin cfg0.N) : (m3 t).IsWhole := hstage0_3 ((cfg0.slots t 3).cast nbuf0_3)
/-- Window 4's staging buffer at a point. -/
abbrev m4 (t : Fin cfg0.N) := win0_4.stage (cfg0.slots t 4)
/-- It is a whole buffer. -/
abbrev w4 (t : Fin cfg0.N) : (m4 t).IsWhole := hstage0_4 ((cfg0.slots t 4).cast nbuf0_4)

/-- The call's data: the inputs at their blocks, the result at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outSpec (cfg0.grid.coords t 2).val (iblk m c 0 t) (iblk m c 1 t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outSpec (cfg0.grid.coords t 2).val (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

set_option maxHeartbeats 1000000 in
/-- The body at one grid point: from the blocks the call hands it, it leaves what `dats` says. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl, after0_0, after0_1, after0_2, after0_3, after0_4]
  rw [show (dats m 0 c).Φ t.castSucc = Pipeline.ΦA spec0 c from rfl]
  unfold Pipeline.ΦA
  rw [scopedRest0_eq, owns_unread (c : Thread nD τ) (w0 t), owns_unread (c : Thread nD τ) (w1 t), owns_unread (c : Thread nD τ) (w2 t), owns_unread (c : Thread nD τ) (w3 t)]
  simp only [owns_unread (c : Thread nD τ) (w4 t)]
  iintro ⟨⟨⟨⟨%f8, H8⟩, ⟨%f9, H9⟩, ⟨%f10, H10⟩, ⟨%f11, H11⟩, ⟨%f12, H12⟩, ⟨%f13, H13⟩⟩, Hr⟩, Ho, ⟨%d0, H0⟩, ⟨%d1, H1⟩, ⟨%d2, H2⟩, ⟨%d3, H3⟩, ⟨%d4, H4⟩⟩
  iapply ((kernelRun c (cfg0.grid.coords t) (m0 t) (w0 t) (m1 t) (w1 t) (m2 t) (w2 t) (m3 t) (w3 t) (m4 t) (w4 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) f8 f9 f10 f11 f12 f13).2 _)
  rw [run_value]
  isplitl [H0]; · iexact H0
  isplitl [H1]; · iexact H1
  isplitl [H2]; · iexact H2
  isplitl [H3]; · iexact H3
  isplitl [H4]
  · iexists _; iexact H4
  isplitl [H8]; · iexact H8
  isplitl [H9]; · iexact H9
  isplitl [H10]; · iexact H10
  isplitl [H11]; · iexact H11
  isplitl [H12]; · iexact H12
  isplitl [H13]; · iexact H13
  iintro ⟨H0, H1, H2, H3, ⟨%f, %hf, H4⟩, H8, H9, H10, H11, H12, H13⟩
  isplitl [H8 H9 H10 H11 H12 H13 Hr]
  · isplitl [H8 H9 H10 H11 H12 H13]
    · isplitl [H8]; · iexact H8
      isplitl [H9]; · iexact H9
      isplitl [H10]; · iexact H10
      isplitl [H11]; · iexact H11
      isplitl [H12]; · iexact H12
      iexact H13
    iexact Hr
  isplitl [Ho]; · iexact Ho
  isplitl [H0]; · iexact H0
  isplitl [H1]; · iexact H1
  isplitl [H2]; · iexact H2
  isplitl [H3]; · iexact H3
  have e := (w4 t).eq_unread hf
  rw [← e]
  iexact H4

set_option backward.isDefEq.respectTransparency.types false in
/-- Every weakly fair run from any memory ends, the result's array at what the blocks give, the counters at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl) (hΦ := fun _ _ => rfl)

end Cert.Proof.SBI

end
-- ==== Proof.Val.Pay.lean ====
module

public import proofs.«01_k».proof.Proof.PI.Start
public import Idealize.ShloMosaic.Lib.Pointwise
public import Idealize.ShloMosaic.PureOps.Ideal.Laws
public import Idealize.ShloMosaic.Lib.WordCmp

@[expose] public section

set_option maxRecDepth 16384

noncomputable section

namespace Cert.Proof.SBV

open Cert.KernelIdeal Cert.KernelIdeal.Gen Cert.Proof.SBI
open Idealize.ShloMosaic
open scoped BigOperators

/-- A score block is the product of query rows and key rows. -/
theorem pay3_at (q : Vec Ideal S1x128x128 .bf16) (k : Vec Ideal S1x256x128 .bf16) (r : Fin 128) (l : Fin 256) :
    k0_pay3 q k (ix2 r l) = ∑ d : Fin 128, q (ix3 0 r d) * k (ix3 0 l d) := by
  pointwise [k0_pay3]

theorem pay4_at (t : FVec Ideal S256x256 .bf16) (hi lo : Vec Ideal S1x128x256 .bf16) (r : Fin 128) (l : Fin 256) :
    k0_pay4 t hi lo (ix2 r l) = (∑ k : Fin 256, hi (ix3 0 r k) * t (ix2 k l)) + ∑ k : Fin 256, lo (ix3 0 r k) * t (ix2 k l) := by
  pointwise [k0_pay4]

theorem pay10_at (x : FVec Ideal S128x256 .f32) (r : Fin 128) (l : Fin 256) : k0_pay10 x (ix3 0 r l) = x (ix2 r l) := by
  pointwise [k0_pay10]

theorem pay11_at (x : FVec Ideal S128x256 .bf16) (r : Fin 128) (l : Fin 256) : k0_pay11 x (ix3 0 r l) = x (ix2 r l) := by
  pointwise [k0_pay11]

theorem pay12_at (x : FVec Ideal S128x256 .f32) (r : Fin 128) (l : Fin 256) : k0_pay12 x (ix3 0 r l) = x (ix2 r l) := by
  pointwise [k0_pay12]

theorem pay13_at (x : FVec Ideal S128x256 .f32) (r d : Fin 128) : k0_pay13 x (ix3 0 r d) = ∑ k : Fin 256, x (ix2 r k) := by
  pointwise [k0_pay13]

theorem pay14_at (w : FVec Ideal S128x256 .f32) (run : Vec Ideal S128x128 .f32) (lb : Vec Ideal S1x128x256 .f32)
    (v : Vec Ideal S1x256x128 .bf16) (R : Fin 128 → EReal) (hR : ∀ r d, run (ix2 r d) = R r) (r d : Fin 128) :
    k0_pay14 w run lb v (ix2 r d) = ∑ k : Fin 256, Ideal.exp (lb (ix3 0 r k) + w (ix2 r k) + R r) * v (ix3 0 k d) := by
  pointwise [k0_pay14]
  simp only [hR]
  exact (Fin.sum_univ_add (a := 128) (b := 128)
    fun k : Fin (128 + 128) => Ideal.exp (lb (ix3 0 r k) + w (ix2 r k) + R r) * v (ix3 0 k d)).symm

theorem pay15_at (a x : FVec Ideal S128x128 .f32) (r d : Fin 128) : k0_pay15 a x (ix2 r d) = a (ix2 r d) + x (ix2 r d) := by
  pointwise [k0_pay15]

theorem pay16_at (run : FVec Ideal S128x128 .f32) (rs : FVec Ideal S1x128x128 .f32) (r d : Fin 128) :
    k0_pay16 run rs (ix2 r d) = run (ix2 r d) + rs (ix3 0 r d) := by
  pointwise [k0_pay16]

theorem pay2_at (x : FVec Ideal S512x128 .f32) (g : FVec Ideal S1x128 .f32) (r : Fin 512) (d : Fin 128) :
    (show EReal from k0_pay2 (F := Ideal) x g (ix3 0 r d))
      = x (ix2 r d) * Ideal.rsqrt (Ideal.div (∑ k : Fin 128, x (ix2 r k) * x (ix2 r k)) (Ideal.ofBits .f32 0x43000000#32) + Ideal.ofBits .f32 0x358637BD#32) * g (ix2 0 d) := by
  pointwise [k0_pay2]

theorem tri_at (k l : Fin 256) : tri (F := Ideal) (ix2 k l) = if l < k then 1 else 0 := by
  pointwise [tri]
  have hk := k.isLt
  have hl := l.isLt
  rw [WordCmp.cmpi_sgt_ofNat (by omega) (by omega)]
  by_cases h : l < k
  · rw [if_pos h, decide_eq_true (show l.val < k.val from h)]
    show (((BitVec.setWidth 32 1#1).toInt : ℝ) : EReal) = 1
    simp
  · rw [if_neg h, decide_eq_false (show ¬l.val < k.val from h)]
    show (((BitVec.setWidth 32 0#1).toInt : ℝ) : EReal) = 0
    simp

theorem msk_at (co off : ℕ) (hc : co < 1000) (ho : off < 1000) (r : Fin 128) (l : Fin 256) :
    msk (BitVec.ofNat 32 co) (BitVec.ofNat 32 off) (ix2 r l) = if l.val + co < r.val + off then 1#1 else 0#1 := by
  pointwise [msk]
  have hr := r.isLt
  have hl := l.isLt
  rw [show IntOp.addi (BitVec.ofNat 32 l.val) (BitVec.ofNat 32 co) = BitVec.ofNat 32 (l.val + co) from (BitVec.ofNat_add _ _).symm,
    show IntOp.addi (BitVec.ofNat 32 r.val) (BitVec.ofNat 32 off) = BitVec.ofNat 32 (r.val + off) from (BitVec.ofNat_add _ _).symm,
    WordCmp.cmpi_slt_ofNat (by omega) (by omega)]
  by_cases h : l.val + co < r.val + off
  · rw [if_pos h, decide_eq_true h]; rfl
  · rw [if_neg h, decide_eq_false h]; rfl

end Cert.Proof.SBV
-- ==== Proof.Val.Scalar.lean ====
module

public import Idealize.ShloMosaic.PureOps.Ideal
public import Idealize.ShloMosaic.PureOps.Ideal.Laws

@[expose] public section

noncomputable section

namespace Cert.Proof.SBV

open Idealize.ShloMosaic
open scoped BigOperators

/-- A finite sum of reals, summed among the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

theorem ofBits_one : Ideal.ofBits .f32 0x3F800000#32 = 1 := by simp [Ideal.ofBits, Ideal.ieee, -EReal.coe_mul]; norm_num
theorem ofBits_top : Ideal.ofBits .f32 0x7F800000#32 = ⊤ := by simp [Ideal.ofBits, Ideal.ieee, -EReal.coe_mul]

/-- The scale of the scores is a real number. -/
theorem scale_real : ∃ c : ℝ, Ideal.ofBits .f32 0x3DB504F3#32 = (c : EReal) := by
  simp only [Ideal.ofBits, Ideal.ieee]
  simp [-EReal.coe_mul]

/-- The scale. -/
def scale : ℝ := scale_real.choose
theorem scale_eq : Ideal.ofBits .f32 0x3DB504F3#32 = (scale : EReal) := scale_real.choose_spec

/-- The logarithm of the logistic function, as the kernel spells it. -/
def lsg (s : ℝ) : ℝ := min s 0 - Real.log (1 + Real.exp (0 - max s (-s)))

/-- The kernel's log-beta of a real score. -/
theorem lsg_kernel (s : ℝ) :
    min (s : EReal) 0 - Ideal.log (1 + Ideal.exp (0 - max (s : EReal) (-(s : EReal)))) = (lsg s : EReal) := by
  have h0 : (0 : EReal) = ((0 : ℝ) : EReal) := rfl
  have h1 : (1 : EReal) = ((1 : ℝ) : EReal) := rfl
  rw [h0, h1, coe_min, ← EReal.coe_neg, coe_max, ← EReal.coe_sub, Ideal.exp_coe, ← EReal.coe_add, Ideal.log_coe,
    if_neg (by have := Real.exp_pos (0 - max s (-s)); linarith), ← EReal.coe_sub, lsg]

/-- The logarithm of one plus an exponential, as the reference spells it. -/
theorem softplus_ref (x : ℝ) :
    max (x : EReal) 0 + Ideal.log1p (Ideal.exp (-max ((x : EReal) - 0) (-((x : EReal) - 0))))
      = ((max x 0 + Real.log (1 + Real.exp (-max x (-x))) : ℝ) : EReal) := by
  have h0 : (0 : EReal) = ((0 : ℝ) : EReal) := rfl
  have h1 : (1 : EReal) = ((1 : ℝ) : EReal) := rfl
  rw [Ideal.log1p, sub_zero, h0, h1, coe_max, ← EReal.coe_neg, coe_max, ← EReal.coe_neg, Ideal.exp_coe, ← EReal.coe_add, Ideal.log_coe,
    if_neg (by have := Real.exp_pos (-max x (-x)); linarith), ← EReal.coe_add]

/-- The two spellings agree. -/
theorem lsg_eq (s : ℝ) : -(max (-s) 0 + Real.log (1 + Real.exp (-max (-s) (- -s)))) = lsg s := by
  have e : max (-s) 0 = -min s 0 := by rw [← neg_zero, max_neg_neg, neg_zero]
  rw [lsg, e, neg_neg, max_comm (-s) s, zero_sub]; ring

/-- The log-keep is the log-beta less the score. -/
theorem lsg_keep_eq (s : ℝ) : -(max s 0 + Real.log (1 + Real.exp (-max s (-s)))) = lsg s - s := by
  have e : min s 0 - s = -max s 0 := by
    rcases le_total s 0 with h | h
    · rw [min_eq_left h, max_eq_right h]; ring
    · rw [min_eq_right h, max_eq_left h]; ring
  rw [lsg, zero_sub, neg_add, ← e]; ring

end Cert.Proof.SBV
-- ==== Proof.Val.Rows.lean ====
module

public import proofs.«01_k».proof.Proof.Val.Pay
public import proofs.«01_k».proof.Proof.Val.Scalar

@[expose] public section

set_option maxRecDepth 16384

noncomputable section

namespace Cert.Proof.SBV

open Cert.KernelIdeal Cert.KernelIdeal.Gen Cert.Proof.SBI
open Idealize.ShloMosaic
open scoped BigOperators

/-! ## Attention over the reals -/

/-- The masked log-keep of key `j` in a row at position `i`, from the row's scaled scores. -/
def keep (ls : ℕ → ℝ) (i j : ℕ) : ℝ := if j < i then lsg (ls j) - ls j else 0

/-- The weight of key `j` in a row at position `i`. -/
def weight (ls : ℕ → ℝ) (i j : ℕ) : ℝ :=
  if j < i then Real.exp (lsg (ls j) + ∑ k ∈ Finset.Ico (j + 1) 4096, keep ls i k) else 0

theorem keep_zero (ls : ℕ → ℝ) {i j : ℕ} (h : i ≤ j) : keep ls i j = 0 := if_neg (by omega)
theorem weight_zero (ls : ℕ → ℝ) {i j : ℕ} (h : i ≤ j) : weight ls i j = 0 := if_neg (by omega)

/-- A sum from key block `m` on is the block's and the later blocks'. -/
theorem sum_block (f : ℕ → ℝ) (m : ℕ) (hm : m < 16) :
    ∑ j ∈ Finset.Ico (256 * m) 4096, f j = ∑ l : Fin 256, f (256 * m + l.val) + ∑ j ∈ Finset.Ico (256 * (m + 1)) 4096, f j := by
  rw [← Finset.sum_Ico_consecutive f (show 256 * m ≤ 256 * (m + 1) by omega) (show 256 * (m + 1) ≤ 4096 by omega)]
  congr 1
  rw [Finset.sum_Ico_eq_sum_range, show 256 * (m + 1) - 256 * m = 256 by omega, Finset.sum_range]

/-- The suffix sum within a block is a sum against the triangle. -/
theorem sum_suffix (f : ℕ → ℝ) (m : ℕ) (hm : m < 16) (l : Fin 256) :
    ∑ j ∈ Finset.Ico (256 * m + l.val + 1) 4096, f j
      = ∑ k : Fin 256, f (256 * m + k.val) * (if l < k then 1 else 0) + ∑ j ∈ Finset.Ico (256 * (m + 1)) 4096, f j := by
  have hl := l.isLt
  rw [← Finset.sum_Ico_consecutive f (show 256 * m + l.val + 1 ≤ 256 * (m + 1) by omega) (show 256 * (m + 1) ≤ 4096 by omega)]
  congr 1
  have h := sum_block (fun j => if 256 * m + l.val < j ∧ j < 256 * (m + 1) then f j else 0) m hm
  have hz : ∑ j ∈ Finset.Ico (256 * (m + 1)) 4096, (if 256 * m + l.val < j ∧ j < 256 * (m + 1) then f j else 0) = 0 :=
    Finset.sum_eq_zero fun j hj => if_neg (by have := (Finset.mem_Ico.mp hj).1; omega)
  rw [hz, add_zero] at h
  have e : ∑ l' : Fin 256, (if 256 * m + l.val < 256 * m + l'.val ∧ 256 * m + l'.val < 256 * (m + 1) then f (256 * m + l'.val) else 0)
      = ∑ k : Fin 256, f (256 * m + k.val) * (if l < k then 1 else 0) := by
    refine Finset.sum_congr rfl fun k _ => ?_
    have hk := k.isLt
    by_cases hlk : l.val < k.val
    · rw [if_pos (by omega), if_pos (show l < k from hlk), mul_one]
    · rw [if_neg (by omega), if_neg (show ¬l < k from hlk), mul_zero]
  rw [← e, ← h, ← Finset.sum_filter]
  refine Finset.sum_congr ?_ fun _ _ => rfl
  ext j
  simp only [Finset.mem_filter, Finset.mem_Ico]
  omega

/-! ## The invariant of a row block -/

/-- Key block `m` is scored, the later ones weighed: `ls` the rows' scaled scores, `g` their positions, `V` the values. -/
structure Inv (ls : Fin 128 → ℕ → ℝ) (g : Fin 128 → ℕ) (V : ℕ → Fin 128 → ℝ) (m : ℕ) (s : Row Ideal) : Prop where
  acc : ∀ r d, s.acc (ix2 r d) = ((∑ j ∈ Finset.Ico (256 * (m + 1)) 4096, weight (ls r) (g r) j * V j d : ℝ) : EReal)
  run : ∀ r d, s.run (ix2 r d) = ((∑ j ∈ Finset.Ico (256 * (m + 1)) 4096, keep (ls r) (g r) j : ℝ) : EReal)
  lb : ∀ r l, s.lb (ix3 0 r l) = if 256 * m + l.val < g r then ((lsg (ls r (256 * m + l.val)) : ℝ) : EReal) else ⊥
  hi : ∀ r l, s.hi (ix3 0 r l) = ((keep (ls r) (g r) (256 * m + l.val) : ℝ) : EReal)
  lo : ∀ r l, s.lo (ix3 0 r l) = (0 : EReal)
  rs : ∀ r d, s.rs (ix3 0 r d) = ((∑ l : Fin 256, keep (ls r) (g r) (256 * m + l.val) : ℝ) : EReal)

section
variable {ls : Fin 128 → ℕ → ℝ} {g : Fin 128 → ℕ} {V : ℕ → Fin 128 → ℝ} {m : ℕ} {s : Row Ideal}

/-- Suffix sums of a scored block. -/
theorem Inv.suffix (h : Inv ls g V m s) (r : Fin 128) (l : Fin 256) :
    sf tri s.hi s.lo (ix2 r l)
      = ((∑ k : Fin 256, keep (ls r) (g r) (256 * m + k.val) * (if l < k then 1 else 0) : ℝ) : EReal) := by
  rw [sf, pay4_at]
  have e1 : ∀ k : Fin 256, s.hi (ix3 0 r k) * tri (F := Ideal) (ix2 k l)
      = ((keep (ls r) (g r) (256 * m + k.val) * (if l < k then 1 else 0) : ℝ) : EReal) := fun k => by
    rw [h.hi, tri_at, EReal.coe_mul]
    split <;> simp
  have e2 : ∀ k : Fin 256, s.lo (ix3 0 r k) * tri (F := Ideal) (ix2 k l) = ((0 : ℝ) : EReal) := fun k => by
    rw [h.lo, zero_mul]; rfl
  rw [Finset.sum_congr rfl fun k _ => e1 k, Finset.sum_congr rfl fun k _ => e2 k, coe_sum, coe_sum, ← EReal.coe_add]
  simp

/-- Weighing a scored block adds its keys to the sum. -/
theorem Inv.weigh (h : Inv ls g V m s) (hm : m < 16) (v : Vec Ideal S1x256x128 .bf16)
    (hv : ∀ l d, v (ix3 0 l d) = (V (256 * m + l.val) d : EReal)) (r d : Fin 128) :
    accf s.acc s.run (sf tri s.hi s.lo) s.lb v (ix2 r d)
      = ((∑ j ∈ Finset.Ico (256 * m) 4096, weight (ls r) (g r) j * V j d : ℝ) : EReal) := by
  rw [accf, pay15_at, h.acc, pay14_at _ _ _ _ _ (fun r d => h.run r d)]
  have e : ∀ l : Fin 256, Ideal.exp (s.lb (ix3 0 r l) + sf tri s.hi s.lo (ix2 r l) + ((∑ j ∈ Finset.Ico (256 * (m + 1)) 4096, keep (ls r) (g r) j : ℝ) : EReal)) * v (ix3 0 l d)
      = ((weight (ls r) (g r) (256 * m + l.val) * V (256 * m + l.val) d : ℝ) : EReal) := fun l => by
    rw [h.lb, h.suffix, hv]
    by_cases hl : 256 * m + l.val < g r
    · rw [if_pos hl, weight, if_pos hl, sum_suffix _ m hm l, ← EReal.coe_add, ← EReal.coe_add, Ideal.exp_coe, ← EReal.coe_mul, add_assoc]
    · rw [if_neg hl, weight, if_neg hl, EReal.bot_add, EReal.bot_add, Ideal.exp_bot, zero_mul, zero_mul]; rfl
  rw [Finset.sum_congr rfl fun l _ => e l, coe_sum, ← EReal.coe_add, sum_block _ m hm, add_comm]

end

/-! ## Scoring -/

/-- Score rows: real dot products. -/
def dotR (Q : Fin 128 → Fin 128 → ℝ) (K : ℕ → Fin 128 → ℝ) (r : Fin 128) (j : ℕ) : ℝ := (∑ d : Fin 128, Q r d * K j d) * scale

section
variable {Q : Fin 128 → Fin 128 → ℝ} {K : ℕ → Fin 128 → ℝ} {m : ℕ} {q : Vec Ideal S1x128x128 .bf16} {k : Vec Ideal S1x256x128 .bf16}

/-- The scaled score of a row and a key. -/
theorem pay5_real (hq : ∀ r d, q (ix3 0 r d) = (Q r d : EReal)) (hk : ∀ l d, k (ix3 0 l d) = (K (256 * m + l.val) d : EReal))
    (r : Fin 128) (l : Fin 256) : k0_pay5 (zf q k) (ix2 r l) = (dotR Q K r (256 * m + l.val) : EReal) := by
  pointwise [k0_pay5]
  rw [zf, pay3_at, scale_eq]
  have e : ∀ d : Fin 128, q (ix3 0 r d) * k (ix3 0 l d) = ((Q r d * K (256 * m + l.val) d : ℝ) : EReal) := fun d => by
    rw [hq, hk, EReal.coe_mul]
  rw [Finset.sum_congr rfl fun d _ => e d, coe_sum, ← EReal.coe_mul, dotR]

/-- Its log-beta. -/
theorem pay6_real (hq : ∀ r d, q (ix3 0 r d) = (Q r d : EReal)) (hk : ∀ l d, k (ix3 0 l d) = (K (256 * m + l.val) d : EReal))
    (r : Fin 128) (l : Fin 256) : k0_pay6 (zf q k) (ix2 r l) = (lsg (dotR Q K r (256 * m + l.val)) : EReal) := by
  have h := pay5_real hq hk r l
  generalize zf q k = z at h ⊢
  pointwise [k0_pay6]
  rw [h]
  exact lsg_kernel _

/-- Its log-keep. -/
theorem pay7_real (hq : ∀ r d, q (ix3 0 r d) = (Q r d : EReal)) (hk : ∀ l d, k (ix3 0 l d) = (K (256 * m + l.val) d : EReal))
    (r : Fin 128) (l : Fin 256) : k0_pay7 (zf q k) (ix2 r l)
      = ((lsg (dotR Q K r (256 * m + l.val)) - dotR Q K r (256 * m + l.val) : ℝ) : EReal) := by
  have h := pay5_real hq hk r l
  have h' := pay6_real hq hk r l
  generalize zf q k = z at h h' ⊢
  pointwise [k0_pay7]
  rw [h, h', EReal.coe_sub]

variable {g : Fin 128 → ℕ} {V : ℕ → Fin 128 → ℝ}

/-- The first block, cut by the mask, establishes the invariant. -/
theorem inv_start (co off : ℕ) (hc : co < 1000) (ho : off < 1000)
    (hq : ∀ r d, q (ix3 0 r d) = (Q r d : EReal)) (hk : ∀ l d, k (ix3 0 l d) = (K (256 * m + l.val) d : EReal))
    (hg : ∀ (r : Fin 128) (l : Fin 256), l.val + co < r.val + off ↔ 256 * m + l.val < g r) (hg' : ∀ r, g r ≤ 256 * (m + 1)) :
    Inv (dotR Q K) g V m (start (BitVec.ofNat 32 co) (BitVec.ofNat 32 off) q k) := by
  have hM : ∀ r l, msk (BitVec.ofNat 32 co) (BitVec.ofNat 32 off) (ix2 r l) = if 256 * m + l.val < g r then 1#1 else 0#1 := fun r l => by
    rw [msk_at co off hc ho]; simp only [hg]
  have hK : ∀ r l, mlk (F := Ideal) (BitVec.ofNat 32 co) (BitVec.ofNat 32 off) (zf q k) (ix2 r l) = ((keep (dotR Q K r) (g r) (256 * m + l.val) : ℝ) : EReal) := fun r l => by
    show Scalar.select _ _ _ = _
    rw [hM, keep]
    split
    · exact pay7_real hq hk r l
    · exact Ideal.ofBits_zero_f32
  refine ⟨fun r d => ?_, fun r d => ?_, fun r l => ?_, fun r l => ?_, fun r l => ?_, fun r d => ?_⟩
  · rw [Finset.sum_eq_zero fun j hj => by rw [weight_zero _ (by have := (Finset.mem_Ico.mp hj).1; have := hg' r; omega), zero_mul]]
    exact Ideal.ofBits_zero_f32
  · rw [Finset.sum_eq_zero fun j hj => keep_zero _ (by have := (Finset.mem_Ico.mp hj).1; have := hg' r; omega)]
    exact Ideal.ofBits_zero_f32
  · refine (pay10_at (select (msk (BitVec.ofNat 32 co) (BitVec.ofNat 32 off)) (k0_pay6 (zf q k)) (broadcast S128x256 (Named.named κ "mask" 0xF149F2CA#32))) r l).trans ?_
    show Scalar.select _ _ _ = _
    rw [hM]
    split
    · exact pay6_real hq hk r l
    · rfl
  · refine (pay11_at (truncf .bf16 (mlk (F := Ideal) (BitVec.ofNat 32 co) (BitVec.ofNat 32 off) (zf q k)) bitsLt_bf16_f32) r l).trans ?_
    exact hK r l
  · refine (pay12_at _ r l).trans ?_
    show (mlk (F := Ideal) (BitVec.ofNat 32 co) (BitVec.ofNat 32 off) (zf q k) (ix2 r l) : EReal) - mlk (F := Ideal) (BitVec.ofNat 32 co) (BitVec.ofNat 32 off) (zf q k) (ix2 r l) = 0
    rw [hK, ← EReal.coe_sub, sub_self]; rfl
  · refine (pay13_at _ r d).trans ?_
    rw [Finset.sum_congr rfl fun l _ => hK r l, coe_sum]

/-- Weighing one block and scoring the one before it keeps the invariant. -/
theorem Inv.step {s : Row Ideal} (h : Inv (dotR Q K) g V (m + 1) s) (hm : m + 1 < 16) (v : Vec Ideal S1x256x128 .bf16)
    (hq : ∀ r d, q (ix3 0 r d) = (Q r d : EReal)) (hk : ∀ l d, k (ix3 0 l d) = (K (256 * m + l.val) d : EReal))
    (hv : ∀ l d, v (ix3 0 l d) = (V (256 * (m + 1) + l.val) d : EReal)) (hg : ∀ r, 256 * (m + 1) ≤ g r) :
    Inv (dotR Q K) g V m (Row.next tri q k v s) := by
  have hlt : ∀ (r : Fin 128) (l : Fin 256), 256 * m + l.val < g r := fun r l => by have := l.isLt; have := hg r; omega
  have hK : ∀ r l, k0_pay7 (zf q k) (ix2 r l) = ((keep (dotR Q K r) (g r) (256 * m + l.val) : ℝ) : EReal) := fun r l => by
    rw [keep, if_pos (hlt r l)]; exact pay7_real hq hk r l
  refine ⟨fun r d => h.weigh hm v hv r d, fun r d => ?_, fun r l => ?_, fun r l => ?_, fun r l => ?_, fun r d => ?_⟩
  · refine (pay16_at _ _ r d).trans ?_
    rw [h.run, h.rs, ← EReal.coe_add, sum_block _ (m + 1) hm, add_comm]
  · refine (pay10_at (k0_pay6 (zf q k)) r l).trans ?_
    rw [if_pos (hlt r l)]
    exact pay6_real hq hk r l
  · refine (pay11_at (k0_pay8 (zf q k)) r l).trans ?_
    exact hK r l
  · refine (pay12_at _ r l).trans ?_
    show (k0_pay7 (zf q k) (ix2 r l) : EReal) - k0_pay7 (zf q k) (ix2 r l) = 0
    rw [hK, ← EReal.coe_sub, sub_self]; rfl
  · refine (pay13_at _ r d).trans ?_
    rw [Finset.sum_congr rfl fun l _ => hK r l, coe_sum]

/-- Down to the first block. -/
theorem inv_down {x4 x5 : Vec Ideal S1x4096x128 .bf16}
    (hq : ∀ r d, q (ix3 0 r d) = (Q r d : EReal))
    (hk : ∀ n, n < 16 → ∀ l d, kb x4 n (ix3 0 l d) = (K (256 * n + l.val) d : EReal))
    (hv : ∀ n, n < 16 → ∀ l d, kb x5 n (ix3 0 l d) = (V (256 * n + l.val) d : EReal)) :
    ∀ (m : ℕ) (s : Row Ideal), m < 16 → (∀ r, 256 * m ≤ g r) → Inv (dotR Q K) g V m s → Inv (dotR Q K) g V 0 (down x4 x5 q m s)
  | 0, s, _, _, h => h
  | m + 1, s, hm, hg, h => inv_down hq hk hv m _ (by omega) (fun r => by have := hg r; omega)
      (h.step hm _ hq (hk m (by omega)) (hv (m + 1) hm) hg)

/-- A row block's accumulator is attention over all keys before each row. -/
theorem row_real {x4 x5 : Vec Ideal S1x4096x128 .bf16} (co off : ℕ) (hc : co < 1000) (ho : off < 1000)
    (hq : ∀ r d, q (ix3 0 r d) = (Q r d : EReal))
    (hk : ∀ n, n < 16 → ∀ l d, kb x4 n (ix3 0 l d) = (K (256 * n + l.val) d : EReal))
    (hv : ∀ n, n < 16 → ∀ l d, kb x5 n (ix3 0 l d) = (V (256 * n + l.val) d : EReal))
    (m : ℕ) (hm : m < 16) (hg : ∀ (r : Fin 128) (l : Fin 256), l.val + co < r.val + off ↔ 256 * m + l.val < g r)
    (hg' : ∀ r, 256 * m ≤ g r ∧ g r ≤ 256 * (m + 1)) (r d : Fin 128) :
    last x5 (down x4 x5 q m (start (BitVec.ofNat 32 co) (BitVec.ofNat 32 off) q (kb x4 m))) (ix2 r d)
      = ((∑ j ∈ Finset.range 4096, weight (dotR Q K r) (g r) j * V j d : ℝ) : EReal) := by
  have h := inv_down hq hk hv m _ hm (fun r => (hg' r).1) (inv_start (V := V) co off hc ho hq (hk m hm) hg fun r => (hg' r).2)
  have e := h.weigh (by omega) (kb x5 0) (hv 0 (by omega)) r d
  rw [Finset.range_eq_Ico]
  exact e

end

end Cert.Proof.SBV
-- ==== Proof.Val.Ref.lean ====
module

public import proofs.«01_k».proof.Proof.Val.Rows
public import proofs.«01_k».proof.Proof.Gen.ReferenceIdeal.Read

@[expose] public section

set_option maxRecDepth 16384

noncomputable section

namespace Cert.Proof.SBV

open Cert.ReferenceIdeal Cert.ReferenceIdeal.Gen Cert.ReferenceIdeal.Read
open Idealize.ShloMosaic
open scoped BigOperators

/-! ## A sum over a window reaching to the end of the axis -/

theorem foldl_add (n : ℕ) (f : Fin n → EReal) (a : EReal) : (List.finRange n).foldl (fun r i => r + f i) a = a + ∑ i : Fin n, f i := by
  have h : ∀ (l : List (Fin n)) (a : EReal), l.foldl (fun r i => r + f i) a = a + (l.map f).sum := by
    intro l
    induction l with
    | nil => intro a; simp
    | cons b l ih => intro a; rw [List.foldl_cons, ih, List.map_cons, List.sum_cons, add_assoc]
  rw [h, Fin.sum_univ_def]

/-- A windowed sum at an index: the initial value and the window's elements. -/
theorem window_at {s t u : Shape} (window strides lo hi : Fin s.rank → ℕ) (x : FVec Ideal s .f32) (init : FVec Ideal u .f32)
    (h : s.ReduceWindows window strides lo hi t) (hu : 0 < u.numel) (j : t.Idx) (v : EReal) (hv : init (Shape.Idx.first hu) = v) :
    (Host.reduceWindowAdd window strides lo hi x init h hu j : EReal)
      = v + ∑ w : (⟨s.rank, window⟩ : Shape).Idx,
        (if hin : ∀ a, lo a ≤ (j (a.cast h.1.symm)).val * strides a + (w a).val ∧ (j (a.cast h.1.symm)).val * strides a + (w a).val - lo a < s.size a
          then (x (fun a => ⟨(j (a.cast h.1.symm)).val * strides a + (w a).val - lo a, (hin a).2⟩) : EReal) else v) := by
  subst hv
  refine (foldl_add _ _ _).trans ?_
  rw [← Equiv.sum_comp (⟨s.rank, window⟩ : Shape).rowMajor.symm]
  refine congrArg (_ + ·) (Finset.sum_congr rfl fun i _ => ?_)
  dsimp only
  congr

/-- The positions of the window. -/
abbrev Win : Shape := ⟨4, ![1, 1, 1, 4096]⟩

/-- They are the offsets along its last axis. -/
def winEquiv : Fin 4096 ≃ Win.Idx where
  toFun k := ix4 (0 : Fin 1) (0 : Fin 1) (0 : Fin 1) k
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The sum over the window from `j` to the end of the last axis, of reals `f`. -/
theorem window_sum (x : FVec Ideal S4x8x4096x4096 .f32) (init : FVec Ideal S_ .f32) (hinit : ∀ i, init i = (0 : EReal)) (j : S4x8x4096x4096.Idx)
    (f : ℕ → ℝ) (hf : ∀ i : S4x8x4096x4096.Idx, (i 0).val = (j 0).val → (i 1).val = (j 1).val → (i 2).val = (j 2).val → x i = (f (i 3).val : EReal)) :
    Host.reduceWindowAdd ![1, 1, 1, 4096] ![1, 1, 1, 1] ![0, 0, 0, 0] ![0, 0, 0, 4095] x init
        reduceWindows_S4x8x4096x4096_S4x8x4096x4096_w1s1p0_0_w1s1p0_0_w1s1p0_0_w4096s1p0_4095 h_S_ j
      = ((∑ k ∈ Finset.Ico (j 3).val 4096, f k : ℝ) : EReal) := by
  have hj0 : (j 0).val < 4 := (j 0).isLt
  have hj1 : (j 1).val < 8 := (j 1).isLt
  have hj2 : (j 2).val < 4096 := (j 2).isLt
  have hj3 : (j 3).val < 4096 := (j 3).isLt
  refine (window_at _ _ _ _ x init _ h_S_ j 0 (hinit _)).trans ?_
  rw [zero_add]
  have key : ∀ w : Win.Idx, (if hin : ∀ a : Fin 4, (![0, 0, 0, 0] : Fin 4 → ℕ) a ≤ (j a).val * (![1, 1, 1, 1] : Fin 4 → ℕ) a + (w a).val
        ∧ (j a).val * (![1, 1, 1, 1] : Fin 4 → ℕ) a + (w a).val - (![0, 0, 0, 0] : Fin 4 → ℕ) a < S4x8x4096x4096.size a
      then x (fun a => ⟨(j a).val * (![1, 1, 1, 1] : Fin 4 → ℕ) a + (w a).val - (![0, 0, 0, 0] : Fin 4 → ℕ) a, (hin a).2⟩) else (0 : EReal))
      = ((if (j 3).val + (w 3).val < 4096 then f ((j 3).val + (w 3).val) else 0 : ℝ) : EReal) := by
    intro w
    have h0 : (w 0).val < 1 := (w 0).isLt
    have h1 : (w 1).val < 1 := (w 1).isLt
    have h2 : (w 2).val < 1 := (w 2).isLt
    by_cases h : (j 3).val + (w 3).val < 4096
    · have hin : ∀ a : Fin 4, (![0, 0, 0, 0] : Fin 4 → ℕ) a ≤ (j a).val * (![1, 1, 1, 1] : Fin 4 → ℕ) a + (w a).val
          ∧ (j a).val * (![1, 1, 1, 1] : Fin 4 → ℕ) a + (w a).val - (![0, 0, 0, 0] : Fin 4 → ℕ) a < S4x8x4096x4096.size a := by
        intro a
        match a with
        | ⟨0, _⟩ => exact ⟨Nat.zero_le _, by show (j 0).val * 1 + (w 0).val - 0 < 4; omega⟩
        | ⟨1, _⟩ => exact ⟨Nat.zero_le _, by show (j 1).val * 1 + (w 1).val - 0 < 8; omega⟩
        | ⟨2, _⟩ => exact ⟨Nat.zero_le _, by show (j 2).val * 1 + (w 2).val - 0 < 4096; omega⟩
        | ⟨3, _⟩ => exact ⟨Nat.zero_le _, by show (j 3).val * 1 + (w 3).val - 0 < 4096; omega⟩
      rw [dif_pos hin, if_pos h, hf _ (by show (j 0).val * 1 + (w 0).val - 0 = _; omega) (by show (j 1).val * 1 + (w 1).val - 0 = _; omega)
        (by show (j 2).val * 1 + (w 2).val - 0 = _; omega)]
      exact congrArg (fun n => ((f n : ℝ) : EReal)) (by show (j 3).val * 1 + (w 3).val - 0 = _; omega)
    · rw [dif_neg fun hin => h (by have := (hin 3).2; change (j 3).val * 1 + (w 3).val - 0 < 4096 at this; omega), if_neg h]; rfl
  refine (Finset.sum_congr rfl fun w _ => key w).trans ?_
  rw [coe_sum, ← Equiv.sum_comp winEquiv]
  congr 1
  rw [Finset.sum_Ico_eq_sum_range]
  have e := Finset.sum_range (fun k => if (j 3).val + k < 4096 then f ((j 3).val + k) else 0) (n := 4096)
  refine e.symm.trans ?_
  rw [← Finset.sum_filter]
  refine Finset.sum_congr ?_ fun _ _ => rfl
  ext k
  simp only [Finset.mem_filter, Finset.mem_range]
  omega

/-! ## The reference at real projections -/

/-- The projection's entry, as a real number. -/
def cell (x : FVec Ideal S4x4096x3072 .bf16) (b t c : ℕ) : ℝ :=
  if h : b < 4 ∧ t < 4096 ∧ c < 3072 then EReal.toReal (x (ix3 (⟨b, h.1⟩ : Fin 4) (⟨t, h.2.1⟩ : Fin 4096) (⟨c, h.2.2⟩ : Fin 3072))) else 0

/-- Every entry is a real number. -/
def Real3 (x : FVec Ideal S4x4096x3072 .bf16) : Prop := ∀ i, ((EReal.toReal (x i) : ℝ) : EReal) = x i

theorem cell_at {x : FVec Ideal S4x4096x3072 .bf16} (hx : Real3 x) (i : S4x4096x3072.Idx) {b t c : ℕ}
    (h0 : (i 0).val = b) (h1 : (i 1).val = t) (h2 : (i 2).val = c) : x i = (cell x b t c : EReal) := by
  subst h0 h1 h2
  unfold cell
  refine Eq.trans ?_ (congrArg _ (dif_pos (⟨(i 0).isLt, (i 1).isLt, (i 2).isLt⟩ : (i 0).val < 4 ∧ (i 1).val < 4096 ∧ (i 2).val < 3072)).symm)
  refine (hx i).symm.trans (congrArg (fun j => ((EReal.toReal (x j) : ℝ) : EReal)) ?_)
  funext a
  match a with
  | ⟨0, _⟩ => rfl
  | ⟨1, _⟩ => rfl
  | ⟨2, _⟩ => rfl

/-- The scaled score of query row `i` and key row `j`, head `h` of batch `b`. -/
def scoreR (x : FVec Ideal S4x4096x3072 .bf16) (b h i j : ℕ) : ℝ :=
  (∑ d : Fin 128, cell x b i (128 * h + d.val) * cell x b j (1024 + 128 * h + d.val)) * scale

/-- Attention before its norm. -/
def attR (x : FVec Ideal S4x4096x3072 .bf16) (b h i d : ℕ) : ℝ :=
  ∑ j ∈ Finset.range 4096, weight (scoreR x b h i) i j * cell x b j (2048 + 128 * h + d)

/-- The normed attention, at head `h` and lane `d`. -/
def outR (x : FVec Ideal S4x4096x3072 .bf16) (g : FVec Ideal S1x128 .f32) (b i h : ℕ) (d : Fin 128) : EReal :=
  (attR x b h i d.val : EReal)
    * Ideal.rsqrt (Ideal.div (∑ k : Fin 128, (attR x b h i k.val : EReal) * (attR x b h i k.val : EReal)) (Ideal.ofBits .f32 0x43000000#32)
      + Ideal.ofBits .f32 0x358637BD#32) * g (ix2 0 d)

section
variable {x : FVec Ideal S4x4096x3072 .bf16} (hx : Real3 x)
include hx

theorem v3_real (i : S4x8x4096x128.Idx) : val_main_v3 (F := Ideal) x i = (cell x (i 0).val (i 2).val (128 * (i 1).val + (i 3).val) : EReal) := by
  have h0 : (i 0).val < 4 := (i 0).isLt
  have h1 : (i 1).val < 8 := (i 1).isLt
  have h2 : (i 2).val < 4096 := (i 2).isLt
  have h3 : (i 3).val < 128 := (i 3).isLt
  rw [val_main_v3_apply, val_main_v2_apply, val_main_v1_apply, val_main_v0_apply]
  refine cell_at hx _ ?_ ?_ ?_ <;> dsimp only <;> omega

theorem v7_real (i : S4x8x4096x128.Idx) : val_main_v7 (F := Ideal) x i = (cell x (i 0).val (i 2).val (1024 + 128 * (i 1).val + (i 3).val) : EReal) := by
  have h0 : (i 0).val < 4 := (i 0).isLt
  have h1 : (i 1).val < 8 := (i 1).isLt
  have h2 : (i 2).val < 4096 := (i 2).isLt
  have h3 : (i 3).val < 128 := (i 3).isLt
  rw [val_main_v7_apply, val_main_v6_apply, val_main_v5_apply, val_main_v4_apply]
  refine cell_at hx _ ?_ ?_ ?_ <;> dsimp only <;> omega

theorem v11_real (i : S4x8x4096x128.Idx) : val_main_v11 (F := Ideal) x i = (cell x (i 0).val (i 2).val (2048 + 128 * (i 1).val + (i 3).val) : EReal) := by
  have h0 : (i 0).val < 4 := (i 0).isLt
  have h1 : (i 1).val < 8 := (i 1).isLt
  have h2 : (i 2).val < 4096 := (i 2).isLt
  have h3 : (i 3).val < 128 := (i 3).isLt
  rw [val_main_v11_apply, val_main_v10_apply, val_main_v9_apply, val_main_v8_apply]
  refine cell_at hx _ ?_ ?_ ?_ <;> dsimp only <;> omega

/-- The scaled scores. -/
theorem v14_real (i : S4x8x4096x4096.Idx) : val_main_v14 (F := Ideal) x i = (scoreR x (i 0).val (i 1).val (i 2).val (i 3).val : EReal) := by
  rw [val_main_v14_apply, val_main_v12_apply, val_main_v13_apply, val_main_cst_apply]
  have e : ∀ d : Fin 128, (val_main_v3 (F := Ideal) x (lidx_main_v12 i d) : EReal) * val_main_v7 (F := Ideal) x (ridx_main_v12 i d)
      = ((cell x (i 0).val (i 2).val (128 * (i 1).val + d.val) * cell x (i 0).val (i 3).val (1024 + 128 * (i 1).val + d.val) : ℝ) : EReal) := fun d => by
    rw [v3_real hx, v7_real hx, EReal.coe_mul]
  rw [Finset.sum_congr rfl fun d _ => e d, coe_sum]
  show ((_ : ℝ) : EReal) * Ideal.ofBits .f32 0x3DB504F3#32 = _
  rw [scale_eq, ← EReal.coe_mul, scoreR]

/-- The mask. -/
theorem v20_at (i : S4096x4096.Idx) : val_main_v20 (F := Ideal) i = if (i 1).val < (i 0).val then 1#1 else 0#1 := by
  have h0 : (i 0).val < 4096 := (i 0).isLt
  have h1 : (i 1).val < 4096 := (i 1).isLt
  rw [val_main_v20_apply, val_main_v18_apply, val_main_v16_apply, val_main_v15_apply, val_main_v19_apply, val_main_v17_apply, val_main_v15_apply]
  rw [WordCmp.cmpi_slt_ofNat (by dsimp only; omega) (by dsimp only; omega)]
  by_cases h : (i 1).val < (i 0).val
  · rw [if_pos h, decide_eq_true h]; rfl
  · rw [if_neg h, decide_eq_false h]; rfl

/-- The logarithm of one plus an exponential. -/
theorem call0_real (i : S4x8x4096x4096.Idx) (z : ℝ) (hz : val_main_call0_v0 (F := Ideal) x i = (z : EReal)) :
    val_main_call0_v1 (F := Ideal) x i = ((max z 0 + Real.log (1 + Real.exp (-max z (-z))) : ℝ) : EReal) := by
  have e0 : (FloatOps.ofBits .f32 0x00000000#32 : Ideal .f32) = (0 : EReal) := Ideal.ofBits_zero_f32
  rw [val_main_call0_v1_apply, val_main_call0_call0_v4_apply]
  have ne : FloatOps.cmpf (F := Ideal) (φ := .f32) .une (val_main_call0_call0_v3 (F := Ideal) x i) (val_main_call0_call0_v3 (F := Ideal) x i) = 0#1 := by
    rw [Ideal.cmpf_def]; simp [Ideal.cmp]
  rw [ne]
  show val_main_call0_call0_v11 (F := Ideal) x i = _
  rw [val_main_call0_call0_v11_apply, val_main_call0_call0_v10_apply, val_main_call0_call0_v9_apply, val_main_call0_call0_v8_apply, val_main_call0_call0_v7_apply,
    val_main_call0_call0_v3_apply, val_main_call0_call0_v2_apply, val_main_call0_call0_v1_apply, val_main_call0_call0_v0_apply, val_main_call0_call0_cst_apply, hz, e0]
  exact softplus_ref z

/-- The same, of the second call. -/
theorem call1_real (i : S4x8x4096x4096.Idx) (z : ℝ) (hz : val_main_call1_v0 (F := Ideal) x i = (z : EReal)) :
    val_main_call1_v1 (F := Ideal) x i = ((max z 0 + Real.log (1 + Real.exp (-max z (-z))) : ℝ) : EReal) := by
  have e0 : (FloatOps.ofBits .f32 0x00000000#32 : Ideal .f32) = (0 : EReal) := Ideal.ofBits_zero_f32
  rw [val_main_call1_v1_apply, val_main_call1_call0_v4_apply]
  have ne : FloatOps.cmpf (F := Ideal) (φ := .f32) .une (val_main_call1_call0_v3 (F := Ideal) x i) (val_main_call1_call0_v3 (F := Ideal) x i) = 0#1 := by
    rw [Ideal.cmpf_def]; simp [Ideal.cmp]
  rw [ne]
  show val_main_call1_call0_v11 (F := Ideal) x i = _
  rw [val_main_call1_call0_v11_apply, val_main_call1_call0_v10_apply, val_main_call1_call0_v9_apply, val_main_call1_call0_v8_apply, val_main_call1_call0_v7_apply,
    val_main_call1_call0_v3_apply, val_main_call1_call0_v2_apply, val_main_call1_call0_v1_apply, val_main_call1_call0_v0_apply, val_main_call1_call0_cst_apply, hz, e0]
  exact softplus_ref z

/-- The log-betas. -/
theorem v21_real (i : S4x8x4096x4096.Idx) : val_main_v21 (F := Ideal) x i = (lsg (scoreR x (i 0).val (i 1).val (i 2).val (i 3).val) : EReal) := by
  have hz : val_main_call0_v0 (F := Ideal) x i = ((-scoreR x (i 0).val (i 1).val (i 2).val (i 3).val : ℝ) : EReal) := by
    rw [val_main_call0_v0_apply, v14_real hx, EReal.coe_neg]; rfl
  rw [val_main_v21_apply, call0_real hx i _ hz]
  show -((_ : ℝ) : EReal) = _
  rw [← EReal.coe_neg, lsg_eq]

/-- The masked log-keeps. -/
theorem v24_real (i : S4x8x4096x4096.Idx) :
    val_main_v24 (F := Ideal) x i = (keep (scoreR x (i 0).val (i 1).val (i 2).val) (i 2).val (i 3).val : EReal) := by
  have hz : val_main_call1_v0 (F := Ideal) x i = ((scoreR x (i 0).val (i 1).val (i 2).val (i 3).val : ℝ) : EReal) := by
    rw [val_main_call1_v0_apply, val_main_v22_apply, v14_real hx]
    exact neg_neg _
  rw [val_main_v24_apply, val_main_call2_v1_apply, v20_at hx, keep]
  by_cases h : (i 3).val < (i 2).val
  · rw [if_pos h, if_pos h]
    show val_main_v23 (F := Ideal) x i = _
    rw [val_main_v23_apply, call1_real hx i _ hz]
    show -((_ : ℝ) : EReal) = _
    rw [← EReal.coe_neg, lsg_keep_eq]
  · rw [if_neg h, if_neg h]
    show val_main_call2_v2 (F := Ideal) i = _
    rw [val_main_call2_v2_apply, val_main_call2_v0_apply, val_main_cst_0_apply]
    exact Ideal.ofBits_zero_f32

/-- The suffix sums, each with its own key. -/
theorem v25_real (i : S4x8x4096x4096.Idx) :
    val_main_v25 (F := Ideal) x i = ((∑ k ∈ Finset.Ico (i 3).val 4096, keep (scoreR x (i 0).val (i 1).val (i 2).val) (i 2).val k : ℝ) : EReal) := by
  unfold val_main_v25
  refine window_sum _ _ (fun a => ?_) i _ fun a h0 h1 h2 => ?_
  · rw [val_main_call3_v0_apply, val_main_call3_cst_apply]; exact Ideal.ofBits_zero_f32
  · rw [v24_real hx, h0, h1, h2]

/-- The weights. -/
theorem v29_real (i : S4x8x4096x4096.Idx) :
    val_main_v29 (F := Ideal) x i = (weight (scoreR x (i 0).val (i 1).val (i 2).val) (i 2).val (i 3).val : EReal) := by
  have h3 : (i 3).val < 4096 := (i 3).isLt
  rw [val_main_v29_apply, val_main_call4_v1_apply, v20_at hx, weight]
  by_cases h : (i 3).val < (i 2).val
  · rw [if_pos h, if_pos h]
    show val_main_v28 (F := Ideal) x i = _
    rw [val_main_v28_apply, val_main_v27_apply, val_main_v26_apply, v21_real hx, v25_real hx, v24_real hx, Finset.sum_eq_sum_Ico_succ_bot h3]
    show Ideal.exp (((_ : ℝ) : EReal) + (((_ : ℝ) : EReal) - ((_ : ℝ) : EReal))) = _
    rw [← EReal.coe_sub, ← EReal.coe_add, Ideal.exp_coe, add_sub_cancel_left]
  · rw [if_neg h, if_neg h]
    show val_main_call4_v2 (F := Ideal) i = _
    rw [val_main_call4_v2_apply, val_main_call4_v0_apply, val_main_cst_1_apply]
    exact Ideal.ofBits_zero_f32

/-- Attention. -/
theorem v30_real (i : S4x8x4096x128.Idx) : val_main_v30 (F := Ideal) x i = (attR x (i 0).val (i 1).val (i 2).val (i 3).val : EReal) := by
  rw [val_main_v30_apply]
  have e : ∀ k : Fin 4096, (val_main_v29 (F := Ideal) x (lidx_main_v30 i k) : EReal) * val_main_v11 (F := Ideal) x (ridx_main_v30 i k)
      = ((weight (scoreR x (i 0).val (i 1).val (i 2).val) (i 2).val k.val * cell x (i 0).val k.val (2048 + 128 * (i 1).val + (i 3).val) : ℝ) : EReal) := fun k => by
    rw [v29_real hx, v11_real hx, EReal.coe_mul]
  rw [Finset.sum_congr rfl fun k _ => e k, coe_sum, attR, Finset.sum_range]

/-- The result. -/
theorem v47_real (g : FVec Ideal S1x128 .f32) (i : S4x4096x1024.Idx) (h : ℕ) (d : Fin 128) (hh : (i 2).val = 128 * h + d.val) :
    val_main_v47 (F := Ideal) x g i = outR x g (i 0).val (i 1).val h d := by
  have h0 : (i 0).val < 4 := (i 0).isLt
  have h1 : (i 1).val < 4096 := (i 1).isLt
  have h2 : (i 2).val < 1024 := (i 2).isLt
  have hd := d.isLt
  rw [val_main_v47_apply, val_main_v46_apply, val_main_v45_apply]
  have e : idx_main_v45 (idx_main_v46 i) = ix4 (⟨(i 0).val, h0⟩ : Fin 4) (⟨h, by omega⟩ : Fin 8) (⟨(i 1).val, h1⟩ : Fin 4096) d := by
    funext a
    match a with
    | ⟨0, _⟩ => exact Fin.ext (by dsimp only [idx_main_v45, idx_main_v46, ix4]; omega)
    | ⟨1, _⟩ => exact Fin.ext (by dsimp only [idx_main_v45, idx_main_v46, ix4]; omega)
    | ⟨2, _⟩ => exact Fin.ext (by dsimp only [idx_main_v45, idx_main_v46, ix4]; omega)
    | ⟨3, _⟩ => exact Fin.ext (by dsimp only [idx_main_v45, idx_main_v46, ix4]; omega)
  rw [e, val_main_v44_apply, val_main_v40_apply, val_main_v43_apply, val_main_v42_apply, val_main_v41_apply, val_main_v39_apply, val_main_v38_apply,
    val_main_v37_apply, val_main_v36_apply, val_main_cst_4_apply, val_main_v35_apply, val_main_v34_apply, val_main_cst_3_apply, val_main_v33_apply,
    val_main_v32_apply, val_main_cst_2_apply, v30_real hx]
  have e2 : ∀ k : Fin 128, (val_main_v31 (F := Ideal) x (idx_main_v32 (idx_main_v33 (idx_main_v39 (ix4 (⟨(i 0).val, h0⟩ : Fin 4) (⟨h, by omega⟩ : Fin 8) (⟨(i 1).val, h1⟩ : Fin 4096) d))) k) : EReal)
      = (attR x (i 0).val h (i 1).val k.val : EReal) * (attR x (i 0).val h (i 1).val k.val : EReal) := fun k => by
    rw [val_main_v31_apply, v30_real hx]; rfl
  rw [Finset.sum_congr rfl fun k _ => e2 k]
  have e3 : idx_main_v41 (idx_main_v42 (idx_main_v43 (ix4 (⟨(i 0).val, h0⟩ : Fin 4) (⟨h, by omega⟩ : Fin 8) (⟨(i 1).val, h1⟩ : Fin 4096) d))) = ix2 (0 : Fin 1) d := by
    funext a
    match a with
    | ⟨0, _⟩ => rfl
    | ⟨1, _⟩ => exact Fin.ext (by dsimp only [idx_main_v41, idx_main_v42, idx_main_v43, ix2, ix4]; omega)
  rw [e3, show (FloatOps.ofBits .f32 0x00000000#32 : Ideal .f32) = (0 : EReal) from Ideal.ofBits_zero_f32, zero_add]
  rfl

end

end Cert.Proof.SBV
-- ==== Proof.Val.Out.lean ====
module

public import proofs.«01_k».proof.Proof.Val.Rows
public import proofs.«01_k».proof.Proof.Val.Ref
public import proofs.«01_k».proof.Proof.PI.Run

@[expose] public section

set_option maxRecDepth 16384

noncomputable section

namespace Cert.Proof.SBV

open Cert.KernelIdeal Cert.KernelIdeal.Gen Cert.Proof.SBI
open Idealize.ShloMosaic
open scoped BigOperators

/-! ## The blocks the rows are computed from -/

/-- Row `r` of query block `a` is row `128 a + r` of the window. -/
theorem qb_at (x : Vec Ideal S1x512x128 .bf16) (a : Fin 4) (r d : Fin 128) :
    qb x a (ix3 0 r d) = x (ix3 0 ⟨128 * a.val + r.val, by omega⟩ d) := by
  unfold qb
  refine congrArg x ?_
  funext k; apply Fin.ext
  match k with
  | ⟨0, _⟩ => rfl
  | ⟨1, _⟩ => show 128 * a.val + 1 * r.val = 128 * a.val + r.val; omega
  | ⟨2, _⟩ => show 0 + 1 * d.val = d.val; omega

/-- Row `l` of key block `n` is row `256 n + l` of the window. -/
theorem kb_at (x : Vec Ideal S1x4096x128 .bf16) (n : ℕ) (hn : n < 16) (l : Fin 256) (d : Fin 128) :
    kb x n (ix3 0 l d) = x (ix3 0 ⟨256 * n + l.val, by omega⟩ d) := by
  unfold kb
  refine congrArg x ?_
  have h := Nat.mod_eq_of_lt hn
  funext k; apply Fin.ext
  match k with
  | ⟨0, _⟩ => rfl
  | ⟨1, _⟩ => show 256 * (n % 16) + 1 * l.val = 256 * n + l.val; omega
  | ⟨2, _⟩ => show 0 + 1 * d.val = d.val; omega

/-! ## A block of the result -/

section block
variable {x : (Cert.ReferenceIdeal.S4x4096x3072).Idx → EReal} {x3 : Vec Ideal S1x512x128 .bf16} {x4 x5 : Vec Ideal S1x4096x128 .bf16} (b h n : ℕ) (hn : n < 8)
  (h3 : ∀ (r : Fin 512) (d : Fin 128), x3 (ix3 0 r d) = (cell x b (512 * n + r.val) (128 * h + d.val) : EReal))
  (h4 : ∀ (j : Fin 4096) (d : Fin 128), x4 (ix3 0 j d) = (cell x b j.val (1024 + 128 * h + d.val) : EReal))
  (h5 : ∀ (j : Fin 4096) (d : Fin 128), x5 (ix3 0 j d) = (cell x b j.val (2048 + 128 * h + d.val) : EReal))
include hn h3 h4 h5

/-- The accumulators of a query block hold the attention of its rows. -/
theorem accRow_at (a : Fin 4) (r d : Fin 128) :
    accRow x3 x4 x5 n a (ix2 r d) = (attR x b h (512 * n + 128 * a.val + r.val) d.val : EReal) := by
  have hq : ∀ (a : Fin 4) (r d : Fin 128), qb x3 a (ix3 0 r d) = (cell x b (512 * n + 128 * a.val + r.val) (128 * h + d.val) : EReal) := by
    intro a r d
    rw [qb_at, h3, ← Nat.add_assoc]
  have hk : ∀ n, n < 16 → ∀ (l : Fin 256) (d : Fin 128), kb x4 n (ix3 0 l d) = (cell x b (256 * n + l.val) (1024 + 128 * h + d.val) : EReal) := by
    intro n hn l d
    rw [kb_at x4 n hn, h4]
  have hv : ∀ n, n < 16 → ∀ (l : Fin 256) (d : Fin 128), kb x5 n (ix3 0 l d) = (cell x b (256 * n + l.val) (2048 + 128 * h + d.val) : EReal) := by
    intro n hn l d
    rw [kb_at x5 n hn, h5]
  match a with
  | 0 => exact row_real (Q := fun r d => cell x b (512 * n + 128 * (0 : Fin 4).val + r.val) (128 * h + d.val)) (K := fun j d => cell x b j (1024 + 128 * h + d.val)) (V := fun j d => cell x b j (2048 + 128 * h + d.val)) (g := fun r => 512 * n + 128 * (0 : Fin 4).val + r.val) 0 0 (by omega) (by omega) (hq 0) hk hv (2 * n) (by omega) (fun r l => by simp; omega) (fun r => by simp; omega) r d
  | 1 => exact row_real (Q := fun r d => cell x b (512 * n + 128 * (1 : Fin 4).val + r.val) (128 * h + d.val)) (K := fun j d => cell x b j (1024 + 128 * h + d.val)) (V := fun j d => cell x b j (2048 + 128 * h + d.val)) (g := fun r => 512 * n + 128 * (1 : Fin 4).val + r.val) 0 128 (by omega) (by omega) (hq 1) hk hv (2 * n) (by omega) (fun r l => by simp; omega) (fun r => by simp; omega) r d
  | 2 => exact row_real (Q := fun r d => cell x b (512 * n + 128 * (2 : Fin 4).val + r.val) (128 * h + d.val)) (K := fun j d => cell x b j (1024 + 128 * h + d.val)) (V := fun j d => cell x b j (2048 + 128 * h + d.val)) (g := fun r => 512 * n + 128 * (2 : Fin 4).val + r.val) 256 256 (by omega) (by omega) (hq 2) hk hv (2 * n + 1) (by omega) (fun r l => by simp; omega) (fun r => by simp; omega) r d
  | 3 => exact row_real (Q := fun r d => cell x b (512 * n + 128 * (3 : Fin 4).val + r.val) (128 * h + d.val)) (K := fun j d => cell x b j (1024 + 128 * h + d.val)) (V := fun j d => cell x b j (2048 + 128 * h + d.val)) (g := fun r => 512 * n + 128 * (3 : Fin 4).val + r.val) 256 384 (by omega) (by omega) (hq 3) hk hv (2 * n + 1) (by omega) (fun r l => by simp; omega) (fun r => by simp; omega) r d

/-- Stacked, they hold the attention of the block's 512 rows. -/
theorem stack_at (r : Fin 512) (d : Fin 128) :
    stack (accRow x3 x4 x5 n) (ix2 r d) = (attR x b h (512 * n + r.val) d.val : EReal) := by
  have e := accRow_at b h n hn h3 h4 h5 ⟨r.val / 128, by omega⟩ ⟨r.val % 128, by omega⟩ d
  have i : 512 * n + 128 * (r.val / 128) + r.val % 128 = 512 * n + r.val := by omega
  have e' : accRow x3 x4 x5 n ⟨r.val / 128, by omega⟩ (ix2 ⟨r.val % 128, by omega⟩ d) = (attR x b h (512 * n + r.val) d.val : EReal) := e.trans (by rw [← i])
  refine Eq.trans ?_ e'
  unfold stack
  refine congrArg (accRow x3 x4 x5 n ⟨r.val / 128, _⟩) ?_
  funext k; match k with
  | ⟨0, _⟩ => rfl
  | ⟨1, _⟩ => rfl

/-- A query block's result is the reference's, normalised and scaled by the gain. -/
theorem outSpec_at (g : Vec Ideal S1x128 .f32) (r : Fin 512) (d : Fin 128) :
    outSpec n x3 x4 x5 g (ix3 0 r d) = outR x g b (512 * n + r.val) h d := by
  refine (pay2_at (stack (accRow x3 x4 x5 n)) g r d).trans ?_
  simp only [stack_at b h n hn h3 h4 h5]
  rfl

end block

end Cert.Proof.SBV

end
-- ==== Proof.Val.Array.lean ====
module

public import proofs.«01_k».proof.Proof.Val.Out
public import Idealize.ShloMosaic.Lib.Pipeline.ValueKit

@[expose] public section

set_option maxRecDepth 16384

noncomputable section

namespace Cert.Proof.SBV

open Cert.KernelIdeal Cert.KernelIdeal.Gen Cert.Proof.SBI
open Idealize.ShloMosaic Idealize.ShloMosaic.TcCoe
open Idealize.SL Idealize.SL.Sem
open scoped BigOperators

/-! ## Where the blocks lie -/

/-- A point's query block, its keys, its values, the gain and its result block, by batch, head and query block. -/
theorem idx_facts : ∀ t : Fin cfg0.N,
    win0_0.index t = ![(grid0.coords t 0).val, (grid0.coords t 2).val, (grid0.coords t 1).val]
    ∧ win0_1.index t = ![(grid0.coords t 0).val, 0, 8 + (grid0.coords t 1).val]
    ∧ win0_2.index t = ![(grid0.coords t 0).val, 0, 16 + (grid0.coords t 1).val]
    ∧ win0_3.index t = ![0, 0]
    ∧ win0_4.index t = ![(grid0.coords t 0).val, (grid0.coords t 2).val, (grid0.coords t 1).val] :=
  (by decide +kernel : ∀ t : Fin grid0.N, _)

variable (m : (ℓ : Loc nD τ sig) → Buf (Elt Ideal) ℓ) (c : Dev nD)

/-- The queries a point stages are rows of its batch, in its head's columns. -/
theorem q_at (hx : Real3 (m ((c : Thread nD τ).loc main_arg0))) (t : Fin cfg0.N) (r : Fin 512) (d : Fin 128) :
    iblk m c 0 t (ix3 0 r d) = (cell (m ((c : Thread nD τ).loc main_arg0)) (grid0.coords t 0).val (512 * (grid0.coords t 2).val + r.val) (128 * (grid0.coords t 1).val + d.val) : EReal) := by
  obtain ⟨e0, e1, e2, e3, e4⟩ := idx_facts t
  show V m c main_arg0 (((cfg0.win 0).blk t).view.emb (ix3 0 r d)) = _
  rw [V_main_arg0]
  refine cell_at hx _ ?_ ?_ ?_
  · show win0_0.index t (0 : Fin 3) * 1 + 1 * 0 = _
    rw [e0]; show (grid0.coords t 0).val * 1 + 1 * 0 = _; omega
  · show win0_0.index t (1 : Fin 3) * 512 + 1 * r.val = _
    rw [e0]; show (grid0.coords t 2).val * 512 + 1 * r.val = _; omega
  · show win0_0.index t (2 : Fin 3) * 128 + 1 * d.val = _
    rw [e0]; show (grid0.coords t 1).val * 128 + 1 * d.val = _; omega

/-- So are the keys, 1024 columns further. -/
theorem k_at (hx : Real3 (m ((c : Thread nD τ).loc main_arg0))) (t : Fin cfg0.N) (j : Fin 4096) (d : Fin 128) :
    iblk m c 1 t (ix3 0 j d) = (cell (m ((c : Thread nD τ).loc main_arg0)) (grid0.coords t 0).val j.val (1024 + 128 * (grid0.coords t 1).val + d.val) : EReal) := by
  obtain ⟨e0, e1, e2, e3, e4⟩ := idx_facts t
  show V m c main_arg0 (((cfg0.win 1).blk t).view.emb (ix3 0 j d)) = _
  rw [V_main_arg0]
  refine cell_at hx _ ?_ ?_ ?_
  · show win0_1.index t (0 : Fin 3) * 1 + 1 * 0 = _
    rw [e1]; show (grid0.coords t 0).val * 1 + 1 * 0 = _; omega
  · show win0_1.index t (1 : Fin 3) * 4096 + 1 * j.val = _
    rw [e1]; show 0 * 4096 + 1 * j.val = _; omega
  · show win0_1.index t (2 : Fin 3) * 128 + 1 * d.val = _
    rw [e1]; show (8 + (grid0.coords t 1).val) * 128 + 1 * d.val = _; omega

/-- And the values, 2048 columns further. -/
theorem v_at (hx : Real3 (m ((c : Thread nD τ).loc main_arg0))) (t : Fin cfg0.N) (j : Fin 4096) (d : Fin 128) :
    iblk m c 2 t (ix3 0 j d) = (cell (m ((c : Thread nD τ).loc main_arg0)) (grid0.coords t 0).val j.val (2048 + 128 * (grid0.coords t 1).val + d.val) : EReal) := by
  obtain ⟨e0, e1, e2, e3, e4⟩ := idx_facts t
  show V m c main_arg0 (((cfg0.win 2).blk t).view.emb (ix3 0 j d)) = _
  rw [V_main_arg0]
  refine cell_at hx _ ?_ ?_ ?_
  · show win0_2.index t (0 : Fin 3) * 1 + 1 * 0 = _
    rw [e2]; show (grid0.coords t 0).val * 1 + 1 * 0 = _; omega
  · show win0_2.index t (1 : Fin 3) * 4096 + 1 * j.val = _
    rw [e2]; show 0 * 4096 + 1 * j.val = _; omega
  · show win0_2.index t (2 : Fin 3) * 128 + 1 * d.val = _
    rw [e2]; show (16 + (grid0.coords t 1).val) * 128 + 1 * d.val = _; omega

/-- The gain is staged whole. -/
theorem g_at (t : Fin cfg0.N) : iblk m c 3 t = m ((c : Thread nD τ).loc main_arg1) := by
  obtain ⟨e0, e1, e2, e3, e4⟩ := idx_facts t
  funext y
  show V m c main_arg1 (((cfg0.win 3).blk t).view.emb y) = _
  rw [V_main_arg1]
  refine congrArg _ ?_
  funext a; apply Fin.ext
  match a with
  | ⟨0, _⟩ => show win0_3.index t (0 : Fin 2) * 1 + 1 * (y 0).val = (y 0).val; rw [e3]; show 0 * 1 + 1 * (y 0).val = (y 0).val; omega
  | ⟨1, _⟩ => show win0_3.index t (1 : Fin 2) * 128 + 1 * (y 1).val = (y 1).val; rw [e3]; show 0 * 128 + 1 * (y 1).val = (y 1).val; omega

/-- What a point leaves at an index of its result block is the reference's result where the block places that index. -/
theorem out_at (hx : Real3 (m ((c : Thread nD τ).loc main_arg0))) (t : Fin cfg0.N) (r : Fin 512) (d : Fin 128) (i : (Cert.ReferenceIdeal.S4x4096x1024).Idx)
    (h0 : (i 0).val = (grid0.coords t 0).val) (h1 : (i 1).val = 512 * (grid0.coords t 2).val + r.val) (h2 : (i 2).val = 128 * (grid0.coords t 1).val + d.val) :
    outSpec (grid0.coords t 2).val (iblk m c 0 t) (iblk m c 1 t) (iblk m c 2 t) (iblk m c 3 t) (ix3 0 r d)
      = Cert.ReferenceIdeal.Read.val_main_v47 (F := Ideal) (m ((c : Thread nD τ).loc main_arg0)) (m ((c : Thread nD τ).loc main_arg1)) i := by
  rw [v47_real hx _ i _ d h2, h0, h1, g_at]
  exact outSpec_at (x := m ((c : Thread nD τ).loc main_arg0)) _ _ _ (coord_lt _) (q_at m c hx t) (k_at m c hx t) (v_at m c hx t) _ r d

/-- The result array ends at what the reference computes from the same arguments. -/
theorem final (hx : Real3 (m ((c : Thread nD τ).loc main_arg0))) : (dats m 0 c).arrAt 4 cfg0.N
    = Cert.ReferenceIdeal.Read.val_main_v47 (F := Ideal) (m ((c : Thread nD τ).loc main_arg0)) (m ((c : Thread nD τ).loc main_arg1)) := by
  refine (dats m 0 c).arrAt_eq_of_covers 4 _ (by decide +kernel) fun t hf y => ?_
  obtain ⟨e0, e1, e2, e3, e4⟩ := idx_facts t
  blk_simp
  rw [after0_4]
  have hy : y = ix3 (0 : Fin 1) (y 1 : Fin 512) (y 2 : Fin 128) := by
    funext a
    match a with
    | ⟨0, _⟩ => exact Subsingleton.elim (α := Fin 1) _ _
    | ⟨1, _⟩ => rfl
    | ⟨2, _⟩ => rfl
  refine Eq.trans (congrArg (outSpec (grid0.coords t 2).val (iblk m c 0 t) (iblk m c 1 t) (iblk m c 2 t) (iblk m c 3 t)) hy) ?_
  have z : (y 0).val = 0 := congrArg Fin.val (Subsingleton.elim (α := Fin 1) (y 0) 0)
  refine out_at m c hx t _ _ _ ?_ ?_ ?_
  · show win0_4.index t (0 : Fin 3) * 1 + 1 * (y 0).val = _
    rw [e4, z]; show (grid0.coords t 0).val * 1 + 1 * 0 = _; omega
  · show win0_4.index t (1 : Fin 3) * 512 + 1 * (y 1).val = _
    rw [e4]; show (grid0.coords t 2).val * 512 + 1 * (y 1).val = _; omega
  · show win0_4.index t (2 : Fin 3) * 128 + 1 * (y 2).val = _
    rw [e4]; show (grid0.coords t 1).val * 128 + 1 * (y 2).val = _; omega

end Cert.Proof.SBV

end
-- ==== Proof.Ffn.Terms.lean ====
module

public import proofs.«01_k».proof.Proof.Gen.Kernel2Ideal.Frame
public import Idealize.ShloMosaic.Lib.Pipeline.Value

@[expose] public section

set_option maxRecDepth 16384

noncomputable section

namespace Cert.Proof.FFV

open Cert.Kernel2Ideal Cert.Kernel2Ideal.Gen
open Idealize.ShloMosaic Idealize.ShloMosaic.TcCoe
open Idealize.SL Idealize.SL.Sem

variable {F : FTy → Type} [FloatOps F]
variable (m : (ℓ : Loc nD τ sig) → Buf (Elt F) ℓ) (c : Dev nD)

theorem hz : (![0, 0] : Fin 2 → Nat) = fun _ => 0 := funext fun a => by fin_cases a <;> rfl

/-- A row block's first point leaves its normalised rows. -/
theorem outs_A_0 (t : Fin cfg0.N) (h : t.val % 11 = 0) : (outsAt0 m c t.val t.isLt).2.1 = k0_pay1 (iblk m c 0 t) (iblk m c 1 t) := by
  rw [outsAt0_A m c t h (by omega) (by omega)]
  dsimp only
  unfold sout0_A_0
  rw [View.read_writes_eq_canon]
  rotate_left
  · exact fun _ => scover0_A_0 ..
  unfold kernelRun0_A
  dsimp only
  sl_unfold_words
  rw [View.canon_unit_zero hz]
  simp only [View.readAt_eq_ld, (hs0_0 t).read_unread, (hs0_1 t).read_unread, View.ld_unit_zero (S := S512x2048) hz, View.ld_unit_zero (S := S1x2048) hz]

/-- And the products of the first 512 hidden units, added to zero. -/
theorem outs_A_1 (t : Fin cfg0.N) (h : t.val % 11 = 0) : (outsAt0 m c t.val t.isLt).2.2
    = k0_pay3 (X0_2 m c t) (X0_3 m c t) (X0_4 m c t) (k0_pay1 (iblk m c 0 t) (iblk m c 1 t)) k0_pay2 := by
  rw [outsAt0_A m c t h (by omega) (by omega)]
  dsimp only
  unfold sout0_A_1
  rw [View.read_writes_eq_canon]
  rotate_left
  · exact fun _ => scover0_A_1 ..
  unfold kernelRun0_A
  dsimp only
  sl_unfold_words
  rw [View.canon_cons_unit_zero (S := S512x2048) hz]
  simp only [View.readCov_unit_zero (S := S512x2048) _ hz, View.readAt_eq_ld, (hs0_0 t).read_unread, (hs0_1 t).read_unread, (hs0_2 t).read_unread, (hs0_3 t).read_unread, (hs0_4 t).read_unread,
    View.ld_unit_zero (S := S512x2048) hz, View.ld_unit_zero (S := S1x2048) hz, View.ld_unit_zero (S := S2048x512) hz]

/-- Its middle points keep the normalised rows. -/
theorem outs_B_0 (t : Fin cfg0.N) (h : ¬t.val % 11 = 0) (h1 : t.val % 11 ≤ 9) :
    (outsAt0 m c t.val t.isLt).2.1 = (outsAt0 m c (t.val - 1) (Nat.lt_of_le_of_lt (Nat.sub_le _ _) t.isLt)).2.1 := by
  rw [outsAt0_B m c t h h1 (by omega)]
  rfl

/-- And add the products of their own 512 hidden units. -/
theorem outs_B_1 (t : Fin cfg0.N) (h : ¬t.val % 11 = 0) (h1 : t.val % 11 ≤ 9) : (outsAt0 m c t.val t.isLt).2.2
    = k0_pay3 (X0_2 m c t) (X0_3 m c t) (X0_4 m c t) (outsAt0 m c (t.val - 1) (Nat.lt_of_le_of_lt (Nat.sub_le _ _) t.isLt)).2.1
        (outsAt0 m c (t.val - 1) (Nat.lt_of_le_of_lt (Nat.sub_le _ _) t.isLt)).2.2 := by
  rw [outsAt0_B m c t h h1 (by omega)]
  dsimp only
  unfold sout0_B_1
  rw [View.read_writes_eq_canon]
  rotate_left
  · exact fun _ => scover0_B_1 ..
  unfold kernelRun0_B
  dsimp only
  sl_unfold_words
  rw [View.canon_unit_zero hz]
  simp only [View.readAt_eq_ld, (hs0_2 t).read_unread, (hs0_3 t).read_unread, (hs0_4 t).read_unread, (Memref.isWhole_whole _).read_unread,
    View.ld_unit_zero (S := S512x2048) hz, View.ld_unit_zero (S := S2048x512) hz]

/-- Its last point adds the last 384 hidden units' products and normalises the sum. -/
theorem outs_C (t : Fin cfg0.N) (h : t.val % 11 = 10) : (outsAt0 m c t.val t.isLt).1
    = k0_pay4 (k0_pay6 (iblk m c 0 t) (k0_pay5 (iblk m c 5 t) (iblk m c 6 t) (iblk m c 7 t) (outsAt0 m c (t.val - 1) (Nat.lt_of_le_of_lt (Nat.sub_le _ _) t.isLt)).2.1
        (outsAt0 m c (t.val - 1) (Nat.lt_of_le_of_lt (Nat.sub_le _ _) t.isLt)).2.2)) (iblk m c 8 t)
      (k0_pay7 (iblk m c 0 t) (k0_pay5 (iblk m c 5 t) (iblk m c 6 t) (iblk m c 7 t) (outsAt0 m c (t.val - 1) (Nat.lt_of_le_of_lt (Nat.sub_le _ _) t.isLt)).2.1
        (outsAt0 m c (t.val - 1) (Nat.lt_of_le_of_lt (Nat.sub_le _ _) t.isLt)).2.2)) := by
  rw [outsAt0_C m c t (by omega) (by omega) h]
  dsimp only
  unfold out0_C_9
  rw [View.read_writes_eq_canon]
  rotate_left
  · exact fun _ => cover0_C_9 ..
  unfold kernelRun0_C
  dsimp only
  sl_unfold_words
  rw [View.canon_unit_zero hz]
  simp only [View.readCov_unit_zero (S := S512x2048) _ hz, View.readAt_eq_ld, (hs0_0 t).read_unread, (hs0_5 t).read_unread, (hs0_6 t).read_unread, (hs0_7 t).read_unread, (hs0_8 t).read_unread, (Memref.isWhole_whole _).read_unread,
    View.ld_unit_zero (S := S512x2048) hz, View.ld_unit_zero (S := S1x2048) hz, View.ld_unit_zero (S := S2048x384) hz, View.ld_unit_zero (S := S384x2048) hz]

end Cert.Proof.FFV

end
-- ==== Proof.Ffn.Pay.lean ====
module

public import proofs.«01_k».proof.Proof.Gen.Kernel2Ideal.Skeleton
public import Idealize.ShloMosaic.Lib.Pointwise
public import Idealize.ShloMosaic.PureOps.Ideal.Laws

@[expose] public section

set_option maxRecDepth 16384

noncomputable section

namespace Cert.Proof.FFV

open Cert.Kernel2Ideal Cert.Kernel2Ideal.Gen
open Idealize.ShloMosaic
open scoped BigOperators

/-- A number times its logistic. -/
def sil (z : EReal) : EReal := z * Ideal.logistic z

/-- A hidden unit: its gate's `sil` times its other product, from a row and the unit's two weight columns. -/
def hid (h g u : Fin 2048 → EReal) : EReal := sil (∑ k, h k * g k) * ∑ k, h k * u k

/-- An entry of a row scaled to unit mean square. -/
def nrm (x : Fin 2048 → EReal) (d : Fin 2048) : EReal :=
  x d * Ideal.rsqrt (Ideal.div (∑ k, x k * x k) (Ideal.ofBits .f32 0x45000000#32) + Ideal.ofBits .f32 0x358637BD#32)

/-- One over one plus the exponential of the negated argument is the logistic. -/
theorem logi (z : EReal) : Ideal.div (Ideal.ofBits .f32 0x3F800000#32) (Ideal.ofBits .f32 0x3F800000#32 + Ideal.exp (Ideal.ofBits .f32 0#32 - z)) = Ideal.logistic z := by
  have h1 : Ideal.ofBits .f32 0x3F800000#32 = 1 := by
    simp [Ideal.ofBits, Ideal.ieee, -EReal.coe_mul]
    norm_num
  have h0 : Ideal.ofBits .f32 0#32 = 0 := by simp [Ideal.ofBits, Ideal.ieee]
  rw [h1, h0, zero_sub]
  rfl

theorem pay1_at (x : Vec Ideal S512x2048 .f32) (g : Vec Ideal S1x2048 .f32) (r : Fin 512) (d : Fin 2048) :
    (show EReal from k0_pay1 (F := Ideal) x g (ix2 r d)) = nrm (fun k => x (ix2 r k)) d * g (ix2 0 d) := by
  unfold nrm
  pointwise [k0_pay1]

theorem pay2_at (r : Fin 512) (d : Fin 2048) : (show EReal from k0_pay2 (F := Ideal) (ix2 r d)) = 0 := by
  pointwise [k0_pay2]

theorem pay3_at (wg wu : Vec Ideal S2048x512 .bf16) (wd : Vec Ideal S512x2048 .bf16) (h : Vec Ideal S512x2048 .bf16) (a : Vec Ideal S512x2048 .f32)
    (r : Fin 512) (d : Fin 2048) : (show EReal from k0_pay3 (F := Ideal) wg wu wd h a (ix2 r d))
      = a (ix2 r d) + ∑ k : Fin 512, hid (fun j => h (ix2 r j)) (fun j => wg (ix2 j k)) (fun j => wu (ix2 j k)) * wd (ix2 k d) := by
  unfold hid sil
  simp only [← logi]
  pointwise [k0_pay3]

theorem pay5_at (wg wu : Vec Ideal S2048x384 .bf16) (wd : Vec Ideal S384x2048 .bf16) (h : Vec Ideal S512x2048 .bf16) (a : Vec Ideal S512x2048 .f32)
    (r : Fin 512) (d : Fin 2048) : (show EReal from k0_pay5 (F := Ideal) wg wu wd h a (ix2 r d))
      = a (ix2 r d) + ∑ k : Fin 384, hid (fun j => h (ix2 r j)) (fun j => wg (ix2 j k)) (fun j => wu (ix2 j k)) * wd (ix2 k d) := by
  unfold hid sil
  simp only [← logi]
  pointwise [k0_pay5]

/-- The last step's entry: the block's rows plus half the accumulated ones, scaled to unit mean square, times the gain. -/
theorem fin_at (x a : Vec Ideal S512x2048 .f32) (g : Vec Ideal S1x2048 .f32) (r : Fin 512) (d : Fin 2048) :
    (show EReal from k0_pay4 (F := Ideal) (k0_pay6 x a) g (k0_pay7 x a) (ix2 r d))
      = nrm (fun k => x (ix2 r k) + Ideal.ofBits .f32 0x3F000000#32 * a (ix2 r k)) d * g (ix2 0 d) := by
  unfold nrm
  pointwise [k0_pay4, k0_pay6, k0_pay7]

end Cert.Proof.FFV

end
-- ==== Proof.Ffn.Blocks.lean ====
module

public import proofs.«01_k».proof.Proof.Gen.Kernel2Ideal.Frame
public import proofs.«01_k».proof.Proof.Ffn.Pay
public import Idealize.ShloMosaic.Lib.Pipeline.ValueKit
public import Idealize.ShloMosaic.Lib.Claim
public import Idealize.ShloMosaic.Lib.Tactic

@[expose] public section

set_option maxRecDepth 16384

noncomputable section

namespace Cert.Proof.FFV

open Cert.Kernel2Ideal Cert.Kernel2Ideal.Gen
open Idealize.ShloMosaic Idealize.ShloMosaic.TcCoe
open Idealize.SL Idealize.SL.Sem

/-! ## Where the blocks lie -/

/-- A point's blocks of rows and of hidden units, by its place in the order of points. -/
theorem idx_facts : ∀ t : Fin cfg0.N,
    win0_0.index t = ![t.val / 11, 0] ∧ win0_1.index t = ![0, 0]
    ∧ win0_2.index t = ![0, min (t.val % 11) 9] ∧ win0_3.index t = ![0, min (t.val % 11) 9] ∧ win0_4.index t = ![min (t.val % 11) 9, 0]
    ∧ win0_5.index t = ![0, 0] ∧ win0_6.index t = ![0, 0] ∧ win0_7.index t = ![0, 0] ∧ win0_8.index t = ![0, 0]
    ∧ win0_9.index t = ![t.val / 11, 0] :=
  (by decide +kernel : ∀ t : Fin grid0.N, _)

/-- Where window 0's block lies. -/
theorem emb0 (t : Fin cfg0.N) (j : ((cfg0.win 0).xblock (cfg0.grid.coords t)).Idx) (i : S16384x2048.Idx)
    (h0 : (i 0).val = 512 * (t.val / 11) + (j (0 : Fin 2)).val) (h1 : (i 1).val = (j (1 : Fin 2)).val) :
    ((cfg0.win 0).blk t).view.emb j = i := by
  obtain ⟨e0, e1, e2, e3, e4, e5, e6, e7, e8, e9⟩ := idx_facts t
  funext a; apply Fin.ext
  match a with
  | ⟨0, _⟩ =>
    show win0_0.index t (0 : Fin 2) * 512 + 1 * (j (0 : Fin 2)).val = (i 0).val
    rw [e0]; show t.val / 11 * 512 + 1 * (j (0 : Fin 2)).val = (i 0).val; omega
  | ⟨1, _⟩ =>
    show win0_0.index t (1 : Fin 2) * 2048 + 1 * (j (1 : Fin 2)).val = (i 1).val
    rw [e0]; show 0 * 2048 + 1 * (j (1 : Fin 2)).val = (i 1).val; omega

/-- Where window 1's block lies. -/
theorem emb1 (t : Fin cfg0.N) (j : ((cfg0.win 1).xblock (cfg0.grid.coords t)).Idx) (i : S1x2048.Idx)
    (h0 : (i 0).val = (j (0 : Fin 2)).val) (h1 : (i 1).val = (j (1 : Fin 2)).val) :
    ((cfg0.win 1).blk t).view.emb j = i := by
  obtain ⟨e0, e1, e2, e3, e4, e5, e6, e7, e8, e9⟩ := idx_facts t
  funext a; apply Fin.ext
  match a with
  | ⟨0, _⟩ =>
    show win0_1.index t (0 : Fin 2) * 1 + 1 * (j (0 : Fin 2)).val = (i 0).val
    rw [e1]; show 0 * 1 + 1 * (j (0 : Fin 2)).val = (i 0).val; omega
  | ⟨1, _⟩ =>
    show win0_1.index t (1 : Fin 2) * 2048 + 1 * (j (1 : Fin 2)).val = (i 1).val
    rw [e1]; show 0 * 2048 + 1 * (j (1 : Fin 2)).val = (i 1).val; omega

/-- Where window 2's block lies. -/
theorem emb2 (t : Fin cfg0.N) (h : t.val % 11 ≤ 9) (j : ((cfg0.win 2).xblock (cfg0.grid.coords t)).Idx) (i : S2048x5504.Idx)
    (h0 : (i 0).val = (j (0 : Fin 2)).val) (h1 : (i 1).val = 512 * (t.val % 11) + (j (1 : Fin 2)).val) :
    ((cfg0.win 2).blk t).view.emb j = i := by
  obtain ⟨e0, e1, e2, e3, e4, e5, e6, e7, e8, e9⟩ := idx_facts t
  funext a; apply Fin.ext
  match a with
  | ⟨0, _⟩ =>
    show win0_2.index t (0 : Fin 2) * 2048 + 1 * (j (0 : Fin 2)).val = (i 0).val
    rw [e2]; show 0 * 2048 + 1 * (j (0 : Fin 2)).val = (i 0).val; omega
  | ⟨1, _⟩ =>
    show win0_2.index t (1 : Fin 2) * 512 + 1 * (j (1 : Fin 2)).val = (i 1).val
    rw [e2]; show min (t.val % 11) 9 * 512 + 1 * (j (1 : Fin 2)).val = (i 1).val; omega

/-- Where window 3's block lies. -/
theorem emb3 (t : Fin cfg0.N) (h : t.val % 11 ≤ 9) (j : ((cfg0.win 3).xblock (cfg0.grid.coords t)).Idx) (i : S2048x5504.Idx)
    (h0 : (i 0).val = (j (0 : Fin 2)).val) (h1 : (i 1).val = 512 * (t.val % 11) + (j (1 : Fin 2)).val) :
    ((cfg0.win 3).blk t).view.emb j = i := by
  obtain ⟨e0, e1, e2, e3, e4, e5, e6, e7, e8, e9⟩ := idx_facts t
  funext a; apply Fin.ext
  match a with
  | ⟨0, _⟩ =>
    show win0_3.index t (0 : Fin 2) * 2048 + 1 * (j (0 : Fin 2)).val = (i 0).val
    rw [e3]; show 0 * 2048 + 1 * (j (0 : Fin 2)).val = (i 0).val; omega
  | ⟨1, _⟩ =>
    show win0_3.index t (1 : Fin 2) * 512 + 1 * (j (1 : Fin 2)).val = (i 1).val
    rw [e3]; show min (t.val % 11) 9 * 512 + 1 * (j (1 : Fin 2)).val = (i 1).val; omega

/-- Where window 4's block lies. -/
theorem emb4 (t : Fin cfg0.N) (h : t.val % 11 ≤ 9) (j : ((cfg0.win 4).xblock (cfg0.grid.coords t)).Idx) (i : S5504x2048.Idx)
    (h0 : (i 0).val = 512 * (t.val % 11) + (j (0 : Fin 2)).val) (h1 : (i 1).val = (j (1 : Fin 2)).val) :
    ((cfg0.win 4).blk t).view.emb j = i := by
  obtain ⟨e0, e1, e2, e3, e4, e5, e6, e7, e8, e9⟩ := idx_facts t
  funext a; apply Fin.ext
  match a with
  | ⟨0, _⟩ =>
    show win0_4.index t (0 : Fin 2) * 512 + 1 * (j (0 : Fin 2)).val = (i 0).val
    rw [e4]; show min (t.val % 11) 9 * 512 + 1 * (j (0 : Fin 2)).val = (i 0).val; omega
  | ⟨1, _⟩ =>
    show win0_4.index t (1 : Fin 2) * 2048 + 1 * (j (1 : Fin 2)).val = (i 1).val
    rw [e4]; show 0 * 2048 + 1 * (j (1 : Fin 2)).val = (i 1).val; omega

/-- Where window 5's block lies. -/
theorem emb5 (t : Fin cfg0.N) (j : ((cfg0.win 5).xblock (cfg0.grid.coords t)).Idx) (i : S2048x384.Idx)
    (h0 : (i 0).val = (j (0 : Fin 2)).val) (h1 : (i 1).val = (j (1 : Fin 2)).val) :
    ((cfg0.win 5).blk t).view.emb j = i := by
  obtain ⟨e0, e1, e2, e3, e4, e5, e6, e7, e8, e9⟩ := idx_facts t
  funext a; apply Fin.ext
  match a with
  | ⟨0, _⟩ =>
    show win0_5.index t (0 : Fin 2) * 2048 + 1 * (j (0 : Fin 2)).val = (i 0).val
    rw [e5]; show 0 * 2048 + 1 * (j (0 : Fin 2)).val = (i 0).val; omega
  | ⟨1, _⟩ =>
    show win0_5.index t (1 : Fin 2) * 384 + 1 * (j (1 : Fin 2)).val = (i 1).val
    rw [e5]; show 0 * 384 + 1 * (j (1 : Fin 2)).val = (i 1).val; omega

/-- Where window 6's block lies. -/
theorem emb6 (t : Fin cfg0.N) (j : ((cfg0.win 6).xblock (cfg0.grid.coords t)).Idx) (i : S2048x384.Idx)
    (h0 : (i 0).val = (j (0 : Fin 2)).val) (h1 : (i 1).val = (j (1 : Fin 2)).val) :
    ((cfg0.win 6).blk t).view.emb j = i := by
  obtain ⟨e0, e1, e2, e3, e4, e5, e6, e7, e8, e9⟩ := idx_facts t
  funext a; apply Fin.ext
  match a with
  | ⟨0, _⟩ =>
    show win0_6.index t (0 : Fin 2) * 2048 + 1 * (j (0 : Fin 2)).val = (i 0).val
    rw [e6]; show 0 * 2048 + 1 * (j (0 : Fin 2)).val = (i 0).val; omega
  | ⟨1, _⟩ =>
    show win0_6.index t (1 : Fin 2) * 384 + 1 * (j (1 : Fin 2)).val = (i 1).val
    rw [e6]; show 0 * 384 + 1 * (j (1 : Fin 2)).val = (i 1).val; omega

/-- Where window 7's block lies. -/
theorem emb7 (t : Fin cfg0.N) (j : ((cfg0.win 7).xblock (cfg0.grid.coords t)).Idx) (i : S384x2048.Idx)
    (h0 : (i 0).val = (j (0 : Fin 2)).val) (h1 : (i 1).val = (j (1 : Fin 2)).val) :
    ((cfg0.win 7).blk t).view.emb j = i := by
  obtain ⟨e0, e1, e2, e3, e4, e5, e6, e7, e8, e9⟩ := idx_facts t
  funext a; apply Fin.ext
  match a with
  | ⟨0, _⟩ =>
    show win0_7.index t (0 : Fin 2) * 384 + 1 * (j (0 : Fin 2)).val = (i 0).val
    rw [e7]; show 0 * 384 + 1 * (j (0 : Fin 2)).val = (i 0).val; omega
  | ⟨1, _⟩ =>
    show win0_7.index t (1 : Fin 2) * 2048 + 1 * (j (1 : Fin 2)).val = (i 1).val
    rw [e7]; show 0 * 2048 + 1 * (j (1 : Fin 2)).val = (i 1).val; omega

/-- Where window 8's block lies. -/
theorem emb8 (t : Fin cfg0.N) (j : ((cfg0.win 8).xblock (cfg0.grid.coords t)).Idx) (i : S1x2048.Idx)
    (h0 : (i 0).val = (j (0 : Fin 2)).val) (h1 : (i 1).val = (j (1 : Fin 2)).val) :
    ((cfg0.win 8).blk t).view.emb j = i := by
  obtain ⟨e0, e1, e2, e3, e4, e5, e6, e7, e8, e9⟩ := idx_facts t
  funext a; apply Fin.ext
  match a with
  | ⟨0, _⟩ =>
    show win0_8.index t (0 : Fin 2) * 1 + 1 * (j (0 : Fin 2)).val = (i 0).val
    rw [e8]; show 0 * 1 + 1 * (j (0 : Fin 2)).val = (i 0).val; omega
  | ⟨1, _⟩ =>
    show win0_8.index t (1 : Fin 2) * 2048 + 1 * (j (1 : Fin 2)).val = (i 1).val
    rw [e8]; show 0 * 2048 + 1 * (j (1 : Fin 2)).val = (i 1).val; omega

variable (m : (ℓ : Loc nD τ sig) → Buf (Elt Ideal) ℓ) (c : Dev nD)

/-- The kernel's first steps copy the last 384 hidden units' weights out of argument 2. -/
theorem V_main_v0 : V m c main_v0 = extractStridedSlice S2048x384 ![0, 5120] (m ((c : Thread nD τ).loc main_arg2)) slices_S2048x5504_S2048x384_0_5120 := by
  show StableHlo.after hostOps0 (fun b => m (c, b)) (Proc.devRef .tc main_v0) = _
  after_results

/-- The kernel's first steps copy the last 384 hidden units' weights out of argument 3. -/
theorem V_main_v1 : V m c main_v1 = extractStridedSlice S2048x384 ![0, 5120] (m ((c : Thread nD τ).loc main_arg3)) slices_S2048x5504_S2048x384_0_5120 := by
  show StableHlo.after hostOps0 (fun b => m (c, b)) (Proc.devRef .tc main_v1) = _
  after_results

/-- The kernel's first steps copy the last 384 hidden units' weights out of argument 4. -/
theorem V_main_v2 : V m c main_v2 = extractStridedSlice S384x2048 ![5120, 0] (m ((c : Thread nD τ).loc main_arg4)) slices_S5504x2048_S384x2048_5120_0 := by
  show StableHlo.after hostOps0 (fun b => m (c, b)) (Proc.devRef .tc main_v2) = _
  after_results

/-- The rows a point stages are its row block's. -/
theorem x_at (t : Fin cfg0.N) (r : Fin 512) (d : Fin 2048) (i : S16384x2048.Idx) (h0 : (i 0).val = 512 * (t.val / 11) + r.val) (h1 : (i 1).val = d.val) :
    iblk m c 0 t (ix2 r d) = m ((c : Thread nD τ).loc main_arg0) i := by
  show V m c main_arg0 (((cfg0.win 0).blk t).view.emb (ix2 r d)) = _
  rw [V_main_arg0]
  exact congrArg (m ((c : Thread nD τ).loc main_arg0)) (emb0 t _ i h0 h1)

/-- The first gain is staged whole. -/
theorem g_at (t : Fin cfg0.N) (r : Fin 1) (d : Fin 2048) (i : S1x2048.Idx) (h0 : (i 0).val = r.val) (h1 : (i 1).val = d.val) :
    iblk m c 1 t (ix2 r d) = m ((c : Thread nD τ).loc main_arg1) i := by
  show V m c main_arg1 (((cfg0.win 1).blk t).view.emb (ix2 r d)) = _
  rw [V_main_arg1]
  exact congrArg (m ((c : Thread nD τ).loc main_arg1)) (emb1 t _ i h0 h1)

/-- The hidden units whose gate weights a point stages are its own 512. -/
theorem wg_at (t : Fin cfg0.N) (h : t.val % 11 ≤ 9) (r : Fin 2048) (d : Fin 512) (i : S2048x5504.Idx) (h0 : (i 0).val = r.val) (h1 : (i 1).val = 512 * (t.val % 11) + d.val) :
    X0_2 m c t (ix2 r d) = m ((c : Thread nD τ).loc main_arg2) i := by
  unfold X0_2 Pipeline.Window.fill
  rw [dif_pos (moved0_2 t _)]
  show V m c main_arg2 (((cfg0.win 2).blk t).view.emb _) = _
  rw [V_main_arg2]
  exact congrArg (m ((c : Thread nD τ).loc main_arg2)) (emb2 t h _ i h0 h1)

/-- So are those whose other weights it stages. -/
theorem wu_at (t : Fin cfg0.N) (h : t.val % 11 ≤ 9) (r : Fin 2048) (d : Fin 512) (i : S2048x5504.Idx) (h0 : (i 0).val = r.val) (h1 : (i 1).val = 512 * (t.val % 11) + d.val) :
    X0_3 m c t (ix2 r d) = m ((c : Thread nD τ).loc main_arg3) i := by
  unfold X0_3 Pipeline.Window.fill
  rw [dif_pos (moved0_3 t _)]
  show V m c main_arg3 (((cfg0.win 3).blk t).view.emb _) = _
  rw [V_main_arg3]
  exact congrArg (m ((c : Thread nD τ).loc main_arg3)) (emb3 t h _ i h0 h1)

/-- And those whose output weights it stages. -/
theorem wd_at (t : Fin cfg0.N) (h : t.val % 11 ≤ 9) (r : Fin 512) (d : Fin 2048) (i : S5504x2048.Idx) (h0 : (i 0).val = 512 * (t.val % 11) + r.val) (h1 : (i 1).val = d.val) :
    X0_4 m c t (ix2 r d) = m ((c : Thread nD τ).loc main_arg4) i := by
  unfold X0_4 Pipeline.Window.fill
  rw [dif_pos (moved0_4 t _)]
  show V m c main_arg4 (((cfg0.win 4).blk t).view.emb _) = _
  rw [V_main_arg4]
  exact congrArg (m ((c : Thread nD τ).loc main_arg4)) (emb4 t h _ i h0 h1)

/-- The last 384 hidden units' gate weights are staged whole. -/
theorem wgt_at (t : Fin cfg0.N) (r : Fin 2048) (d : Fin 384) (i : S2048x5504.Idx) (h0 : (i 0).val = r.val) (h1 : (i 1).val = 5120 + d.val) :
    iblk m c 5 t (ix2 r d) = m ((c : Thread nD τ).loc main_arg2) i := by
  show V m c main_v0 (((cfg0.win 5).blk t).view.emb (ix2 r d)) = _
  rw [V_main_v0]
  refine (congrArg _ (emb5 t (ix2 r d) (ix2 r d) rfl rfl)).trans (congrArg (m ((c : Thread nD τ).loc main_arg2)) ?_)
  funext a; apply Fin.ext
  match a with
  | ⟨0, _⟩ => show 0 + r.val = (i 0).val; omega
  | ⟨1, _⟩ => show 5120 + d.val = (i 1).val; omega

/-- So are their other weights. -/
theorem wut_at (t : Fin cfg0.N) (r : Fin 2048) (d : Fin 384) (i : S2048x5504.Idx) (h0 : (i 0).val = r.val) (h1 : (i 1).val = 5120 + d.val) :
    iblk m c 6 t (ix2 r d) = m ((c : Thread nD τ).loc main_arg3) i := by
  show V m c main_v1 (((cfg0.win 6).blk t).view.emb (ix2 r d)) = _
  rw [V_main_v1]
  refine (congrArg _ (emb6 t (ix2 r d) (ix2 r d) rfl rfl)).trans (congrArg (m ((c : Thread nD τ).loc main_arg3)) ?_)
  funext a; apply Fin.ext
  match a with
  | ⟨0, _⟩ => show 0 + r.val = (i 0).val; omega
  | ⟨1, _⟩ => show 5120 + d.val = (i 1).val; omega

/-- And their output weights. -/
theorem wdt_at (t : Fin cfg0.N) (r : Fin 384) (d : Fin 2048) (i : S5504x2048.Idx) (h0 : (i 0).val = 5120 + r.val) (h1 : (i 1).val = d.val) :
    iblk m c 7 t (ix2 r d) = m ((c : Thread nD τ).loc main_arg4) i := by
  show V m c main_v2 (((cfg0.win 7).blk t).view.emb (ix2 r d)) = _
  rw [V_main_v2]
  refine (congrArg _ (emb7 t (ix2 r d) (ix2 r d) rfl rfl)).trans (congrArg (m ((c : Thread nD τ).loc main_arg4)) ?_)
  funext a; apply Fin.ext
  match a with
  | ⟨0, _⟩ => show 5120 + r.val = (i 0).val; omega
  | ⟨1, _⟩ => show 0 + d.val = (i 1).val; omega

/-- The second gain is staged whole. -/
theorem g2_at (t : Fin cfg0.N) (r : Fin 1) (d : Fin 2048) (i : S1x2048.Idx) (h0 : (i 0).val = r.val) (h1 : (i 1).val = d.val) :
    iblk m c 8 t (ix2 r d) = m ((c : Thread nD τ).loc main_arg5) i := by
  show V m c main_arg5 (((cfg0.win 8).blk t).view.emb (ix2 r d)) = _
  rw [V_main_arg5]
  exact congrArg (m ((c : Thread nD τ).loc main_arg5)) (emb8 t _ i h0 h1)

end Cert.Proof.FFV

end
-- ==== Proof.Ffn.Fold.lean ====
module

public import proofs.«01_k».proof.Proof.Ffn.Pay

@[expose] public section

set_option maxRecDepth 16384

noncomputable section

namespace Cert.Proof.FFV

open Cert.Kernel2Ideal Cert.Kernel2Ideal.Gen
open Idealize.ShloMosaic Idealize.ShloMosaic.TcCoe
open Idealize.SL Idealize.SL.Sem
open scoped BigOperators

/-- A row after the first normalisation. -/
def hrow (x : FVec Ideal S16384x2048 .f32) (g : FVec Ideal S1x2048 .f32) (R : Fin 16384) : Fin 2048 → EReal :=
  fun d => nrm (fun k => x (ix2 R k)) d * g (ix2 0 d)

/-- What one hidden unit adds to a row's entry. -/
def term (x : FVec Ideal S16384x2048 .f32) (g : FVec Ideal S1x2048 .f32) (wg wu : FVec Ideal S2048x5504 .bf16) (wd : FVec Ideal S5504x2048 .bf16)
    (R : Fin 16384) (d : Fin 2048) (k : Fin 5504) : EReal :=
  hid (hrow x g R) (fun j => wg (ix2 j k)) (fun j => wu (ix2 j k)) * wd (ix2 k d)

/-- The same by the unit's number, nothing past the last unit. -/
def termN (x : FVec Ideal S16384x2048 .f32) (g : FVec Ideal S1x2048 .f32) (wg wu : FVec Ideal S2048x5504 .bf16) (wd : FVec Ideal S5504x2048 .bf16)
    (R : Fin 16384) (d : Fin 2048) (k : ℕ) : EReal :=
  if h : k < 5504 then term x g wg wu wd R d ⟨k, h⟩ else 0

/-- An input row's entry plus half its feed-forward network's. -/
def half (x : FVec Ideal S16384x2048 .f32) (g : FVec Ideal S1x2048 .f32) (wg wu : FVec Ideal S2048x5504 .bf16) (wd : FVec Ideal S5504x2048 .bf16)
    (R : Fin 16384) (e : Fin 2048) : EReal := x (ix2 R e) + Ideal.ofBits .f32 0x3F000000#32 * ∑ k, term x g wg wu wd R e k

/-- The same rows, scaled to unit mean square and by the second gain. -/
def ffn (x : FVec Ideal S16384x2048 .f32) (g : FVec Ideal S1x2048 .f32) (wg wu : FVec Ideal S2048x5504 .bf16) (wd : FVec Ideal S5504x2048 .bf16)
    (g2 : FVec Ideal S1x2048 .f32) (R : Fin 16384) (d : Fin 2048) : EReal :=
  nrm (half x g wg wu wd R) d * g2 (ix2 0 d)

/-- A sum over blocks' hidden units continues by the next block's. -/
theorem sum_next (f : ℕ → EReal) (a b : ℕ) : ∑ k ∈ Finset.range (a + b), f k = ∑ k ∈ Finset.range a, f k + ∑ k : Fin b, f (a + k.val) := by
  rw [Finset.sum_range_add, Finset.sum_range (n := b)]

/-- The row of the whole array that a point's row is. -/
def row (n : ℕ) (hn : n < 352) (r : Fin 512) : Fin 16384 := ⟨512 * (n / 11) + r.val, by omega⟩

/-- What the points of a feed-forward call stage and leave: each row block has eleven points, the first ten of which stage
    512 hidden units each; the last 384 are staged whole. A row block's first point leaves its normalised rows and its own
    units' products; the next nine keep those rows and add their units' products. -/
structure Walk {N : ℕ} (x : FVec Ideal S16384x2048 .f32) (g : FVec Ideal S1x2048 .f32) (wg wu : FVec Ideal S2048x5504 .bf16) (wd : FVec Ideal S5504x2048 .bf16)
    (X : Fin N → Vec Ideal S512x2048 .f32) (G : Fin N → Vec Ideal S1x2048 .f32) (A B : Fin N → Vec Ideal S2048x512 .bf16) (D : Fin N → Vec Ideal S512x2048 .bf16)
    (A' B' : Fin N → Vec Ideal S2048x384 .bf16) (D' : Fin N → Vec Ideal S384x2048 .bf16)
    (H : (n : ℕ) → n < N → Vec Ideal S512x2048 .bf16) (Z : (n : ℕ) → n < N → Vec Ideal S512x2048 .f32) : Prop where
  le : N ≤ 352
  x_at : ∀ (t : Fin N) (r : Fin 512) (d : Fin 2048) (i : S16384x2048.Idx), (i 0).val = 512 * (t.val / 11) + r.val → (i 1).val = d.val → X t (ix2 r d) = x i
  g_at : ∀ (t : Fin N) (r : Fin 1) (d : Fin 2048) (i : S1x2048.Idx), (i 0).val = r.val → (i 1).val = d.val → G t (ix2 r d) = g i
  wg_at : ∀ (t : Fin N), t.val % 11 ≤ 9 → ∀ (r : Fin 2048) (d : Fin 512) (i : S2048x5504.Idx), (i 0).val = r.val → (i 1).val = 512 * (t.val % 11) + d.val → A t (ix2 r d) = wg i
  wu_at : ∀ (t : Fin N), t.val % 11 ≤ 9 → ∀ (r : Fin 2048) (d : Fin 512) (i : S2048x5504.Idx), (i 0).val = r.val → (i 1).val = 512 * (t.val % 11) + d.val → B t (ix2 r d) = wu i
  wd_at : ∀ (t : Fin N), t.val % 11 ≤ 9 → ∀ (r : Fin 512) (d : Fin 2048) (i : S5504x2048.Idx), (i 0).val = 512 * (t.val % 11) + r.val → (i 1).val = d.val → D t (ix2 r d) = wd i
  wgt_at : ∀ (t : Fin N) (r : Fin 2048) (d : Fin 384) (i : S2048x5504.Idx), (i 0).val = r.val → (i 1).val = 5120 + d.val → A' t (ix2 r d) = wg i
  wut_at : ∀ (t : Fin N) (r : Fin 2048) (d : Fin 384) (i : S2048x5504.Idx), (i 0).val = r.val → (i 1).val = 5120 + d.val → B' t (ix2 r d) = wu i
  wdt_at : ∀ (t : Fin N) (r : Fin 384) (d : Fin 2048) (i : S5504x2048.Idx), (i 0).val = 5120 + r.val → (i 1).val = d.val → D' t (ix2 r d) = wd i
  first_h : ∀ t : Fin N, t.val % 11 = 0 → H t.val t.isLt = k0_pay1 (X t) (G t)
  first_z : ∀ t : Fin N, t.val % 11 = 0 → Z t.val t.isLt = k0_pay3 (A t) (B t) (D t) (k0_pay1 (X t) (G t)) (k0_pay2 (F := Ideal))
  next_h : ∀ t : Fin N, ¬t.val % 11 = 0 → t.val % 11 ≤ 9 → H t.val t.isLt = H (t.val - 1) (Nat.lt_of_le_of_lt (Nat.sub_le _ _) t.isLt)
  next_z : ∀ t : Fin N, ¬t.val % 11 = 0 → t.val % 11 ≤ 9 → Z t.val t.isLt
    = k0_pay3 (A t) (B t) (D t) (H (t.val - 1) (Nat.lt_of_le_of_lt (Nat.sub_le _ _) t.isLt)) (Z (t.val - 1) (Nat.lt_of_le_of_lt (Nat.sub_le _ _) t.isLt))

namespace Walk

variable {N : ℕ} {x : FVec Ideal S16384x2048 .f32} {g : FVec Ideal S1x2048 .f32} {wg wu : FVec Ideal S2048x5504 .bf16} {wd : FVec Ideal S5504x2048 .bf16}
  {X : Fin N → Vec Ideal S512x2048 .f32} {G : Fin N → Vec Ideal S1x2048 .f32} {A B : Fin N → Vec Ideal S2048x512 .bf16} {D : Fin N → Vec Ideal S512x2048 .bf16}
  {A' B' : Fin N → Vec Ideal S2048x384 .bf16} {D' : Fin N → Vec Ideal S384x2048 .bf16}
  {H : (n : ℕ) → n < N → Vec Ideal S512x2048 .bf16} {Z : (n : ℕ) → n < N → Vec Ideal S512x2048 .f32}
  (w : Walk x g wg wu wd X G A B D A' B' D' H Z)

include w

/-- The normalised rows a point's block gives are the array's. -/
theorem norm_at (t : Fin N) (r : Fin 512) (d : Fin 2048) :
    (show EReal from k0_pay1 (F := Ideal) (X t) (G t) (ix2 r d)) = hrow x g (row t.val (t.isLt.trans_le w.le) r) d := by
  refine (pay1_at _ _ r d).trans ?_
  have e : ∀ k : Fin 2048, X t (ix2 r k) = x (ix2 (row t.val (t.isLt.trans_le w.le) r) k) :=
    fun k => w.x_at t r k _ rfl rfl
  have e1 : G t (ix2 (0 : Fin 1) d) = g (ix2 (0 : Fin 1) d) := w.g_at t 0 d _ rfl rfl
  show nrm (fun k => X t (ix2 r k)) d * G t (ix2 (0 : Fin 1) d) = _
  rw [e1, funext e]
  rfl

/-- One of a point's 512 hidden units adds the part its number says. -/
theorem unit_at (t : Fin N) (h : t.val % 11 ≤ 9) (R : Fin 16384) (d : Fin 2048) (k : Fin 512) :
    hid (hrow x g R) (fun j => A t (ix2 j k)) (fun j => B t (ix2 j k)) * D t (ix2 k d)
      = termN x g wg wu wd R d (512 * (t.val % 11) + k.val) := by
  have hk : 512 * (t.val % 11) + k.val < 5504 := by have := k.isLt; omega
  unfold termN
  rw [dif_pos hk]
  unfold term
  have e2 : ∀ j : Fin 2048, A t (ix2 j k) = wg (ix2 j (⟨512 * (t.val % 11) + k.val, hk⟩ : Fin 5504)) :=
    fun j => w.wg_at t h j k _ rfl rfl
  have e3 : ∀ j : Fin 2048, B t (ix2 j k) = wu (ix2 j (⟨512 * (t.val % 11) + k.val, hk⟩ : Fin 5504)) :=
    fun j => w.wu_at t h j k _ rfl rfl
  have e4 : D t (ix2 k d) = wd (ix2 (⟨512 * (t.val % 11) + k.val, hk⟩ : Fin 5504) d) :=
    w.wd_at t h k d _ rfl rfl
  rw [e4, funext e2, funext e3]

/-- So does one of the last 384. -/
theorem tail_at (t : Fin N) (R : Fin 16384) (d : Fin 2048) (k : Fin 384) :
    hid (hrow x g R) (fun j => A' t (ix2 j k)) (fun j => B' t (ix2 j k)) * D' t (ix2 k d)
      = termN x g wg wu wd R d (5120 + k.val) := by
  have hk : 5120 + k.val < 5504 := by have := k.isLt; omega
  unfold termN
  rw [dif_pos hk]
  unfold term
  have e2 : ∀ j : Fin 2048, A' t (ix2 j k) = wg (ix2 j (⟨5120 + k.val, hk⟩ : Fin 5504)) :=
    fun j => w.wgt_at t j k _ rfl rfl
  have e3 : ∀ j : Fin 2048, B' t (ix2 j k) = wu (ix2 j (⟨5120 + k.val, hk⟩ : Fin 5504)) :=
    fun j => w.wut_at t j k _ rfl rfl
  have e4 : D' t (ix2 k d) = wd (ix2 (⟨5120 + k.val, hk⟩ : Fin 5504) d) :=
    w.wdt_at t k d _ rfl rfl
  rw [e4, funext e2, funext e3]

/-- Adding a point's 512 hidden units to the sum over those before it gives the sum over those up to it. -/
theorem step_at (t : Fin N) (h : t.val % 11 ≤ 9) (R : Fin 16384) (hb : Vec Ideal S512x2048 .bf16) (a : Vec Ideal S512x2048 .f32)
    (r : Fin 512) (d : Fin 2048) (hh : ∀ j, hb (ix2 r j) = hrow x g R j) (ha : a (ix2 r d) = ∑ k ∈ Finset.range (512 * (t.val % 11)), termN x g wg wu wd R d k) :
    (show EReal from k0_pay3 (F := Ideal) (A t) (B t) (D t) hb a (ix2 r d))
      = ∑ k ∈ Finset.range (512 * (t.val % 11 + 1)), termN x g wg wu wd R d k := by
  refine (pay3_at _ _ _ _ _ r d).trans ?_
  rw [show 512 * (t.val % 11 + 1) = 512 * (t.val % 11) + 512 by omega, sum_next, ha, funext hh]
  exact congrArg _ (Finset.sum_congr rfl fun k _ => w.unit_at t h R d k)

/-- Through a row block's points the normalised rows stay, and the sum grows by the points' hidden units. -/
theorem fold_at : ∀ (n : ℕ) (hn : n < N), n % 11 ≤ 9 →
    (∀ (r : Fin 512) (d : Fin 2048), H n hn (ix2 r d) = hrow x g (row n (hn.trans_le w.le) r) d)
    ∧ (∀ (r : Fin 512) (d : Fin 2048), Z n hn (ix2 r d) = ∑ k ∈ Finset.range (512 * (n % 11 + 1)), termN x g wg wu wd (row n (hn.trans_le w.le) r) d k) := by
  intro n
  induction n with
  | zero =>
    intro hn _
    have a0 := w.first_h ⟨0, hn⟩ rfl
    have a1 := w.first_z ⟨0, hn⟩ rfl
    dsimp only at a0 a1
    rw [a0, a1]
    refine ⟨fun r d => w.norm_at ⟨0, hn⟩ r d, fun r d => ?_⟩
    exact w.step_at ⟨0, hn⟩ (show 0 % 11 ≤ 9 by decide) _ _ _ r d (fun j => w.norm_at ⟨0, hn⟩ r j) ((pay2_at r d).trans (Finset.sum_range_zero _).symm)
  | succ n ih =>
    intro hn h9
    by_cases h : (n + 1) % 11 = 0
    · have a0 := w.first_h ⟨n + 1, hn⟩ h
      have a1 := w.first_z ⟨n + 1, hn⟩ h
      dsimp only at a0 a1
      rw [a0, a1]
      refine ⟨fun r d => w.norm_at ⟨n + 1, hn⟩ r d, fun r d => ?_⟩
      refine w.step_at ⟨n + 1, hn⟩ h9 _ _ _ r d (fun j => w.norm_at ⟨n + 1, hn⟩ r j) ((pay2_at r d).trans ?_)
      show 0 = ∑ k ∈ Finset.range (512 * ((n + 1) % 11)), _
      rw [h]
      exact (Finset.sum_range_zero _).symm
    · obtain ⟨i0, i1⟩ := ih (Nat.lt_of_succ_lt hn) (by omega)
      have er : ∀ r : Fin 512, row (n + 1) (hn.trans_le w.le) r = row n ((Nat.lt_of_succ_lt hn).trans_le w.le) r := fun r => Fin.ext (by
        show 512 * ((n + 1) / 11) + r.val = 512 * (n / 11) + r.val
        omega)
      have b0 := w.next_h ⟨n + 1, hn⟩ h h9
      have b1 := w.next_z ⟨n + 1, hn⟩ h h9
      dsimp only [Nat.add_sub_cancel] at b0 b1
      rw [b0, b1]
      refine ⟨fun r d => (i0 r d).trans (by rw [er]), fun r d => ?_⟩
      refine w.step_at ⟨n + 1, hn⟩ h9 _ _ _ r d (fun j => (i0 r j).trans (by rw [er])) ((i1 r d).trans ?_)
      rw [er]
      show _ = ∑ k ∈ Finset.range (512 * ((n + 1) % 11)), _
      rw [show (n + 1) % 11 = n % 11 + 1 by omega]

/-- A row block's last point adds the last 384 units' products, which makes the sum over all hidden units. -/
theorem sum_at (t : Fin N) (h : t.val % 11 = 10) (r : Fin 512) (e : Fin 2048) :
    (show EReal from k0_pay5 (F := Ideal) (A' t) (B' t) (D' t) (H (t.val - 1) (Nat.lt_of_le_of_lt (Nat.sub_le _ _) t.isLt)) (Z (t.val - 1) (Nat.lt_of_le_of_lt (Nat.sub_le _ _) t.isLt)) (ix2 r e))
      = ∑ k : Fin 5504, term x g wg wu wd (row t.val (t.isLt.trans_le w.le) r) e k := by
  obtain ⟨i0, i1⟩ := w.fold_at (t.val - 1) (Nat.lt_of_le_of_lt (Nat.sub_le _ _) t.isLt) (by omega)
  have er : ∀ r : Fin 512, row (t.val - 1) ((Nat.lt_of_le_of_lt (Nat.sub_le _ _) t.isLt).trans_le w.le) r = row t.val (t.isLt.trans_le w.le) r := fun r => Fin.ext (by
    show 512 * ((t.val - 1) / 11) + r.val = 512 * (t.val / 11) + r.val
    omega)
  refine (pay5_at _ _ _ _ _ r e).trans ?_
  rw [i1, er, show 512 * ((t.val - 1) % 11 + 1) = 5120 by omega]
  have hh : (fun j => (H (t.val - 1) (Nat.lt_of_le_of_lt (Nat.sub_le _ _) t.isLt)) (ix2 r j)) = hrow x g (row t.val (t.isLt.trans_le w.le) r) :=
    funext fun j => (i0 r j).trans (by rw [er])
  rw [hh]
  refine (congrArg _ (Finset.sum_congr rfl fun k _ => w.tail_at t (row t.val (t.isLt.trans_le w.le) r) e k)).trans ?_
  rw [← sum_next, Finset.sum_range]
  exact Finset.sum_congr rfl fun k _ => dif_pos k.isLt

/-- Half that sum is added to the input row. -/
theorem half_at (t : Fin N) (h : t.val % 11 = 10) (r : Fin 512) (e : Fin 2048) :
    (show EReal from X t (ix2 r e) + Ideal.ofBits .f32 0x3F000000#32 * k0_pay5 (F := Ideal) (A' t) (B' t) (D' t) (H (t.val - 1) (Nat.lt_of_le_of_lt (Nat.sub_le _ _) t.isLt))
        (Z (t.val - 1) (Nat.lt_of_le_of_lt (Nat.sub_le _ _) t.isLt)) (ix2 r e))
      = half x g wg wu wd (row t.val (t.isLt.trans_le w.le) r) e :=
  congrArg₂ (fun (a b : EReal) => a + Ideal.ofBits .f32 0x3F000000#32 * b) (w.x_at t r e _ rfl rfl) (w.sum_at t h r e)

end Walk

end Cert.Proof.FFV

end
-- ==== Proof.Ffn.Ref.lean ====
module

public import proofs.«01_k».proof.Proof.Gen.Reference2Ideal.Read
public import proofs.«01_k».proof.Proof.Ffn.Fold

@[expose] public section

set_option maxRecDepth 16384

noncomputable section

namespace Cert.Proof.FFV

open Cert.Reference2Ideal Cert.Reference2Ideal.Read
open Idealize.ShloMosaic
open scoped BigOperators

variable (x : FVec Ideal S16384x2048 .f32) (g : FVec Ideal S1x2048 .f32) (wg wu : FVec Ideal S2048x5504 .bf16) (wd : FVec Ideal S5504x2048 .bf16)
  (g2 : FVec Ideal S1x2048 .f32)

theorem ofBits_zero : Ideal.ofBits .f32 0#32 = 0 := by simp [Ideal.ofBits, Ideal.ieee]
theorem ofBits_one : Ideal.ofBits .f32 0x3F800000#32 = 1 := by
  simp [Ideal.ofBits, Ideal.ieee, -EReal.coe_mul]
  norm_num

/-- A row scaled to unit mean square, its sum of squares begun at zero. -/
theorem nrm_eq (f : Fin 2048 → EReal) (d : Fin 2048) :
    f d * Ideal.rsqrt (Ideal.div (Ideal.ofBits .f32 0#32 + ∑ k, f k * f k) (Ideal.ofBits .f32 0x45000000#32) + Ideal.ofBits .f32 0x358637BD#32) = nrm f d := by
  rw [ofBits_zero, zero_add]
  rfl

/-- The reference's silu of a number. -/
theorem sil_eq (z : EReal) : z * Ideal.div (Ideal.ofBits .f32 0x3F800000#32) (Ideal.ofBits .f32 0x3F800000#32 + Ideal.exp (-z)) = sil z := by
  rw [ofBits_one]
  rfl

/-- The reference's normalised rows. -/
theorem v16_at (R : Fin 16384) (d : Fin 2048) : (show EReal from val_main_v16 (F := Ideal) x g (ix2 R d)) = hrow x g R d := by
  have es : ∀ k : Fin 2048, idx_main_v5 (idx_main_v6 (idx_main_v12 (ix2 R d))) k = ix2 R k := fun k => funext fun a => by
    match a with | ⟨0, _⟩ => rfl | ⟨1, _⟩ => rfl
  have eg : idx_main_v3 (idx_main_v14 (idx_main_v15 (ix2 R d))) = ix2 0 d := funext fun a => by
    match a with | ⟨0, _⟩ => rfl | ⟨1, _⟩ => exact Fin.ext (Nat.mod_eq_of_lt d.isLt)
  rw [val_main_v16_apply, val_main_v13_apply, val_main_v12_apply, val_main_v11_apply, val_main_v10_apply, val_main_v8_apply, val_main_v6_apply,
    val_main_v5_apply, val_main_v7_apply, val_main_v9_apply, val_main_v15_apply, val_main_v14_apply, val_main_v3_apply, eg]
  simp only [es, val_main_v4_apply]
  exact congrArg (fun a : EReal => a * g (ix2 0 d)) (nrm_eq (fun k => x (ix2 R k)) d)

/-- A row's gate product. -/
theorem v17_at (R : Fin 16384) (k : Fin 5504) : (show EReal from val_main_v17 (F := Ideal) x g wg (ix2 R k)) = ∑ j, hrow x g R j * wg (ix2 j k) := by
  rw [val_main_v17_apply]
  refine Finset.sum_congr rfl fun j _ => ?_
  have el : lidx_main_v17 (ix2 R k) j = ix2 R j := funext fun a => by match a with | ⟨0, _⟩ => rfl | ⟨1, _⟩ => rfl
  have er : ridx_main_v17 (ix2 R k) j = ix2 j k := funext fun a => by match a with | ⟨0, _⟩ => rfl | ⟨1, _⟩ => rfl
  rw [el, er]
  exact congrArg (fun a : EReal => a * wg (ix2 j k)) (v16_at x g R j)

/-- Its other product. -/
theorem v19_at (R : Fin 16384) (k : Fin 5504) : (show EReal from val_main_v19 (F := Ideal) x g wu (ix2 R k)) = ∑ j, hrow x g R j * wu (ix2 j k) := by
  rw [val_main_v19_apply]
  refine Finset.sum_congr rfl fun j _ => ?_
  have el : lidx_main_v19 (ix2 R k) j = ix2 R j := funext fun a => by match a with | ⟨0, _⟩ => rfl | ⟨1, _⟩ => rfl
  have er : ridx_main_v19 (ix2 R k) j = ix2 j k := funext fun a => by match a with | ⟨0, _⟩ => rfl | ⟨1, _⟩ => rfl
  rw [el, er]
  exact congrArg (fun a : EReal => a * wu (ix2 j k)) (v16_at x g R j)

/-- Its hidden units. -/
theorem v20_at (R : Fin 16384) (k : Fin 5504) : (show EReal from val_main_v20 (F := Ideal) x g wg wu (ix2 R k))
    = hid (hrow x g R) (fun j => wg (ix2 j k)) (fun j => wu (ix2 j k)) := by
  rw [val_main_v20_apply, val_main_v18_apply, val_main_call0_v5_apply, val_main_call0_v4_apply, val_main_call0_v3_apply, val_main_call0_v2_apply,
    val_main_call0_v1_apply, val_main_call0_v0_apply]
  refine Eq.trans ?_ (congrArg₂ (fun a b : EReal => sil a * b) (v17_at x g wg R k) (v19_at x g wu R k))
  exact congrArg (fun a : EReal => a * val_main_v19 (F := Ideal) x g wu (ix2 R k)) (sil_eq (val_main_v17 (F := Ideal) x g wg (ix2 R k)))

/-- The input row plus half the hidden units' products. -/
theorem v24_at (R : Fin 16384) (d : Fin 2048) : (show EReal from val_main_v24 (F := Ideal) x g wg wu wd (ix2 R d)) = half x g wg wu wd R d := by
  rw [val_main_v24_apply, val_main_v23_apply, val_main_v22_apply, val_main_v21_apply]
  refine congrArg (fun a : EReal => x (ix2 R d) + Ideal.ofBits .f32 0x3F000000#32 * a) (Finset.sum_congr rfl fun k _ => ?_)
  have el : lidx_main_v21 (ix2 R d) k = ix2 R k := funext fun a => by match a with | ⟨0, _⟩ => rfl | ⟨1, _⟩ => rfl
  have er : ridx_main_v21 (ix2 R d) k = ix2 k d := funext fun a => by match a with | ⟨0, _⟩ => rfl | ⟨1, _⟩ => rfl
  rw [el, er]
  exact congrArg (fun a : EReal => a * wd (ix2 k d)) (v20_at x g wg wu R k)

/-- The reference's result. -/
theorem v38_at (R : Fin 16384) (d : Fin 2048) : (show EReal from val_main_v38 (F := Ideal) x g wg wu wd g2 (ix2 R d)) = ffn x g wg wu wd g2 R d := by
  have es : ∀ k : Fin 2048, idx_main_v27 (idx_main_v28 (idx_main_v34 (ix2 R d))) k = ix2 R k := fun k => funext fun a => by
    match a with | ⟨0, _⟩ => rfl | ⟨1, _⟩ => rfl
  have eg : idx_main_v25 (idx_main_v36 (idx_main_v37 (ix2 R d))) = ix2 0 d := funext fun a => by
    match a with | ⟨0, _⟩ => rfl | ⟨1, _⟩ => exact Fin.ext (Nat.mod_eq_of_lt d.isLt)
  rw [val_main_v38_apply, val_main_v35_apply, val_main_v34_apply, val_main_v33_apply, val_main_v32_apply, val_main_v30_apply, val_main_v28_apply,
    val_main_v27_apply, val_main_v29_apply, val_main_v31_apply, val_main_v37_apply, val_main_v36_apply, val_main_v25_apply, eg]
  simp only [es, val_main_v26_apply]
  unfold ffn
  refine congrArg (fun a : EReal => a * g2 (ix2 0 d)) ((nrm_eq (fun k => val_main_v24 (F := Ideal) x g wg wu wd (ix2 R k)) d).trans ?_)
  exact congrFun (congrArg nrm (funext fun k => v24_at x g wg wu wd R k)) d

end Cert.Proof.FFV

end
-- ==== Proof.Ffn.Array.lean ====
module

public import proofs.«01_k».proof.Defs
public import proofs.«01_k».proof.Proof.Ffn.Terms
public import proofs.«01_k».proof.Proof.Ffn.Blocks
public import proofs.«01_k».proof.Proof.Ffn.Ref
public import proofs.«01_k».proof.Proof.Gen.Kernel2.Frame
public import proofs.«01_k».proof.Proof.Gen.Reference2Ideal.Run

@[expose] public section

set_option maxRecDepth 16384

noncomputable section

namespace Cert.Proof.FFV

open Cert.Kernel2Ideal Cert.Kernel2Ideal.Gen
open Idealize.ShloMosaic Idealize.ShloMosaic.TcCoe
open Idealize.SL Idealize.SL.Sem

/-- Only a row block's last point writes its result back. -/
theorem flush_last : ∀ t : Fin cfg0.N, (cfg0.win 9).flush t = true → t.val % 11 = 10 :=
  (by decide +kernel : ∀ t : Fin grid0.N, (cfg0.win 9).flush t = true → t.val % 11 = 10)

variable (m : (ℓ : Loc nD τ sig) → Buf (Elt Ideal) ℓ) (c : Dev nD)

/-- This call's points are those of a feed-forward call on its arguments. -/
theorem walk : FFV.Walk (m ((c : Thread nD τ).loc main_arg0)) (m ((c : Thread nD τ).loc main_arg1)) (m ((c : Thread nD τ).loc main_arg2))
    (m ((c : Thread nD τ).loc main_arg3)) (m ((c : Thread nD τ).loc main_arg4))
    (fun t : Fin cfg0.N => iblk m c 0 t) (fun t => iblk m c 1 t) (X0_2 m c) (X0_3 m c) (X0_4 m c) (fun t => iblk m c 5 t) (fun t => iblk m c 6 t) (fun t => iblk m c 7 t)
    (fun n hn => (outsAt0 m c n hn).2.1) (fun n hn => (outsAt0 m c n hn).2.2) where
  le := Nat.le_of_eq N_0
  x_at := x_at m c
  g_at := g_at m c
  wg_at := wg_at m c
  wu_at := wu_at m c
  wd_at := wd_at m c
  wgt_at := wgt_at m c
  wut_at := wut_at m c
  wdt_at := wdt_at m c
  first_h := outs_A_0 m c
  first_z := outs_A_1 m c
  next_h := outs_B_0 m c
  next_z := outs_B_1 m c

/-- A point is one of 352. -/
theorem lt (t : Fin cfg0.N) : t.val < 352 := t.isLt.trans_le (Nat.le_of_eq N_0)

/-- A row block's last point leaves the call's entries. -/
theorem last_at (t : Fin cfg0.N) (h : t.val % 11 = 10) (r : Fin 512) (d : Fin 2048) :
    (outsAt0 m c t.val t.isLt).1 (ix2 r d) = ffn (m ((c : Thread nD τ).loc main_arg0)) (m ((c : Thread nD τ).loc main_arg1)) (m ((c : Thread nD τ).loc main_arg2))
    (m ((c : Thread nD τ).loc main_arg3)) (m ((c : Thread nD τ).loc main_arg4))
      (m ((c : Thread nD τ).loc main_arg5)) (row t.val (lt t) r) d := by
  rw [outs_C m c t h]
  refine (fin_at _ _ _ r d).trans ?_
  exact congrArg₂ (fun (a b : EReal) => a * b) (congrFun (congrArg nrm (funext fun e => (walk m c).half_at t h r e)) d) (g2_at m c t 0 d _ rfl rfl)

/-- The result array ends at what the reference computes from the same arguments. -/
theorem final : (dats m 0 c).arrAt 9 cfg0.N
    = Cert.Reference2Ideal.Read.val_main_v38 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t hf y => ?_
  obtain ⟨e0, e1, e2, e3, e4, e5, e6, e7, e8, e9⟩ := idx_facts t
  blk_simp
  rw [after0_9]
  have hy : y = ix2 (y 0 : Fin 512) (y 1 : Fin 2048) := by
    funext a
    match a with
    | ⟨0, _⟩ => rfl
    | ⟨1, _⟩ => rfl
  refine (congrArg (outsAt0 m c t.val t.isLt).1 hy).trans ((last_at m c t (flush_last t hf) (y 0) (y 1)).trans ?_)
  refine (v38_at _ _ _ _ _ _ (row t.val (lt t) (y 0)) (y 1)).symm.trans (congrArg
    (Cert.Reference2Ideal.Read.val_main_v38 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) ?_)
  funext a; apply Fin.ext
  match a with
  | ⟨0, _⟩ =>
    show 512 * (t.val / 11) + (y 0).val = win0_9.index t (0 : Fin 2) * 512 + 1 * (y 0).val
    rw [e9]; show 512 * (t.val / 11) + (y 0).val = t.val / 11 * 512 + 1 * (y 0).val; omega
  | ⟨1, _⟩ =>
    show (y 1).val = win0_9.index t (1 : Fin 2) * 2048 + 1 * (y 1).val
    rw [e9]; show (y 1).val = 0 * 2048 + 1 * (y 1).val; omega

/-- The feed-forward call as printed runs, keeps its arguments and leaves every counter at zero. -/
theorem frame_p : Cert.quiescent_Kernel2 := fun m ρ _ => Cert.Kernel2.Gen.frame m ρ

/-- So does its idealized version. -/
theorem frame_pi : Cert.quiescent_Kernel2Ideal := fun m ρ _ => Cert.Kernel2Ideal.Gen.frame m ρ

/-- And its reference. -/
theorem frame_ri : Cert.quiescent_Reference2Ideal := fun m ρ _ =>
  (θ_run _ _ _).mono (fun r h => ⟨fun c => (h c).2, sem_eq_zero_of_no_sems (by decide) r.2⟩) (Cert.Reference2Ideal.Value.run m ρ)

/-- The feed-forward call and its reference end with the same array: each row plus half its feed-forward network's
    output, scaled to unit mean square and by the second gain. -/
theorem algebraic : Cert.algebraic_Kernel2Ideal_Reference2Ideal := by
  intro m g m' g' _ ha
  refine ⟨fun c => Cert.Reference2Ideal.Read.val_main_v38 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)), ?_, ?_⟩
  · refine (θ_run _ _ _).mono (fun r h c => ?_) (run_main m g)
    exact ⟨((h c).1 9).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 8).trans (((dats m 0 c).arrAt_in 8 rfl _).trans ((A_eq m c 8).trans (V_main_arg5 m c)))⟩
  · refine (θ_run _ _ _).mono (fun r h c => ⟨?_, (h c).2⟩) (Cert.Reference2Ideal.Value.run m' g')
    refine (h c).1.trans ((Cert.Reference2Ideal.Read.val_main_v38_eq m' c).trans ?_)
    obtain ⟨a0, a1, a2, a3, a4, a5⟩ := ha c
    rw [a0, a1, a2, a3, a4, a5]

end Cert.Proof.FFV

end
-- ==== Proof.Mix.Terms.lean ====
module

public import proofs.«01_k».proof.Proof.Gen.Kernel3Ideal.Frame
public import proofs.«01_k».proof.Proof.Ffn.Terms

@[expose] public section

set_option maxRecDepth 16384

noncomputable section

namespace Cert.Proof.FFM

open Cert.Kernel3Ideal Cert.Kernel3Ideal.Gen
open Idealize.ShloMosaic Idealize.ShloMosaic.TcCoe
open Idealize.SL Idealize.SL.Sem

variable {F : FTy → Type} [FloatOps F]
variable (m : (ℓ : Loc nD τ sig) → Buf (Elt F) ℓ) (c : Dev nD)

/-- A row block's first point leaves its normalised rows. -/
theorem outs_A_0 (t : Fin cfg0.N) (h : t.val % 11 = 0) : (outsAt0 m c t.val t.isLt).2.2.1 = k0_pay1 (iblk m c 0 t) (iblk m c 1 t) := by
  rw [outsAt0_A m c t h (by omega) (by omega)]
  dsimp only
  unfold sout0_A_0
  rw [View.read_writes_eq_canon]
  rotate_left
  · exact fun _ => scover0_A_0 ..
  unfold kernelRun0_A
  dsimp only
  sl_unfold_words
  rw [View.canon_unit_zero FFV.hz]
  simp only [View.readAt_eq_ld, (hs0_0 t).read_unread, (hs0_1 t).read_unread, View.ld_unit_zero (S := S512x2048) FFV.hz, View.ld_unit_zero (S := S1x2048) FFV.hz]

/-- And the products of the first 512 hidden units, added to zero. -/
theorem outs_A_1 (t : Fin cfg0.N) (h : t.val % 11 = 0) : (outsAt0 m c t.val t.isLt).2.2.2
    = k0_pay3 (X0_2 m c t) (X0_3 m c t) (X0_4 m c t) (k0_pay1 (iblk m c 0 t) (iblk m c 1 t)) k0_pay2 := by
  rw [outsAt0_A m c t h (by omega) (by omega)]
  dsimp only
  unfold sout0_A_1
  rw [View.read_writes_eq_canon]
  rotate_left
  · exact fun _ => scover0_A_1 ..
  unfold kernelRun0_A
  dsimp only
  sl_unfold_words
  rw [View.canon_cons_unit_zero (S := S512x2048) FFV.hz]
  simp only [View.readCov_unit_zero (S := S512x2048) _ FFV.hz, View.readAt_eq_ld, (hs0_0 t).read_unread, (hs0_1 t).read_unread, (hs0_2 t).read_unread, (hs0_3 t).read_unread, (hs0_4 t).read_unread,
    View.ld_unit_zero (S := S512x2048) FFV.hz, View.ld_unit_zero (S := S1x2048) FFV.hz, View.ld_unit_zero (S := S2048x512) FFV.hz]

/-- Its middle points keep the normalised rows. -/
theorem outs_B_0 (t : Fin cfg0.N) (h : ¬t.val % 11 = 0) (h1 : t.val % 11 ≤ 9) :
    (outsAt0 m c t.val t.isLt).2.2.1 = (outsAt0 m c (t.val - 1) (Nat.lt_of_le_of_lt (Nat.sub_le _ _) t.isLt)).2.2.1 := by
  rw [outsAt0_B m c t h h1 (by omega)]
  rfl

/-- And add the products of their own 512 hidden units. -/
theorem outs_B_1 (t : Fin cfg0.N) (h : ¬t.val % 11 = 0) (h1 : t.val % 11 ≤ 9) : (outsAt0 m c t.val t.isLt).2.2.2
    = k0_pay3 (X0_2 m c t) (X0_3 m c t) (X0_4 m c t) (outsAt0 m c (t.val - 1) (Nat.lt_of_le_of_lt (Nat.sub_le _ _) t.isLt)).2.2.1
        (outsAt0 m c (t.val - 1) (Nat.lt_of_le_of_lt (Nat.sub_le _ _) t.isLt)).2.2.2 := by
  rw [outsAt0_B m c t h h1 (by omega)]
  dsimp only
  unfold sout0_B_1
  rw [View.read_writes_eq_canon]
  rotate_left
  · exact fun _ => scover0_B_1 ..
  unfold kernelRun0_B
  dsimp only
  sl_unfold_words
  rw [View.canon_unit_zero FFV.hz]
  simp only [View.readAt_eq_ld, (hs0_2 t).read_unread, (hs0_3 t).read_unread, (hs0_4 t).read_unread, (Memref.isWhole_whole _).read_unread,
    View.ld_unit_zero (S := S512x2048) FFV.hz, View.ld_unit_zero (S := S2048x512) FFV.hz]

/-- Its last point adds the last 384 hidden units' products and leaves half the sum added to its rows. -/
theorem outs_C_9 (t : Fin cfg0.N) (h : t.val % 11 = 10) : (outsAt0 m c t.val t.isLt).1
    = k0_pay6 (iblk m c 0 t) (k0_pay5 (iblk m c 5 t) (iblk m c 6 t) (iblk m c 7 t) (outsAt0 m c (t.val - 1) (Nat.lt_of_le_of_lt (Nat.sub_le _ _) t.isLt)).2.2.1
        (outsAt0 m c (t.val - 1) (Nat.lt_of_le_of_lt (Nat.sub_le _ _) t.isLt)).2.2.2) := by
  rw [outsAt0_C m c t (by omega) (by omega) h]
  dsimp only
  unfold out0_C_9
  rw [View.read_writes_eq_canon]
  rotate_left
  · exact fun _ => cover0_C_9 ..
  unfold kernelRun0_C
  dsimp only
  sl_unfold_words
  rw [View.canon_unit_zero FFV.hz]
  simp only [View.readCov_unit_zero (S := S512x2048) _ FFV.hz, View.readAt_eq_ld, (hs0_0 t).read_unread, (hs0_5 t).read_unread, (hs0_6 t).read_unread, (hs0_7 t).read_unread, (hs0_8 t).read_unread, (Memref.isWhole_whole _).read_unread,
    View.ld_unit_zero (S := S512x2048) FFV.hz, View.ld_unit_zero (S := S1x2048) FFV.hz, View.ld_unit_zero (S := S2048x384) FFV.hz, View.ld_unit_zero (S := S384x2048) FFV.hz]

/-- And the same, normalised. -/
theorem outs_C_10 (t : Fin cfg0.N) (h : t.val % 11 = 10) : (outsAt0 m c t.val t.isLt).2.1
    = k0_pay4 (k0_pay6 (iblk m c 0 t) (k0_pay5 (iblk m c 5 t) (iblk m c 6 t) (iblk m c 7 t) (outsAt0 m c (t.val - 1) (Nat.lt_of_le_of_lt (Nat.sub_le _ _) t.isLt)).2.2.1
        (outsAt0 m c (t.val - 1) (Nat.lt_of_le_of_lt (Nat.sub_le _ _) t.isLt)).2.2.2)) (iblk m c 8 t) := by
  rw [outsAt0_C m c t (by omega) (by omega) h]
  dsimp only
  unfold out0_C_10
  rw [View.read_writes_eq_canon]
  rotate_left
  · exact fun _ => cover0_C_10 ..
  unfold kernelRun0_C
  dsimp only
  sl_unfold_words
  rw [View.canon_unit_zero FFV.hz]
  simp only [View.readCov_unit_zero (S := S512x2048) _ FFV.hz, View.readAt_eq_ld, (hs0_0 t).read_unread, (hs0_5 t).read_unread, (hs0_6 t).read_unread, (hs0_7 t).read_unread, (hs0_8 t).read_unread, (Memref.isWhole_whole _).read_unread,
    View.ld_unit_zero (S := S512x2048) FFV.hz, View.ld_unit_zero (S := S1x2048) FFV.hz, View.ld_unit_zero (S := S2048x384) FFV.hz, View.ld_unit_zero (S := S384x2048) FFV.hz]

end Cert.Proof.FFM

end
-- ==== Proof.Mix.Blocks.lean ====
module

public import proofs.«01_k».proof.Proof.Gen.Kernel3Ideal.Frame
public import proofs.«01_k».proof.Proof.Ffn.Blocks
public import Idealize.ShloMosaic.Lib.Pipeline.ValueKit
public import Idealize.ShloMosaic.Lib.Claim
public import Idealize.ShloMosaic.Lib.Tactic

@[expose] public section

set_option maxRecDepth 16384

noncomputable section

namespace Cert.Proof.FFM

open Cert.Kernel3Ideal Cert.Kernel3Ideal.Gen
open Idealize.ShloMosaic Idealize.ShloMosaic.TcCoe
open Idealize.SL Idealize.SL.Sem

/-! The two feed-forward calls have the same inputs, cut in the same way. -/

variable (m : (ℓ : Loc nD τ sig) → Buf (Elt Ideal) ℓ) (c : Dev nD)

/-- The kernel's first steps copy the last 384 hidden units' weights out of argument 2. -/
theorem V_main_v0 : V m c main_v0 = extractStridedSlice S2048x384 ![0, 5120] (m ((c : Thread nD τ).loc main_arg2)) slices_S2048x5504_S2048x384_0_5120 := by
  show StableHlo.after hostOps0 (fun b => m (c, b)) (Proc.devRef .tc main_v0) = _
  after_results

/-- The kernel's first steps copy the last 384 hidden units' weights out of argument 3. -/
theorem V_main_v1 : V m c main_v1 = extractStridedSlice S2048x384 ![0, 5120] (m ((c : Thread nD τ).loc main_arg3)) slices_S2048x5504_S2048x384_0_5120 := by
  show StableHlo.after hostOps0 (fun b => m (c, b)) (Proc.devRef .tc main_v1) = _
  after_results

/-- The kernel's first steps copy the last 384 hidden units' weights out of argument 4. -/
theorem V_main_v2 : V m c main_v2 = extractStridedSlice S384x2048 ![5120, 0] (m ((c : Thread nD τ).loc main_arg4)) slices_S5504x2048_S384x2048_5120_0 := by
  show StableHlo.after hostOps0 (fun b => m (c, b)) (Proc.devRef .tc main_v2) = _
  after_results

/-- The rows a point stages are its row block's. -/
theorem x_at (t : Fin cfg0.N) (r : Fin 512) (d : Fin 2048) (i : S16384x2048.Idx) (h0 : (i 0).val = 512 * (t.val / 11) + r.val) (h1 : (i 1).val = d.val) :
    iblk m c 0 t (ix2 r d) = m ((c : Thread nD τ).loc main_arg0) i := by
  show V m c main_arg0 (((cfg0.win 0).blk t).view.emb (ix2 r d)) = _
  rw [V_main_arg0]
  exact congrArg (m ((c : Thread nD τ).loc main_arg0)) (FFV.emb0 t _ i h0 h1)

/-- The first gain is staged whole. -/
theorem g_at (t : Fin cfg0.N) (r : Fin 1) (d : Fin 2048) (i : S1x2048.Idx) (h0 : (i 0).val = r.val) (h1 : (i 1).val = d.val) :
    iblk m c 1 t (ix2 r d) = m ((c : Thread nD τ).loc main_arg1) i := by
  show V m c main_arg1 (((cfg0.win 1).blk t).view.emb (ix2 r d)) = _
  rw [V_main_arg1]
  exact congrArg (m ((c : Thread nD τ).loc main_arg1)) (FFV.emb1 t _ i h0 h1)

/-- The hidden units whose gate weights a point stages are its own 512. -/
theorem wg_at (t : Fin cfg0.N) (h : t.val % 11 ≤ 9) (r : Fin 2048) (d : Fin 512) (i : S2048x5504.Idx) (h0 : (i 0).val = r.val) (h1 : (i 1).val = 512 * (t.val % 11) + d.val) :
    X0_2 m c t (ix2 r d) = m ((c : Thread nD τ).loc main_arg2) i := by
  unfold X0_2 Pipeline.Window.fill
  rw [dif_pos (moved0_2 t _)]
  show V m c main_arg2 (((cfg0.win 2).blk t).view.emb _) = _
  rw [V_main_arg2]
  exact congrArg (m ((c : Thread nD τ).loc main_arg2)) (FFV.emb2 t h _ i h0 h1)

/-- So are those whose other weights it stages. -/
theorem wu_at (t : Fin cfg0.N) (h : t.val % 11 ≤ 9) (r : Fin 2048) (d : Fin 512) (i : S2048x5504.Idx) (h0 : (i 0).val = r.val) (h1 : (i 1).val = 512 * (t.val % 11) + d.val) :
    X0_3 m c t (ix2 r d) = m ((c : Thread nD τ).loc main_arg3) i := by
  unfold X0_3 Pipeline.Window.fill
  rw [dif_pos (moved0_3 t _)]
  show V m c main_arg3 (((cfg0.win 3).blk t).view.emb _) = _
  rw [V_main_arg3]
  exact congrArg (m ((c : Thread nD τ).loc main_arg3)) (FFV.emb3 t h _ i h0 h1)

/-- And those whose output weights it stages. -/
theorem wd_at (t : Fin cfg0.N) (h : t.val % 11 ≤ 9) (r : Fin 512) (d : Fin 2048) (i : S5504x2048.Idx) (h0 : (i 0).val = 512 * (t.val % 11) + r.val) (h1 : (i 1).val = d.val) :
    X0_4 m c t (ix2 r d) = m ((c : Thread nD τ).loc main_arg4) i := by
  unfold X0_4 Pipeline.Window.fill
  rw [dif_pos (moved0_4 t _)]
  show V m c main_arg4 (((cfg0.win 4).blk t).view.emb _) = _
  rw [V_main_arg4]
  exact congrArg (m ((c : Thread nD τ).loc main_arg4)) (FFV.emb4 t h _ i h0 h1)

/-- The last 384 hidden units' gate weights are staged whole. -/
theorem wgt_at (t : Fin cfg0.N) (r : Fin 2048) (d : Fin 384) (i : S2048x5504.Idx) (h0 : (i 0).val = r.val) (h1 : (i 1).val = 5120 + d.val) :
    iblk m c 5 t (ix2 r d) = m ((c : Thread nD τ).loc main_arg2) i := by
  show V m c main_v0 (((cfg0.win 5).blk t).view.emb (ix2 r d)) = _
  rw [V_main_v0]
  refine (congrArg _ (FFV.emb5 t (ix2 r d) (ix2 r d) rfl rfl)).trans (congrArg (m ((c : Thread nD τ).loc main_arg2)) ?_)
  funext a; apply Fin.ext
  match a with
  | ⟨0, _⟩ => show 0 + r.val = (i 0).val; omega
  | ⟨1, _⟩ => show 5120 + d.val = (i 1).val; omega

/-- So are their other weights. -/
theorem wut_at (t : Fin cfg0.N) (r : Fin 2048) (d : Fin 384) (i : S2048x5504.Idx) (h0 : (i 0).val = r.val) (h1 : (i 1).val = 5120 + d.val) :
    iblk m c 6 t (ix2 r d) = m ((c : Thread nD τ).loc main_arg3) i := by
  show V m c main_v1 (((cfg0.win 6).blk t).view.emb (ix2 r d)) = _
  rw [V_main_v1]
  refine (congrArg _ (FFV.emb6 t (ix2 r d) (ix2 r d) rfl rfl)).trans (congrArg (m ((c : Thread nD τ).loc main_arg3)) ?_)
  funext a; apply Fin.ext
  match a with
  | ⟨0, _⟩ => show 0 + r.val = (i 0).val; omega
  | ⟨1, _⟩ => show 5120 + d.val = (i 1).val; omega

/-- And their output weights. -/
theorem wdt_at (t : Fin cfg0.N) (r : Fin 384) (d : Fin 2048) (i : S5504x2048.Idx) (h0 : (i 0).val = 5120 + r.val) (h1 : (i 1).val = d.val) :
    iblk m c 7 t (ix2 r d) = m ((c : Thread nD τ).loc main_arg4) i := by
  show V m c main_v2 (((cfg0.win 7).blk t).view.emb (ix2 r d)) = _
  rw [V_main_v2]
  refine (congrArg _ (FFV.emb7 t (ix2 r d) (ix2 r d) rfl rfl)).trans (congrArg (m ((c : Thread nD τ).loc main_arg4)) ?_)
  funext a; apply Fin.ext
  match a with
  | ⟨0, _⟩ => show 5120 + r.val = (i 0).val; omega
  | ⟨1, _⟩ => show 0 + d.val = (i 1).val; omega

/-- The second gain is staged whole. -/
theorem g2_at (t : Fin cfg0.N) (r : Fin 1) (d : Fin 2048) (i : S1x2048.Idx) (h0 : (i 0).val = r.val) (h1 : (i 1).val = d.val) :
    iblk m c 8 t (ix2 r d) = m ((c : Thread nD τ).loc main_arg5) i := by
  show V m c main_arg5 (((cfg0.win 8).blk t).view.emb (ix2 r d)) = _
  rw [V_main_arg5]
  exact congrArg (m ((c : Thread nD τ).loc main_arg5)) (FFV.emb8 t _ i h0 h1)

end Cert.Proof.FFM

end
-- ==== Proof.Mix.Array.lean ====
module

public import proofs.«01_k».proof.Defs
public import proofs.«01_k».proof.Proof.Mix.Terms
public import proofs.«01_k».proof.Proof.Mix.Blocks
public import proofs.«01_k».proof.Proof.Ffn.Ref
public import proofs.«01_k».proof.Proof.Gen.Kernel3.Frame
public import proofs.«01_k».proof.Proof.Gen.Reference3Ideal.Run
public import proofs.«01_k».proof.Proof.Gen.Reference3Ideal.Read

@[expose] public section

set_option maxRecDepth 16384

noncomputable section

namespace Cert.Proof.FFM

open Cert.Kernel3Ideal Cert.Kernel3Ideal.Gen
open Idealize.ShloMosaic Idealize.ShloMosaic.TcCoe
open Idealize.SL Idealize.SL.Sem

/-- Only a row block's last point writes its sum back. -/
theorem flush_y : ∀ t : Fin cfg0.N, (cfg0.win 9).flush t = true → t.val % 11 = 10 :=
  (by decide +kernel : ∀ t : Fin grid0.N, (cfg0.win 9).flush t = true → t.val % 11 = 10)

/-- And its normalised rows. -/
theorem flush_h : ∀ t : Fin cfg0.N, (cfg0.win 10).flush t = true → t.val % 11 = 10 :=
  (by decide +kernel : ∀ t : Fin grid0.N, (cfg0.win 10).flush t = true → t.val % 11 = 10)

/-- The second result's blocks lie as the first call's result's do. -/
theorem idx10 (t : Fin cfg0.N) : win0_10.index t = ![t.val / 11, 0] := (FFV.idx_facts t).2.2.2.2.2.2.2.2.2

/-- So do the first result's. -/
theorem idx9 (t : Fin cfg0.N) : win0_9.index t = ![t.val / 11, 0] := (FFV.idx_facts t).2.2.2.2.2.2.2.2.2

/-- The last step's first entry: the block's rows plus half the accumulated ones. -/
theorem pay6_at (x a : Vec Ideal S512x2048 .f32) (r : Fin 512) (d : Fin 2048) :
    (show EReal from k0_pay6 (F := Ideal) x a (ix2 r d)) = x (ix2 r d) + Ideal.ofBits .f32 0x3F000000#32 * a (ix2 r d) := by
  pointwise [k0_pay6]

/-- Its second: a row scaled to unit mean square, times the gain. -/
theorem pay4_at (y : FVec Ideal S512x2048 .f32) (g : Vec Ideal S1x2048 .f32) (r : Fin 512) (d : Fin 2048) :
    (show EReal from k0_pay4 (F := Ideal) y g (ix2 r d)) = FFV.nrm (fun k => y (ix2 r k)) d * g (ix2 0 d) := by
  unfold FFV.nrm
  pointwise [k0_pay4]

variable (m : (ℓ : Loc nD τ sig) → Buf (Elt Ideal) ℓ) (c : Dev nD)

/-- This call's points are those of a feed-forward call on its arguments. -/
theorem walk : FFV.Walk (m ((c : Thread nD τ).loc main_arg0)) (m ((c : Thread nD τ).loc main_arg1)) (m ((c : Thread nD τ).loc main_arg2))
    (m ((c : Thread nD τ).loc main_arg3)) (m ((c : Thread nD τ).loc main_arg4))
    (fun t : Fin cfg0.N => iblk m c 0 t) (fun t => iblk m c 1 t) (X0_2 m c) (X0_3 m c) (X0_4 m c) (fun t => iblk m c 5 t) (fun t => iblk m c 6 t) (fun t => iblk m c 7 t)
    (fun n hn => (outsAt0 m c n hn).2.2.1) (fun n hn => (outsAt0 m c n hn).2.2.2) where
  le := Nat.le_of_eq N_0
  x_at := x_at m c
  g_at := g_at m c
  wg_at := wg_at m c
  wu_at := wu_at m c
  wd_at := wd_at m c
  wgt_at := wgt_at m c
  wut_at := wut_at m c
  wdt_at := wdt_at m c
  first_h := outs_A_0 m c
  first_z := outs_A_1 m c
  next_h := outs_B_0 m c
  next_z := outs_B_1 m c

/-- A point is one of 352. -/
theorem lt (t : Fin cfg0.N) : t.val < 352 := t.isLt.trans_le (Nat.le_of_eq N_0)

/-- A row block's last point leaves the input rows plus half their feed-forward network's output. -/
theorem y_at (t : Fin cfg0.N) (h : t.val % 11 = 10) (r : Fin 512) (d : Fin 2048) :
    (outsAt0 m c t.val t.isLt).1 (ix2 r d) = FFV.half (m ((c : Thread nD τ).loc main_arg0)) (m ((c : Thread nD τ).loc main_arg1)) (m ((c : Thread nD τ).loc main_arg2))
    (m ((c : Thread nD τ).loc main_arg3)) (m ((c : Thread nD τ).loc main_arg4)) (FFV.row t.val (lt t) r) d := by
  rw [outs_C_9 m c t h]
  exact (pay6_at _ _ r d).trans ((walk m c).half_at t h r d)

/-- And the same rows, scaled to unit mean square and by the second gain. -/
theorem h_at (t : Fin cfg0.N) (h : t.val % 11 = 10) (r : Fin 512) (d : Fin 2048) :
    (outsAt0 m c t.val t.isLt).2.1 (ix2 r d) = FFV.ffn (m ((c : Thread nD τ).loc main_arg0)) (m ((c : Thread nD τ).loc main_arg1)) (m ((c : Thread nD τ).loc main_arg2))
    (m ((c : Thread nD τ).loc main_arg3)) (m ((c : Thread nD τ).loc main_arg4))
      (m ((c : Thread nD τ).loc main_arg5)) (FFV.row t.val (lt t) r) d := by
  rw [outs_C_10 m c t h]
  refine (pay4_at _ _ r d).trans ?_
  exact congrArg₂ (fun (a b : EReal) => a * b) (congrFun (congrArg FFV.nrm (funext fun e => (pay6_at _ _ r e).trans ((walk m c).half_at t h r e))) d) (g2_at m c t 0 d _ rfl rfl)

/-- The reference's first result, by the other feed-forward call's reference, which has the same lines up to there. -/
theorem v24_same : @Cert.Reference3Ideal.Read.val_main_v24 = @Cert.Reference2Ideal.Read.val_main_v24 := rfl

/-- Its second, the cast to bfloat16 dropped, is that call's result. -/
theorem v39_same : @Cert.Reference3Ideal.Read.val_main_v39 Ideal _ = @Cert.Reference2Ideal.Read.val_main_v38 Ideal _ := rfl

/-- The first result array ends at what the reference computes from the same arguments. -/
theorem final_y : (dats m 0 c).arrAt 9 cfg0.N
    = Cert.Reference3Ideal.Read.val_main_v24 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 9 _ (by decide +kernel) fun t hf y => ?_
  blk_simp
  rw [after0_9]
  have hy : y = ix2 (y 0 : Fin 512) (y 1 : Fin 2048) := by
    funext a
    match a with
    | ⟨0, _⟩ => rfl
    | ⟨1, _⟩ => rfl
  refine (congrArg (outsAt0 m c t.val t.isLt).1 hy).trans ((y_at m c t (flush_y t hf) (y 0) (y 1)).trans ?_)
  refine (FFV.v24_at _ _ _ _ _ (FFV.row t.val (lt t) (y 0)) (y 1)).symm.trans (congrArg
    (Cert.Reference3Ideal.Read.val_main_v24 (F := Ideal) (m ((c : Thread nD τ).loc main_arg0)) (m ((c : Thread nD τ).loc main_arg1)) (m ((c : Thread nD τ).loc main_arg2))
        (m ((c : Thread nD τ).loc main_arg3)) (m ((c : Thread nD τ).loc main_arg4))) ?_)
  funext a; apply Fin.ext
  match a with
  | ⟨0, _⟩ =>
    show 512 * (t.val / 11) + (y 0).val = win0_9.index t (0 : Fin 2) * 512 + 1 * (y 0).val
    rw [idx9]; show 512 * (t.val / 11) + (y 0).val = t.val / 11 * 512 + 1 * (y 0).val; omega
  | ⟨1, _⟩ =>
    show (y 1).val = win0_9.index t (1 : Fin 2) * 2048 + 1 * (y 1).val
    rw [idx9]; show (y 1).val = 0 * 2048 + 1 * (y 1).val; omega

/-- So does the second. -/
theorem final_h : (dats m 0 c).arrAt 10 cfg0.N
    = Cert.Reference3Ideal.Read.val_main_v39 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10]
  have hy : y = ix2 (y 0 : Fin 512) (y 1 : Fin 2048) := by
    funext a
    match a with
    | ⟨0, _⟩ => rfl
    | ⟨1, _⟩ => rfl
  refine (congrArg (outsAt0 m c t.val t.isLt).2.1 hy).trans ((h_at m c t (flush_h t hf) (y 0) (y 1)).trans ?_)
  refine (FFV.v38_at _ _ _ _ _ _ (FFV.row t.val (lt t) (y 0)) (y 1)).symm.trans (congrArg
    (Cert.Reference3Ideal.Read.val_main_v39 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) ?_)
  funext a; apply Fin.ext
  match a with
  | ⟨0, _⟩ =>
    show 512 * (t.val / 11) + (y 0).val = win0_10.index t (0 : Fin 2) * 512 + 1 * (y 0).val
    rw [idx10]; show 512 * (t.val / 11) + (y 0).val = t.val / 11 * 512 + 1 * (y 0).val; omega
  | ⟨1, _⟩ =>
    show (y 1).val = win0_10.index t (1 : Fin 2) * 2048 + 1 * (y 1).val
    rw [idx10]; show (y 1).val = 0 * 2048 + 1 * (y 1).val; omega

/-- The first feed-forward call as printed runs, keeps its arguments and leaves every counter at zero. -/
theorem frame_p : Cert.quiescent_Kernel3 := fun m ρ _ => Cert.Kernel3.Gen.frame m ρ

/-- So does its idealized version. -/
theorem frame_pi : Cert.quiescent_Kernel3Ideal := fun m ρ _ => Cert.Kernel3Ideal.Gen.frame m ρ

/-- And its reference. -/
theorem frame_ri : Cert.quiescent_Reference3Ideal := fun m ρ _ =>
  (θ_run _ _ _).mono (fun r h => ⟨fun c => (h c).2.2, sem_eq_zero_of_no_sems (by decide) r.2⟩) (Cert.Reference3Ideal.Value.run m ρ)

/-- The first feed-forward call and its reference end with the same two arrays: each row plus half its feed-forward
    network's output, and that scaled to unit mean square and by the second gain. -/
theorem algebraic : Cert.algebraic_Kernel3Ideal_Reference3Ideal := by
  intro m g m' g' _ ha
  refine ⟨fun c => Cert.Reference3Ideal.Read.val_main_v24 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)),
    fun c => Cert.Reference3Ideal.Read.val_main_v39 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)), ?_, ?_⟩
  · refine (θ_run _ _ _).mono (fun r h c => ?_) (run_main m g)
    exact ⟨((h c).1 9).trans (final_y m c), ((h c).1 10).trans (final_h m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 8).trans (((dats m 0 c).arrAt_in 8 rfl _).trans ((A_eq m c 8).trans (V_main_arg5 m c)))⟩
  · refine (θ_run _ _ _).mono (fun r h c => ⟨?_, ?_, (h c).2.2⟩) (Cert.Reference3Ideal.Value.run m' g')
    · refine (h c).1.trans (Eq.trans (b := Cert.Reference3Ideal.Read.val_main_v24 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))) rfl ?_)
      obtain ⟨a0, a1, a2, a3, a4, a5⟩ := ha c
      rw [a0, a1, a2, a3, a4]
    · refine (h c).2.1.trans ((Cert.Reference3Ideal.Read.val_main_v39_eq m' c).trans ?_)
      obtain ⟨a0, a1, a2, a3, a4, a5⟩ := ha c
      rw [a0, a1, a2, a3, a4, a5]

end Cert.Proof.FFM

end
-- ==== Proof.Proj.In.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Claim
public import Idealize.ShloMosaic.Lib.Tactic

@[expose] public section

set_option maxRecDepth 16384

noncomputable section

namespace Cert.Proof.PIN

open Cert.Kernel4Ideal Cert.Kernel4Ideal.Gen
open Idealize.ShloMosaic Idealize.ShloMosaic.TcCoe
open Idealize.SL Idealize.SL.Sem
open scoped BigOperators

/-- A stride that starts at the origin. -/
theorem hz : (![0, 0] : Fin 2 → Nat) = fun _ => 0 := funext fun a => by fin_cases a <;> rfl

/-- A block's entry is a row's product with a column. -/
theorem pay_at (x : Vec Ideal S1024x2048 .bf16) (w : Vec Ideal S2048x1024 .bf16) (r d : Fin 1024) :
    (show EReal from k0_pay1 (F := Ideal) x w (ix2 r d)) = ∑ k : Fin 2048, x (ix2 r k) * w (ix2 k d) := by
  pointwise [k0_pay1]

/-- The body leaves its product. -/
theorem out_eq (x : Vec Ideal S1024x2048 .bf16) (w : Vec Ideal S2048x1024 .bf16) : out0_2 x w = k0_pay1 x w := by
  unfold out0_2
  sl_unfold_words
  rw [View.canon_unit_zero hz, View.ld_unit_zero (S := S1024x2048) hz, View.ld_unit_zero (S := S2048x1024) hz]

/-- A point's blocks of rows and of columns. -/
theorem idx_facts : ∀ t : Fin cfg0.N, win0_0.index t = ![t.val / 3, 0] ∧ win0_1.index t = ![0, t.val % 3] ∧ win0_2.index t = ![t.val / 3, t.val % 3] :=
  (by decide +kernel : ∀ t : Fin grid0.N, _)

/-- The reference's entry. -/
theorem ref_at (h : FVec Ideal S16384x2048 .bf16) (w : FVec Ideal S2048x7184 .f32) (R : Fin 16384) (d : Fin 3072) :
    (show EReal from Cert.Reference4Ideal.Read.val_main_v3 (F := Ideal) h w (ix2 R d)) = ∑ k : Fin 2048, h (ix2 R k) * w (ix2 k (⟨d.val, by omega⟩ : Fin 7184)) := by
  rw [Cert.Reference4Ideal.Read.val_main_v3_apply]
  refine (Cert.Reference4Ideal.Read.val_main_v2_apply (F := Ideal) h w (ix2 R d)).trans ((Cert.Reference4Ideal.Read.val_main_v1_apply h w (Cert.Reference4Ideal.Read.idx_main_v2 (ix2 R d))).trans (Finset.sum_congr rfl fun k _ => ?_))
  have el : Cert.Reference4Ideal.Read.lidx_main_v1 (Cert.Reference4Ideal.Read.idx_main_v2 (ix2 R d)) k = ix2 R k := funext fun a => by match a with | ⟨0, _⟩ => rfl | ⟨1, _⟩ => rfl
  have er : Cert.Reference4Ideal.Read.ridx_main_v1 (Cert.Reference4Ideal.Read.idx_main_v2 (ix2 R d)) k = ix2 k (⟨d.val, by omega⟩ : Fin 7184) := funext fun a => by match a with | ⟨0, _⟩ => rfl | ⟨1, _⟩ => rfl
  rw [el, er]
  rfl

variable (m : (ℓ : Loc nD τ sig) → Buf (Elt Ideal) ℓ) (c : Dev nD)

/-- The kernel's first steps cut the attention's columns out of the weights and cast them. -/
theorem V_main_v1 : V m c main_v1 = truncf (F := Ideal) .bf16 (extractStridedSlice S2048x3072 ![0, 0] (m ((c : Thread nD τ).loc main_arg1)) slices_S2048x7184_S2048x3072_0_0) bitsLt_bf16_f32 := by
  show StableHlo.after hostOps0 (fun b => m (c, b)) (Proc.devRef .tc main_v1) = _
  after_results

/-- The rows a point stages. -/
theorem x_at (t : Fin cfg0.N) (r : Fin 1024) (k : Fin 2048) (i : S16384x2048.Idx) (h0 : (i 0).val = 1024 * (t.val / 3) + r.val) (h1 : (i 1).val = k.val) :
    iblk m c 0 t (ix2 r k) = m ((c : Thread nD τ).loc main_arg0) i := by
  obtain ⟨e0, -, -⟩ := idx_facts t
  show V m c main_arg0 (((cfg0.win 0).blk t).view.emb (ix2 r k)) = _
  rw [V_main_arg0]
  refine congrArg _ ?_
  funext a; apply Fin.ext
  match a with
  | ⟨0, _⟩ =>
    show win0_0.index t (0 : Fin 2) * 1024 + 1 * r.val = (i 0).val
    rw [e0]; show t.val / 3 * 1024 + 1 * r.val = (i 0).val; omega
  | ⟨1, _⟩ =>
    show win0_0.index t (1 : Fin 2) * 2048 + 1 * k.val = (i 1).val
    rw [e0]; show 0 * 2048 + 1 * k.val = (i 1).val; omega

/-- The columns it stages. -/
theorem w_at (t : Fin cfg0.N) (k : Fin 2048) (d : Fin 1024) (i : S2048x7184.Idx) (h0 : (i 0).val = k.val) (h1 : (i 1).val = 1024 * (t.val % 3) + d.val) :
    iblk m c 1 t (ix2 k d) = m ((c : Thread nD τ).loc main_arg1) i := by
  obtain ⟨-, e1, -⟩ := idx_facts t
  show V m c main_v1 (((cfg0.win 1).blk t).view.emb (ix2 k d)) = _
  rw [V_main_v1]
  refine congrArg (m ((c : Thread nD τ).loc main_arg1)) ?_
  funext a; apply Fin.ext
  match a with
  | ⟨0, _⟩ =>
    show 0 + (win0_1.index t (0 : Fin 2) * 2048 + 1 * k.val) = (i 0).val
    rw [e1]; show 0 + (0 * 2048 + 1 * k.val) = (i 0).val; omega
  | ⟨1, _⟩ =>
    show 0 + (win0_1.index t (1 : Fin 2) * 1024 + 1 * d.val) = (i 1).val
    rw [e1]; show 0 + (t.val % 3 * 1024 + 1 * d.val) = (i 1).val; omega

/-- The result array ends at what the reference computes from the same arguments. -/
theorem final : (dats m 0 c).arrAt 2 cfg0.N
    = Cert.Reference4Ideal.Read.val_main_v3 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := idx_facts t
  have hN : cfg0.N = 48 := N_0
  have ht : t.val < 48 := hN ▸ t.isLt
  blk_simp
  rw [after0_2, out_eq]
  have hy : y = ix2 (y 0 : Fin 1024) (y 1 : Fin 1024) := by
    funext a
    match a with
    | ⟨0, _⟩ => rfl
    | ⟨1, _⟩ => rfl
  have b0 : (y 0 : Fin 1024).val < 1024 := (y 0 : Fin 1024).isLt
  have b1 : (y 1 : Fin 1024).val < 1024 := (y 1 : Fin 1024).isLt
  refine (congrArg (k0_pay1 (F := Ideal) (iblk m c 0 t) (iblk m c 1 t)) hy).trans ((pay_at _ _ (y 0) (y 1)).trans ?_)
  refine (Finset.sum_congr rfl fun k _ => congrArg₂ (fun a b : EReal => a * b)
    (x_at m c t (y 0) k (ix2 (⟨1024 * (t.val / 3) + (y 0 : Fin 1024).val, by omega⟩ : Fin 16384) k) rfl rfl)
    (w_at m c t k (y 1) (ix2 k (⟨1024 * (t.val % 3) + (y 1 : Fin 1024).val, by omega⟩ : Fin 7184)) rfl rfl)).trans ?_
  refine (ref_at _ _ (⟨1024 * (t.val / 3) + (y 0 : Fin 1024).val, by omega⟩) (⟨1024 * (t.val % 3) + (y 1 : Fin 1024).val, by omega⟩)).symm.trans
    (congrArg (Cert.Reference4Ideal.Read.val_main_v3 (F := Ideal) (m ((c : Thread nD τ).loc main_arg0)) (m ((c : Thread nD τ).loc main_arg1))) ?_)
  funext a; apply Fin.ext
  match a with
  | ⟨0, _⟩ =>
    show 1024 * (t.val / 3) + (y 0).val = win0_2.index t (0 : Fin 2) * 1024 + 1 * (y 0).val
    rw [e2]; show 1024 * (t.val / 3) + (y 0).val = t.val / 3 * 1024 + 1 * (y 0).val; omega
  | ⟨1, _⟩ =>
    show 1024 * (t.val % 3) + (y 1).val = win0_2.index t (1 : Fin 2) * 1024 + 1 * (y 1).val
    rw [e2]; show 1024 * (t.val % 3) + (y 1).val = t.val % 3 * 1024 + 1 * (y 1).val; omega

/-- The attention's input projection as printed runs, keeps its arguments and leaves every counter at zero. -/
theorem frame_p : Cert.quiescent_Kernel4 := fun m ρ _ => Cert.Kernel4.Gen.frame m ρ

/-- So does its idealized version. -/
theorem frame_pi : Cert.quiescent_Kernel4Ideal := fun m ρ _ => Cert.Kernel4Ideal.Gen.frame m ρ

/-- And its reference. -/
theorem frame_ri : Cert.quiescent_Reference4Ideal := fun m ρ _ =>
  (θ_run _ _ _).mono (fun r h => ⟨fun c => (h c).2, sem_eq_zero_of_no_sems (by decide) r.2⟩) (Cert.Reference4Ideal.Value.run m ρ)

/-- The projection and its reference end with the same array: the rows times the first 3072 columns of the weights. -/
theorem algebraic : Cert.algebraic_Kernel4Ideal_Reference4Ideal := by
  intro m g m' g' _ ha
  refine ⟨fun c => Cert.Reference4Ideal.Read.val_main_v3 (F := Ideal) (m ((c.tc : Thread nD τ).loc main_arg0)) (m ((c.tc : Thread nD τ).loc main_arg1)), ?_, ?_⟩
  · refine (θ_run _ _ _).mono (fun r h c => ?_) (Cert.Kernel4Ideal.Value.run_blocks m g)
    exact ⟨(h c).1.trans (final m c), (h c).2⟩
  · refine (θ_run _ _ _).mono (fun r h c => ⟨?_, (h c).2⟩) (Cert.Reference4Ideal.Value.run m' g')
    refine (h c).1.trans (Eq.trans (b := Cert.Reference4Ideal.Read.val_main_v3 (F := Ideal) (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))) rfl ?_)
    rw [(ha c).1, (ha c).2]

end Cert.Proof.PIN

end
-- ==== Proof.Proj.Out.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Claim
public import Idealize.ShloMosaic.Lib.Tactic

@[expose] public section

set_option maxRecDepth 16384

noncomputable section

namespace Cert.Proof.POUT

open Cert.Kernel6Ideal Cert.Kernel6Ideal.Gen
open Idealize.ShloMosaic Idealize.ShloMosaic.TcCoe
open Idealize.SL Idealize.SL.Sem
open scoped BigOperators

/-- A stride that starts at the origin. -/
theorem hz : (![0, 0] : Fin 2 → Nat) = fun _ => 0 := funext fun a => by fin_cases a <;> rfl

/-- A block's entry: the residual's, then one half's product, then the other's. -/
theorem pay_at (x : Vec Ideal S1024x1024 .f32) (a wa b wb : Vec Ideal S1024x1024 .bf16) (r d : Fin 1024) :
    (show EReal from k0_pay1 (F := Ideal) x a wa b wb (ix2 r d))
      = x (ix2 r d) + (∑ k : Fin 1024, a (ix2 r k) * wa (ix2 k d)) + (∑ k : Fin 1024, b (ix2 r k) * wb (ix2 k d)) := by
  pointwise [k0_pay1]

/-- The body leaves that block. -/
theorem out_eq (a b wa wb : Vec Ideal S1024x1024 .bf16) (x : Vec Ideal S1024x1024 .f32) : out0_5 a b wa wb x = k0_pay1 x a wa b wb := by
  unfold out0_5
  sl_unfold_words
  rw [View.canon_unit_zero hz]
  simp only [View.ld_unit_zero (S := S1024x1024) hz]

/-- A point's blocks of rows and of columns. -/
theorem idx_facts : ∀ t : Fin cfg0.N, win0_0.index t = ![t.val / 2, 0] ∧ win0_1.index t = ![t.val / 2, 0] ∧ win0_2.index t = ![0, t.val % 2]
    ∧ win0_3.index t = ![1, t.val % 2] ∧ win0_4.index t = ![t.val / 2, t.val % 2] ∧ win0_5.index t = ![t.val / 2, t.val % 2] :=
  (by decide +kernel : ∀ t : Fin grid0.N, _)

/-- The joined rows' first 1024 columns are the first array's. -/
theorem join_left (a b : FVec Ideal S16384x1024 .bf16) (R : Fin 16384) (k : Fin 1024) :
    (show EReal from Cert.Reference6Ideal.Read.val_main_v2 (F := Ideal) a b (ix2 R (⟨k.val, by omega⟩ : Fin 2048))) = a (ix2 R k) :=
  concatenate_pair_apply_left (1 : Fin S16384x2048.rank) (Cert.Reference6Ideal.Read.val_main_v0 (F := Ideal) a) (Cert.Reference6Ideal.Read.val_main_v1 (F := Ideal) b)
    Cert.Reference6Ideal.Gen.concatenates_S16384x1024_S16384x1024_S16384x2048_d1 (ix2 R (⟨k.val, by omega⟩ : Fin 2048)) rfl (ix2 R k)
    (fun x => by match x with | ⟨0, _⟩ => rfl | ⟨1, _⟩ => rfl)

/-- The others are the second array's. -/
theorem join_right (a b : FVec Ideal S16384x1024 .bf16) (R : Fin 16384) (k : Fin 1024) :
    (show EReal from Cert.Reference6Ideal.Read.val_main_v2 (F := Ideal) a b (ix2 R (⟨1024 + k.val, by omega⟩ : Fin 2048))) = b (ix2 R k) :=
  concatenate_pair_apply_right (1 : Fin S16384x2048.rank) (Cert.Reference6Ideal.Read.val_main_v0 (F := Ideal) a) (Cert.Reference6Ideal.Read.val_main_v1 (F := Ideal) b)
    Cert.Reference6Ideal.Gen.concatenates_S16384x1024_S16384x1024_S16384x2048_d1 (ix2 R (⟨1024 + k.val, by omega⟩ : Fin 2048)) rfl rfl (ix2 R k)
    (fun x hx => by match x, hx with | ⟨0, _⟩, _ => rfl | ⟨1, _⟩, hx => exact absurd rfl hx) (Nat.add_comm k.val 1024)

/-- The reference's entry, its sum cut where the two arrays meet. -/
theorem ref_at (a b : FVec Ideal S16384x1024 .bf16) (w : FVec Ideal S2048x2048 .f32) (x : FVec Ideal S16384x2048 .f32) (R : Fin 16384) (d : Fin 2048) :
    (show EReal from Cert.Reference6Ideal.Read.val_main_v4 (F := Ideal) a b w x (ix2 R d))
      = x (ix2 R d) + (∑ k : Fin 1024, a (ix2 R k) * w (ix2 (⟨k.val, by omega⟩ : Fin 2048) d))
          + (∑ k : Fin 1024, b (ix2 R k) * w (ix2 (⟨1024 + k.val, by omega⟩ : Fin 2048) d)) := by
  have hs : (show EReal from Cert.Reference6Ideal.Read.val_main_v3 (F := Ideal) a b w (ix2 R d))
      = (∑ k : Fin 1024, a (ix2 R k) * w (ix2 (⟨k.val, by omega⟩ : Fin 2048) d)) + (∑ k : Fin 1024, b (ix2 R k) * w (ix2 (⟨1024 + k.val, by omega⟩ : Fin 2048) d)) := by
    refine (Cert.Reference6Ideal.Read.val_main_v3_apply a b w (ix2 R d)).trans ?_
    have e : ∀ k : Fin 2048, (Cert.Reference6Ideal.Read.val_main_v2 (F := Ideal) a b) (Cert.Reference6Ideal.Read.lidx_main_v3 (ix2 R d) k) * w (Cert.Reference6Ideal.Read.ridx_main_v3 (ix2 R d) k)
        = (show EReal from Cert.Reference6Ideal.Read.val_main_v2 (F := Ideal) a b (ix2 R k)) * w (ix2 k d) := fun k => by
      have el : Cert.Reference6Ideal.Read.lidx_main_v3 (ix2 R d) k = ix2 R k := funext fun a => by match a with | ⟨0, _⟩ => rfl | ⟨1, _⟩ => rfl
      have er : Cert.Reference6Ideal.Read.ridx_main_v3 (ix2 R d) k = ix2 k d := funext fun a => by match a with | ⟨0, _⟩ => rfl | ⟨1, _⟩ => rfl
      rw [el, er]
    refine (Finset.sum_congr rfl fun k _ => e k).trans ?_
    refine (Fin.sum_univ_add (a := 1024) (b := 1024) (fun k : Fin 2048 => (show EReal from Cert.Reference6Ideal.Read.val_main_v2 (F := Ideal) a b (ix2 R k)) * w (ix2 k d))).trans ?_
    refine congrArg₂ (fun p q : EReal => p + q) (Finset.sum_congr rfl fun k _ => ?_) (Finset.sum_congr rfl fun k _ => ?_)
    · exact congrArg (fun p : EReal => p * w (ix2 (⟨k.val, by omega⟩ : Fin 2048) d)) (join_left a b R k)
    · exact congrArg (fun p : EReal => p * w (ix2 (⟨1024 + k.val, by omega⟩ : Fin 2048) d)) (join_right a b R k)
  refine (congrArg (fun p : EReal => (show EReal from x (ix2 R d)) + p) hs).trans ?_
  exact (add_assoc (G := EReal) _ _ _).symm

variable (m : (ℓ : Loc nD τ sig) → Buf (Elt Ideal) ℓ) (c : Dev nD)

/-- The kernel's first step casts the weights. -/
theorem V_main_v0 : V m c main_v0 = truncf (F := Ideal) .bf16 (m ((c : Thread nD τ).loc main_arg2)) bitsLt_bf16_f32 := by
  show StableHlo.after hostOps0 (fun b => m (c, b)) (Proc.devRef .tc main_v0) = _
  after_results

/-- The first array's rows at a point. -/
theorem a_at (t : Fin cfg0.N) (r k : Fin 1024) (i : S16384x1024.Idx) (h0 : (i 0).val = 1024 * (t.val / 2) + r.val) (h1 : (i 1).val = k.val) :
    iblk m c 0 t (ix2 r k) = m ((c : Thread nD τ).loc main_arg0) i := by
  obtain ⟨e, -⟩ := idx_facts t
  show V m c main_arg0 (((cfg0.win 0).blk t).view.emb (ix2 r k)) = _
  rw [V_main_arg0]
  refine congrArg _ ?_
  funext a; apply Fin.ext
  match a with
  | ⟨0, _⟩ =>
    show win0_0.index t (0 : Fin 2) * 1024 + 1 * r.val = (i 0).val
    rw [e]; show t.val / 2 * 1024 + 1 * r.val = (i 0).val; omega
  | ⟨1, _⟩ =>
    show win0_0.index t (1 : Fin 2) * 1024 + 1 * k.val = (i 1).val
    rw [e]; show 0 * 1024 + 1 * k.val = (i 1).val; omega

/-- The second array's. -/
theorem b_at (t : Fin cfg0.N) (r k : Fin 1024) (i : S16384x1024.Idx) (h0 : (i 0).val = 1024 * (t.val / 2) + r.val) (h1 : (i 1).val = k.val) :
    iblk m c 1 t (ix2 r k) = m ((c : Thread nD τ).loc main_arg1) i := by
  obtain ⟨-, e, -⟩ := idx_facts t
  show V m c main_arg1 (((cfg0.win 1).blk t).view.emb (ix2 r k)) = _
  rw [V_main_arg1]
  refine congrArg _ ?_
  funext a; apply Fin.ext
  match a with
  | ⟨0, _⟩ =>
    show win0_1.index t (0 : Fin 2) * 1024 + 1 * r.val = (i 0).val
    rw [e]; show t.val / 2 * 1024 + 1 * r.val = (i 0).val; omega
  | ⟨1, _⟩ =>
    show win0_1.index t (1 : Fin 2) * 1024 + 1 * k.val = (i 1).val
    rw [e]; show 0 * 1024 + 1 * k.val = (i 1).val; omega

/-- The weights' upper half, at the point's columns. -/
theorem wa_at (t : Fin cfg0.N) (k d : Fin 1024) (i : S2048x2048.Idx) (h0 : (i 0).val = k.val) (h1 : (i 1).val = 1024 * (t.val % 2) + d.val) :
    iblk m c 2 t (ix2 k d) = m ((c : Thread nD τ).loc main_arg2) i := by
  obtain ⟨-, -, e, -⟩ := idx_facts t
  show V m c main_v0 (((cfg0.win 2).blk t).view.emb (ix2 k d)) = _
  rw [V_main_v0]
  refine congrArg (m ((c : Thread nD τ).loc main_arg2)) ?_
  funext a; apply Fin.ext
  match a with
  | ⟨0, _⟩ =>
    show win0_2.index t (0 : Fin 2) * 1024 + 1 * k.val = (i 0).val
    rw [e]; show 0 * 1024 + 1 * k.val = (i 0).val; omega
  | ⟨1, _⟩ =>
    show win0_2.index t (1 : Fin 2) * 1024 + 1 * d.val = (i 1).val
    rw [e]; show t.val % 2 * 1024 + 1 * d.val = (i 1).val; omega

/-- Their lower half. -/
theorem wb_at (t : Fin cfg0.N) (k d : Fin 1024) (i : S2048x2048.Idx) (h0 : (i 0).val = 1024 + k.val) (h1 : (i 1).val = 1024 * (t.val % 2) + d.val) :
    iblk m c 3 t (ix2 k d) = m ((c : Thread nD τ).loc main_arg2) i := by
  obtain ⟨-, -, -, e, -⟩ := idx_facts t
  show V m c main_v0 (((cfg0.win 3).blk t).view.emb (ix2 k d)) = _
  rw [V_main_v0]
  refine congrArg (m ((c : Thread nD τ).loc main_arg2)) ?_
  funext a; apply Fin.ext
  match a with
  | ⟨0, _⟩ =>
    show win0_3.index t (0 : Fin 2) * 1024 + 1 * k.val = (i 0).val
    rw [e]; show 1 * 1024 + 1 * k.val = (i 0).val; omega
  | ⟨1, _⟩ =>
    show win0_3.index t (1 : Fin 2) * 1024 + 1 * d.val = (i 1).val
    rw [e]; show t.val % 2 * 1024 + 1 * d.val = (i 1).val; omega

/-- The residual's block. -/
theorem x_at (t : Fin cfg0.N) (r d : Fin 1024) (i : S16384x2048.Idx) (h0 : (i 0).val = 1024 * (t.val / 2) + r.val) (h1 : (i 1).val = 1024 * (t.val % 2) + d.val) :
    iblk m c 4 t (ix2 r d) = m ((c : Thread nD τ).loc main_arg3) i := by
  obtain ⟨-, -, -, -, e, -⟩ := idx_facts t
  show V m c main_arg3 (((cfg0.win 4).blk t).view.emb (ix2 r d)) = _
  rw [V_main_arg3]
  refine congrArg _ ?_
  funext a; apply Fin.ext
  match a with
  | ⟨0, _⟩ =>
    show win0_4.index t (0 : Fin 2) * 1024 + 1 * r.val = (i 0).val
    rw [e]; show t.val / 2 * 1024 + 1 * r.val = (i 0).val; omega
  | ⟨1, _⟩ =>
    show win0_4.index t (1 : Fin 2) * 1024 + 1 * d.val = (i 1).val
    rw [e]; show t.val % 2 * 1024 + 1 * d.val = (i 1).val; omega

/-- The result array ends at what the reference computes from the same arguments. -/
theorem final : (dats m 0 c).arrAt 5 cfg0.N
    = Cert.Reference6Ideal.Read.val_main_v4 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, -, e5⟩ := idx_facts t
  have hN : cfg0.N = 32 := N_0
  have ht : t.val < 32 := hN ▸ t.isLt
  blk_simp
  rw [after0_5, out_eq]
  have hy : y = ix2 (y 0 : Fin 1024) (y 1 : Fin 1024) := by
    funext a
    match a with
    | ⟨0, _⟩ => rfl
    | ⟨1, _⟩ => rfl
  have b0 : (y 0 : Fin 1024).val < 1024 := (y 0 : Fin 1024).isLt
  have b1 : (y 1 : Fin 1024).val < 1024 := (y 1 : Fin 1024).isLt
  let R : Fin 16384 := ⟨1024 * (t.val / 2) + (y 0 : Fin 1024).val, by omega⟩
  let D : Fin 2048 := ⟨1024 * (t.val % 2) + (y 1 : Fin 1024).val, by omega⟩
  refine (congrArg (k0_pay1 (F := Ideal) (iblk m c 4 t) (iblk m c 0 t) (iblk m c 2 t) (iblk m c 1 t) (iblk m c 3 t)) hy).trans ((pay_at _ _ _ _ _ (y 0) (y 1)).trans ?_)
  refine (congrArg₂ (fun p q : EReal => p + q)
    (congrArg₂ (fun p q : EReal => p + q) (x_at m c t (y 0) (y 1) (ix2 R D) rfl rfl)
      (Finset.sum_congr rfl fun k _ => congrArg₂ (fun p q : EReal => p * q) (a_at m c t (y 0) k (ix2 R k) rfl rfl)
        (wa_at m c t k (y 1) (ix2 (⟨k.val, by omega⟩ : Fin 2048) D) rfl rfl)))
    (Finset.sum_congr rfl fun k _ => congrArg₂ (fun p q : EReal => p * q) (b_at m c t (y 0) k (ix2 R k) rfl rfl)
      (wb_at m c t k (y 1) (ix2 (⟨1024 + k.val, by omega⟩ : Fin 2048) D) rfl rfl))).trans ?_
  refine (ref_at _ _ _ _ R D).symm.trans
    (congrArg (Cert.Reference6Ideal.Read.val_main_v4 (F := Ideal) (m ((c : Thread nD τ).loc main_arg0)) (m ((c : Thread nD τ).loc main_arg1)) (m ((c : Thread nD τ).loc main_arg2)) (m ((c : Thread nD τ).loc main_arg3))) ?_)
  funext a; apply Fin.ext
  match a with
  | ⟨0, _⟩ =>
    show 1024 * (t.val / 2) + (y 0).val = win0_5.index t (0 : Fin 2) * 1024 + 1 * (y 0).val
    rw [e5]; show 1024 * (t.val / 2) + (y 0).val = t.val / 2 * 1024 + 1 * (y 0).val; omega
  | ⟨1, _⟩ =>
    show 1024 * (t.val % 2) + (y 1).val = win0_5.index t (1 : Fin 2) * 1024 + 1 * (y 1).val
    rw [e5]; show 1024 * (t.val % 2) + (y 1).val = t.val % 2 * 1024 + 1 * (y 1).val; omega

/-- The output projection as printed runs, keeps its arguments and leaves every counter at zero. -/
theorem frame_p : Cert.quiescent_Kernel6 := fun m ρ _ => Cert.Kernel6.Gen.frame m ρ

/-- So does its idealized version. -/
theorem frame_pi : Cert.quiescent_Kernel6Ideal := fun m ρ _ => Cert.Kernel6Ideal.Gen.frame m ρ

/-- And its reference. -/
theorem frame_ri : Cert.quiescent_Reference6Ideal := fun m ρ _ =>
  (θ_run _ _ _).mono (fun r h => ⟨fun c => (h c).2, sem_eq_zero_of_no_sems (by decide) r.2⟩) (Cert.Reference6Ideal.Value.run m ρ)

/-- The output projection and its reference end with the same array: the residual plus the joined rows times the weights. -/
theorem algebraic : Cert.algebraic_Kernel6Ideal_Reference6Ideal := by
  intro m g m' g' _ ha
  refine ⟨fun c => Cert.Reference6Ideal.Read.val_main_v4 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · refine (θ_run _ _ _).mono (fun r h c => ?_) (Cert.Kernel6Ideal.Value.run_blocks m g)
    exact ⟨(h c).1.trans (final m c), (h c).2⟩
  · refine (θ_run _ _ _).mono (fun r h c => ⟨?_, (h c).2⟩) (Cert.Reference6Ideal.Value.run m' g')
    refine (h c).1.trans (Eq.trans (b := Cert.Reference6Ideal.Read.val_main_v4 (F := Ideal) (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))
      (m' ((c.tc : Thread Cert.Reference6Ideal.nD Cert.Reference6Ideal.τ).loc Cert.Reference6Ideal.main_arg3))) rfl ?_)
    obtain ⟨a0, a1, a2, a3⟩ := ha c
    rw [a0, a1, a2, a3]

end Cert.Proof.POUT

end
-- ==== Proof.Proj.Side.lean ====
module

public import proofs.«01_k».proof.Proof.Gen.Kernel5Ideal.Frame
public import Idealize.ShloMosaic.Lib.Claim
public import Idealize.ShloMosaic.Lib.Tactic
public import Idealize.ShloMosaic.Lib.Pipeline.TableIdle

@[expose] public section

set_option maxRecDepth 16384

noncomputable section

namespace Cert.Proof.PSIDE

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

/-- A block of the wide product. -/
def wide (x : Vec F S1024x2048 .bf16) (w : Vec F S2048x1024 .bf16) : FVec F S1024x1024 .f32 :=
  matmul dot_S1024x2048_S2048x1024_S1024x1024_1_0_0_1_n_n none x (shapeCast S2048x1024 w shapeCasts_S2048x1024_S2048x1024) (constant S1024x1024 .f32 0x00000000#32)

/-- A block of the narrow product. -/
def side (x : Vec F S1024x2048 .bf16) (w : Vec F S2048x128 .bf16) : FVec F S1024x128 .f32 :=
  matmul dot_S1024x2048_S2048x128_S1024x128_1_0_0_1_n_n none x (shapeCast S2048x128 w shapeCasts_S2048x128_S2048x128) (constant S1024x128 .f32 0x00000000#32)

/-- A whole buffer as a rectangle: a block of rows. -/
abbrev rx : Rect S1024x2048 := Rect.unit (s := S1024x2048) ![0, 0] S1024x2048.size inb_S1024x2048_S1024x2048_0_0
/-- A block of the wide weights. -/
abbrev rw : Rect S2048x1024 := Rect.unit (s := S2048x1024) ![0, 0] S2048x1024.size inb_S2048x1024_S2048x1024_0_0
/-- The narrow weights. -/
abbrev rv : Rect S2048x128 := Rect.unit (s := S2048x128) ![0, 0] S2048x128.size inb_S2048x128_S2048x128_0_0
/-- A block of the wide result. -/
abbrev ro : Rect S1024x1024 := Rect.unit (s := S1024x1024) ![0, 0] S1024x1024.size inb_S1024x1024_S1024x1024_0_0
/-- A block of the narrow result. -/
abbrev rs : Rect S1024x128 := Rect.unit (s := S1024x128) ![0, 0] S1024x128.size inb_S1024x128_S1024x128_0_0

/-- What the body leaves in the wide result's buffer. -/
def outW (x : Vec F S1024x2048 .bf16) (w : Vec F S2048x1024 .bf16) : Vec F S1024x1024 .f32 :=
  View.canon [⟨ro, wide (View.ld x rx) (View.ld w rw)⟩]

/-- What it leaves in the narrow result's, at a row block's first column block. -/
def outS (x : Vec F S1024x2048 .bf16) (w : Vec F S2048x128 .bf16) : Vec F S1024x128 .f32 :=
  View.canon [⟨rs, side (View.ld x rx) (View.ld w rv)⟩]

/-- The wide store covers its buffer. -/
theorem coverW (p : Vec F S1024x1024 .f32) (y : S1024x1024.Idx) : ∃ pc ∈ ([⟨ro, p⟩] : List (View.Piece (Elt F) S1024x1024 .f32)), y ∈ pc.1.set :=
  View.cover_of_tiled [⟨ro, p⟩] S1024x1024.size (by rfl) y

/-- So does the narrow one. -/
theorem coverS (p : Vec F S1024x128 .f32) (y : S1024x128.Idx) : ∃ pc ∈ ([⟨rs, p⟩] : List (View.Piece (Elt F) S1024x128 .f32)), y ∈ pc.1.set :=
  View.cover_of_tiled [⟨rs, p⟩] S1024x128.size (by rfl) y

section Body

variable (c : Dev nD) (i : grid0.Coords) (arg2 : Memref sig .tc .vmem S1024x2048 .bf16) (harg2 : arg2.IsWhole) (arg3 : Memref sig .tc .vmem S2048x1024 .bf16) (harg3 : arg3.IsWhole)
  (arg4 : Memref sig .tc .vmem S2048x128 .bf16) (harg4 : arg4.IsWhole) (arg5 : Memref sig .tc .vmem S1024x1024 .f32) (harg5 : arg5.IsWhole) (arg6 : Memref sig .tc .vmem S1024x128 .f32) (harg6 : arg6.IsWhole)
  (x0 : Vec F S1024x2048 .bf16) (x1 : Vec F S2048x1024 .bf16) (x2 : Vec F S2048x128 .bf16)

set_option maxHeartbeats 1000000 in
/-- At a row block's first column block the body leaves both products. -/
theorem body_first (hc : k0_cond1 i = 1#1) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outW x0 x1) ∗ owns (c : Thread nD τ) arg6 fullShare (outS x0 x2)) -∗ K ⟨⟩))
      ⊢ wp frame (wpE (defs₀ (F := F)) Variants.none c none) Set.univ (cc0_in_proj_n4096_side i arg2 harg2 arg3 harg3 arg4 harg4 arg5 harg5 arg6 harg6) K := by
  sl_unfold [cc0_in_proj_n4096_side]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverW _)
  iexists _; isplitr
  swap; · iexact H4
  ipureintro
  exact View.read_writes_eq_canon _ _ _ (coverS _)

set_option maxHeartbeats 1000000 in
/-- At the others it leaves the wide product, and the narrow result's buffer as it was. -/
theorem body_other (hc : ¬ k0_cond1 i = 1#1) (x4 : Vec F S1024x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4
        ∗ (iprop(owns (c : Thread nD τ) arg2 fullShare x0 ∗ owns (c : Thread nD τ) arg3 fullShare x1 ∗ owns (c : Thread nD τ) arg4 fullShare x2 ∗ owns (c : Thread nD τ) arg5 fullShare (outW x0 x1) ∗ owns (c : Thread nD τ) arg6 fullShare x4) -∗ K ⟨⟩))
      ⊢ wp frame (wpE (defs₀ (F := F)) Variants.none c none) Set.univ (cc0_in_proj_n4096_side i arg2 harg2 arg3 harg3 arg4 harg4 arg5 harg5 arg6 harg6) K := by
  sl_unfold [cc0_in_proj_n4096_side]
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverW _)
  iexists f4; isplitr; · ipureintro; rfl
  iexact H4

end Body

variable (m : (ℓ : Loc nD τ sig) → Buf (Elt F) ℓ) (ρ : Dev nD → PrngReg)

/-- The call's data: the inputs at their blocks, the results at the two products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outW (iblk m c 0 t) (iblk m c 1 t)
    | ⟨4, _⟩ => outS (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outW (iblk m c 0 t) (iblk m c 1 t) := by dsimp only [dats]
theorem after0_4 (c : Dev nD) (t : Fin cfg0.N) : (dats m 0 c).after 4 t = outS (iblk m c 0 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A point's blocks of rows and of columns. -/
theorem idx_facts : ∀ t : Fin cfg0.N, win0_0.index t = ![t.val / 4, 0] ∧ win0_1.index t = ![0, t.val % 4] ∧ win0_2.index t = ![0, 0]
    ∧ win0_3.index t = ![t.val / 4, t.val % 4] ∧ win0_4.index t = ![t.val / 4, 0] :=
  (by decide +kernel : ∀ t : Fin grid0.N, _)

/-- The narrow product is made at a row block's first column block. -/
theorem cond_iff : ∀ t : Fin cfg0.N, k0_cond1 (cfg0.grid.coords t) = 1#1 ↔ t.val % 4 = 0 :=
  (by decide +kernel : ∀ t : Fin grid0.N, _)

/-- Elsewhere its window is idle. -/
theorem idle_eq : ∀ t : Fin cfg0.N, cfg0.idle 4 (cfg0.grid.coords t) = !decide (t.val % 4 = 0) :=
  (by decide +kernel : ∀ t : Fin grid0.N, _)

/-- It is written back at the last. -/
theorem flush_eq : ∀ t : Fin cfg0.N, (cfg0.win 4).flush t = decide (t.val % 4 = 3) :=
  (by decide +kernel : ∀ t : Fin grid0.N, _)

/-- Its buffer holds nothing yet at the first. -/
theorem fresh_eq (t : Fin cfg0.N) : cfg0.fresh 4 t.val = decide (t.val % 4 = 0) :=
  cfg0.fresh_tab 4 (fun n => decide (n % 4 = 0)) rfl (fun t => by
    rw [flush_eq, idle_eq]
    by_cases h0 : t.val % 4 = 0
    · have h1 : ¬ (t.val + 1) % 4 = 0 := by omega
      have h3 : ¬ t.val % 4 = 3 := by omega
      simp [h0, h1]
    · by_cases h3 : t.val % 4 = 3
      · have h1 : (t.val + 1) % 4 = 0 := by omega
        simp [h3, h1]
      · have h1 : ¬ (t.val + 1) % 4 = 0 := by omega
        simp [h0, h3, h1]) t.val t.isLt.le

/-- Points of one row block stage the same rows. -/
theorem rows_eq (c : Dev nD) (t s : Fin cfg0.N) (h : t.val / 4 = s.val / 4) : iblk m c 0 t = iblk m c 0 s := by
  funext y
  show V m c main_arg0 (((cfg0.win 0).blk t).view.emb y) = V m c main_arg0 (((cfg0.win 0).blk s).view.emb y)
  refine congrArg (V m c main_arg0) ?_
  funext a; apply Fin.ext
  match a with
  | ⟨0, _⟩ =>
    show win0_0.index t (0 : Fin 2) * 1024 + 1 * (y 0).val = win0_0.index s (0 : Fin 2) * 1024 + 1 * (y 0).val
    rw [(idx_facts t).1, (idx_facts s).1, h]
  | ⟨1, _⟩ =>
    show win0_0.index t (1 : Fin 2) * 2048 + 1 * (y 1).val = win0_0.index s (1 : Fin 2) * 2048 + 1 * (y 1).val
    rw [(idx_facts t).1, (idx_facts s).1, h]

/-- All points stage the same narrow weights. -/
theorem narrow_eq (c : Dev nD) (t s : Fin cfg0.N) : iblk m c 2 t = iblk m c 2 s := by
  funext y
  show V m c (Pipeline.arrRef spec0 2) (((cfg0.win 2).blk t).view.emb y) = V m c (Pipeline.arrRef spec0 2) (((cfg0.win 2).blk s).view.emb y)
  refine congrArg (V m c (Pipeline.arrRef spec0 2)) ?_
  funext a; apply Fin.ext
  match a with
  | ⟨0, _⟩ =>
    show win0_2.index t (0 : Fin 2) * 2048 + 1 * (y 0).val = win0_2.index s (0 : Fin 2) * 2048 + 1 * (y 0).val
    rw [(idx_facts t).2.2.1, (idx_facts s).2.2.1]
  | ⟨1, _⟩ =>
    show win0_2.index t (1 : Fin 2) * 128 + 1 * (y 1).val = win0_2.index s (1 : Fin 2) * 128 + 1 * (y 1).val
    rw [(idx_facts t).2.2.1, (idx_facts s).2.2.1]

/-- Past the first column block the narrow result's buffer holds its product already. -/
theorem before0_4 (c : Dev nD) (t : Fin cfg0.N) (h : ¬ t.val % 4 = 0) (d) : (dats m 0 c).before 4 t d = (dats m 0 c).after 4 t := by
  have carry : ∀ (s : Fin cfg0.N) (h0 : s.val ≠ 0), ¬ s.val % 4 = 0 → (dats m 0 c).after 4 s = (dats m 0 c).after 4 ⟨s.val - 1, by omega⟩ := fun s h0 hs => by
    rw [after0_4, after0_4, rows_eq m c s ⟨s.val - 1, by omega⟩ (by show s.val / 4 = (s.val - 1) / 4; omega), narrow_eq m c s ⟨s.val - 1, by omega⟩]
  rw [(dats m 0 c).before_out_traj 4 rfl (fun _ _ => rfl) (fun s h0 _ hf => carry s h0 (by rw [fresh_eq] at hf; simpa using hf)) t.val t rfl d,
    fresh_eq, if_neg (by simpa using h)]
  exact (carry t (by omega) h).symm

set_option maxHeartbeats 1000000 in
/-- The body at one grid point: from the blocks the call hands it, it leaves what `dats` says. -/
theorem body_obligation (c : Dev nD) : BodyObligation (dats (F := F) m 0 c) (defs₀ (F := F)) Variants.none () Set.univ := fun t => by
  rw [bigSep_W0, bigSep_W0]
  rw [show defs₀ (F := F) .tc cfg0.body (cfg0.bodyArgs t (cfg0.slots t)) = bodyAt0 t from by unfold defs₀; rw [Defs.onTc_tc]]
  unfold bodyAt0
  by_cases h : t.val % 4 = 0
  · have hi : cfg0.idle 4 (cfg0.grid.coords t) = false := by rw [idle_eq]; simp [h]
    rw [hi]
    simp only [before0_0, before0_1, before0_2]
    rw [show (dats m 0 c).Φ t.succ = (dats m 0 c).Φ t.castSucc from rfl,
      show (dats m 0 c).owesAt () t.succ = (dats m 0 c).owesAt () t.castSucc from rfl, after0_0, after0_1, after0_2, after0_3, after0_4]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ (iblk m c 0 t) (iblk m c 1 t) (iblk m c 2 t) ((cond_iff t).2 h) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hi : cfg0.idle 4 (cfg0.grid.coords t) = true := by rw [idle_eq]; simp [h]
    rw [hi]
    simp only [before0_0, before0_1, before0_2, before0_4 m c t h]
    rw [show (dats m 0 c).Φ t.succ = (dats m 0 c).Φ t.castSucc from rfl,
      show (dats m 0 c).owesAt () t.succ = (dats m 0 c).owesAt () t.castSucc from rfl, after0_0, after0_1, after0_2, after0_3]
    iintro ⟨HΦ, Ho, ⟨%d0, H0⟩, ⟨%d1, H1⟩, ⟨%d2, H2⟩, ⟨%d3, H3⟩, ⟨%d4, H4⟩⟩
    iapply (body_other c (grid0.coords t) _ _ _ _ _ _ _ _ _ _ (iblk m c 0 t) (iblk m c 1 t) (iblk m c 2 t) (fun e => h ((cond_iff t).1 e)) ((dats m 0 c).after 4 t) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    cases (cfg0.win 4).flush t
    · iexists d4; iexact H4
    · iexact H4

set_option backward.isDefEq.respectTransparency.types false in
/-- Every weakly fair run from any memory ends, the results' arrays at what the blocks give, the counters at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call keeps its arguments and leaves every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.Proof.PSIDE

end
-- ==== Proof.Proj.SideFrame.lean ====
module

public import proofs.«01_k».proof.Proof.Gen.Kernel5.Frame
public import Idealize.ShloMosaic.Lib.Claim
public import Idealize.ShloMosaic.Lib.Tactic

@[expose] public section

set_option maxRecDepth 16384

noncomputable section

namespace Cert.Proof.PSIDEP

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

set_option maxHeartbeats 1000000 in
/-- The body keeps its operands, whatever the results' buffers hold. -/
theorem body_run (c : Dev nD) (i : grid0.Coords) (arg2 : Memref sig .tc .vmem S1024x2048 .bf16) (harg2 : arg2.IsWhole) (arg3 : Memref sig .tc .vmem S2048x1024 .bf16) (harg3 : arg3.IsWhole)
    (arg4 : Memref sig .tc .vmem S2048x128 .bf16) (harg4 : arg4.IsWhole) (arg5 : Memref sig .tc .vmem S1024x1024 .f32) (harg5 : arg5.IsWhole) (arg6 : Memref sig .tc .vmem S1024x128 .f32) (harg6 : arg6.IsWhole)
    (x0 : Vec F S1024x2048 .bf16) (x1 : Vec F S2048x1024 .bf16) (x2 : Vec F S2048x128 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)) -∗ K ⟨⟩))
      ⊢ wp frame (wpE (defs₀ (F := F)) Variants.none c none) Set.univ (cc0_in_proj_n4096_side i arg2 harg2 arg3 harg3 arg4 harg4 arg5 harg5 arg6 harg6) K := by
  sl_unfold [cc0_in_proj_n4096_side]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  by_cases hc : k0_cond1 i = 1#1
  all_goals
    sl_exec (disch := sl_exact hc)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _, _; isplitr
      swap; · iexact H3
      ipureintro; rfl
    iexists _, _; isplitr
    swap; · iexact H4
    ipureintro; rfl

variable (m : (ℓ : Loc nD τ sig) → Buf (Elt F) ℓ) (ρ : Dev nD → PrngReg)

/-- The call's data: the inputs at their blocks; nothing is said of the results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed 3 t
    | ⟨4, _⟩ => Pipeline.Dat.unnamed 4 t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The results' windows, of which nothing is said. -/
def fgt : Fin cfg0.W → Bool := fun w => decide (3 ≤ w.val)

theorem fgt_0 : fgt 0 = false := rfl
theorem fgt_1 : fgt 1 = false := rfl
theorem fgt_2 : fgt 2 = false := rfl
theorem fgt_3 : fgt 3 = true := rfl
theorem fgt_4 : fgt 4 = true := rfl

set_option maxHeartbeats 1000000 in
/-- The body at one grid point keeps the blocks it reads. -/
theorem body_obligation (c : Dev nD) : BodyObligation (dats (F := F) m 0 c) (defs₀ (F := F)) Variants.none () Set.univ fgt := fun t => by
  rw [bigSep_W0, bigSep_W0]
  rw [show defs₀ (F := F) .tc cfg0.body (cfg0.bodyArgs t (cfg0.slots t)) = bodyAt0 t from by unfold defs₀; rw [Defs.onTc_tc]]
  unfold bodyAt0
  simp only [fgt_0, fgt_1, fgt_2, fgt_3, fgt_4, before0_0, before0_1, before0_2]
  rw [show (dats m 0 c).Φ t.succ = (dats m 0 c).Φ t.castSucc from rfl,
    show (dats m 0 c).owesAt () t.succ = (dats m 0 c).owesAt () t.castSucc from rfl, after0_0, after0_1, after0_2]
  iintro ⟨HΦ, Ho, ⟨%d0, H0⟩, ⟨%d1, H1⟩, ⟨%d2, H2⟩, H3, H4⟩
  iapply (body_run c (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option backward.isDefEq.respectTransparency.types false in
/-- Every weakly fair run from any memory ends, the arguments as they were and the counters at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The call as printed keeps its arguments and leaves every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
    ⟨(((dats m 0 c).toRForget_arrAt_iff (fgt := fgt) (w := 0) rfl _ _).mp ((h.1 c).1 0)).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_main m ρ)

end Cert.Proof.PSIDEP

end
-- ==== Proof.Proj.SideVal.lean ====
module

public import proofs.«01_k».proof.Defs
public import proofs.«01_k».proof.Proof.Proj.Side
public import proofs.«01_k».proof.Proof.Proj.SideFrame
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Claim
public import Idealize.ShloMosaic.Lib.Tactic

@[expose] public section

set_option maxRecDepth 16384

noncomputable section

namespace Cert.Proof.PSIDE

open Cert.Kernel5Ideal Cert.Kernel5Ideal.Gen
open Idealize.ShloMosaic Idealize.ShloMosaic.TcCoe
open Idealize.SL Idealize.SL.Sem
open scoped BigOperators

/-- A stride that starts at the origin. -/
theorem hz : (![0, 0] : Fin 2 → Nat) = fun _ => 0 := funext fun a => by fin_cases a <;> rfl

/-- A wide block's entry is a row's product with a column. -/
theorem wide_at (x : Vec Ideal S1024x2048 .bf16) (w : Vec Ideal S2048x1024 .bf16) (r d : Fin 1024) :
    (show EReal from wide (F := Ideal) x w (ix2 r d)) = ∑ k : Fin 2048, x (ix2 r k) * w (ix2 k d) := by
  pointwise [wide]

/-- So is a narrow block's. -/
theorem side_at (x : Vec Ideal S1024x2048 .bf16) (w : Vec Ideal S2048x128 .bf16) (r : Fin 1024) (d : Fin 128) :
    (show EReal from side (F := Ideal) x w (ix2 r d)) = ∑ k : Fin 2048, x (ix2 r k) * w (ix2 k d) := by
  pointwise [side]

/-- The body leaves its wide product. -/
theorem outW_eq (x : Vec Ideal S1024x2048 .bf16) (w : Vec Ideal S2048x1024 .bf16) : outW x w = wide x w := by
  unfold outW
  rw [View.canon_unit_zero hz, View.ld_unit_zero (S := S1024x2048) hz, View.ld_unit_zero (S := S2048x1024) hz]

/-- And its narrow product. -/
theorem outS_eq (x : Vec Ideal S1024x2048 .bf16) (w : Vec Ideal S2048x128 .bf16) : outS x w = side x w := by
  unfold outS
  rw [View.canon_unit_zero hz, View.ld_unit_zero (S := S1024x2048) hz, View.ld_unit_zero (S := S2048x128) hz]

/-- The weights' column behind a column of the wide result: the narrow columns lie between the two parts. -/
def col (d : Fin 4096) : Fin 7184 := ⟨if d.val < 3072 then 3072 + d.val else 3088 + d.val, by split <;> omega⟩

/-- The reference's product. -/
theorem dot_at (h : FVec Ideal S16384x2048 .bf16) (w : FVec Ideal S2048x7184 .f32) (R : Fin 16384) (e : Fin 7184) :
    (show EReal from Cert.Reference5Ideal.Read.val_main_v1 (F := Ideal) h w (ix2 R e)) = ∑ k : Fin 2048, h (ix2 R k) * w (ix2 k e) := by
  refine (Cert.Reference5Ideal.Read.val_main_v1_apply h w (ix2 R e)).trans (Finset.sum_congr rfl fun k _ => ?_)
  have el : Cert.Reference5Ideal.Read.lidx_main_v1 (ix2 R e) k = ix2 R k := funext fun a => by match a with | ⟨0, _⟩ => rfl | ⟨1, _⟩ => rfl
  have er : Cert.Reference5Ideal.Read.ridx_main_v1 (ix2 R e) k = ix2 k e := funext fun a => by match a with | ⟨0, _⟩ => rfl | ⟨1, _⟩ => rfl
  rw [el, er]
  rfl

/-- The reference's wide result. -/
theorem refW_at (h : FVec Ideal S16384x2048 .bf16) (w : FVec Ideal S2048x7184 .f32) (R : Fin 16384) (d : Fin 4096) :
    (show EReal from Cert.Reference5Ideal.Read.val_main_v5 (F := Ideal) h w (ix2 R d)) = ∑ k : Fin 2048, h (ix2 R k) * w (ix2 k (col d)) := by
  refine Eq.trans ?_ (dot_at h w R (col d))
  by_cases hd : d.val < 3072
  · refine (concatenate_pair_apply_left (1 : Fin S16384x4096.rank) (Cert.Reference5Ideal.Read.val_main_v2 (F := Ideal) h w) (Cert.Reference5Ideal.Read.val_main_v4 (F := Ideal) h w)
      Cert.Reference5Ideal.Gen.concatenates_S16384x3072_S16384x1024_S16384x4096_d1 (ix2 R d) rfl (ix2 R (⟨d.val, hd⟩ : Fin 3072))
      (fun x => by match x with | ⟨0, _⟩ => rfl | ⟨1, _⟩ => rfl)).trans ((Cert.Reference5Ideal.Read.val_main_v2_apply (F := Ideal) h w _).trans (congrArg (Cert.Reference5Ideal.Read.val_main_v1 (F := Ideal) h w) ?_))
    funext a; apply Fin.ext
    match a with
    | ⟨0, _⟩ => rfl
    | ⟨1, _⟩ => show 3072 + d.val = (if d.val < 3072 then 3072 + d.val else 3088 + d.val); rw [if_pos hd]
  · refine (concatenate_pair_apply_right (1 : Fin S16384x4096.rank) (Cert.Reference5Ideal.Read.val_main_v2 (F := Ideal) h w) (Cert.Reference5Ideal.Read.val_main_v4 (F := Ideal) h w)
      Cert.Reference5Ideal.Gen.concatenates_S16384x3072_S16384x1024_S16384x4096_d1 (ix2 R d) rfl rfl (ix2 R (⟨d.val - 3072, by omega⟩ : Fin 1024))
      (fun x hx => by match x, hx with | ⟨0, _⟩, _ => rfl | ⟨1, _⟩, hx => exact absurd rfl hx) (by show d.val - 3072 + 3072 = d.val; omega)).trans
      ((Cert.Reference5Ideal.Read.val_main_v4_apply (F := Ideal) h w _).trans (congrArg (Cert.Reference5Ideal.Read.val_main_v1 (F := Ideal) h w) ?_))
    funext a; apply Fin.ext
    match a with
    | ⟨0, _⟩ => rfl
    | ⟨1, _⟩ => show 6160 + (d.val - 3072) = (if d.val < 3072 then 3072 + d.val else 3088 + d.val); rw [if_neg hd]; omega

/-- The kernel's wide weights: the two parts side by side. -/
def catW (w : FVec Ideal S2048x7184 .f32) : FVec Ideal S2048x4096 .f32 :=
  concatenate S2048x4096 1 [⟨S2048x3072, extractStridedSlice S2048x3072 ![0, 3072] w slices_S2048x7184_S2048x3072_0_3072⟩,
    ⟨S2048x1024, extractStridedSlice S2048x1024 ![0, 6160] w slices_S2048x7184_S2048x1024_0_6160⟩] concatenates_S2048x3072_S2048x1024_S2048x4096_d1

/-- A column of them. -/
theorem catW_at (w : FVec Ideal S2048x7184 .f32) (k : Fin 2048) (d : Fin 4096) : catW w (ix2 k d) = w (ix2 k (col d)) := by
  by_cases hd : d.val < 3072
  · refine (concatenate_pair_apply_left (1 : Fin S2048x4096.rank) (extractStridedSlice S2048x3072 ![0, 3072] w slices_S2048x7184_S2048x3072_0_3072) (extractStridedSlice S2048x1024 ![0, 6160] w slices_S2048x7184_S2048x1024_0_6160)
      concatenates_S2048x3072_S2048x1024_S2048x4096_d1 (ix2 k d) rfl (ix2 k (⟨d.val, hd⟩ : Fin 3072))
      (fun x => by match x with | ⟨0, _⟩ => rfl | ⟨1, _⟩ => rfl)).trans (congrArg w ?_)
    funext a; apply Fin.ext
    match a with
    | ⟨0, _⟩ => show 0 + k.val = k.val; omega
    | ⟨1, _⟩ => show 3072 + d.val = (if d.val < 3072 then 3072 + d.val else 3088 + d.val); rw [if_pos hd]
  · refine (concatenate_pair_apply_right (1 : Fin S2048x4096.rank) (extractStridedSlice S2048x3072 ![0, 3072] w slices_S2048x7184_S2048x3072_0_3072) (extractStridedSlice S2048x1024 ![0, 6160] w slices_S2048x7184_S2048x1024_0_6160)
      concatenates_S2048x3072_S2048x1024_S2048x4096_d1 (ix2 k d) rfl rfl (ix2 k (⟨d.val - 3072, by omega⟩ : Fin 1024))
      (fun x hx => by match x, hx with | ⟨0, _⟩, _ => rfl | ⟨1, _⟩, hx => exact absurd rfl hx) (by show d.val - 3072 + 3072 = d.val; omega)).trans (congrArg w ?_)
    funext a; apply Fin.ext
    match a with
    | ⟨0, _⟩ => show 0 + k.val = k.val; omega
    | ⟨1, _⟩ => show 6160 + (d.val - 3072) = (if d.val < 3072 then 3072 + d.val else 3088 + d.val); rw [if_neg hd]; omega

/-- The zero that pads. -/
theorem pad_zero (i : S_.Idx) : (show EReal from sitofp (F := Ideal) .f32 (constantI S_ 32 0#32) i) = 0 := by
  show (((0#32 : BitVec 32).toInt : ℝ) : EReal) = 0
  simp

/-- The kernel's narrow weights: sixteen columns, then zeros. -/
def padW (w : FVec Ideal S2048x7184 .f32) : FVec Ideal S2048x128 .f32 :=
  pad S2048x128 ![0, 0] ![0, 112] ![0, 0] (extractStridedSlice S2048x16 ![0, 6144] w slices_S2048x7184_S2048x16_0_6144) (sitofp (F := Ideal) .f32 (constantI S_ 32 0#32)) pads_S2048x16_S2048x128_000_01120 h_S_

/-- A column of them that is a weight's. -/
theorem padW_in (w : FVec Ideal S2048x7184 .f32) (k : Fin 2048) (d : Fin 128) (hd : d.val < 16) : padW w (ix2 k d) = w (ix2 k (⟨6144 + d.val, by omega⟩ : Fin 7184)) := by
  unfold padW
  rw [pad_apply, dif_pos (fun a => by
    match a with
    | ⟨0, _⟩ => exact ⟨Nat.zero_le _, Nat.mod_one _, by show (k.val - 0) / 1 < 2048; omega⟩
    | ⟨1, _⟩ => exact ⟨Nat.zero_le _, Nat.mod_one _, by show (d.val - 0) / 1 < 16; omega⟩)]
  refine congrArg w ?_
  funext a; apply Fin.ext
  match a with
  | ⟨0, _⟩ => show 0 + (k.val - 0) / 1 = k.val; omega
  | ⟨1, _⟩ => show 6144 + (d.val - 0) / 1 = 6144 + d.val; omega

/-- A column past them. -/
theorem padW_out (w : FVec Ideal S2048x7184 .f32) (k : Fin 2048) (d : Fin 128) (hd : ¬ d.val < 16) : (show EReal from padW w (ix2 k d)) = 0 := by
  unfold padW
  rw [pad_apply, dif_neg (fun hin => hd (by have := (hin (1 : Fin 2)).2.2; change (d.val - 0) / 1 < 16 at this; omega))]
  exact pad_zero _

/-- The reference's narrow result at a weight's column. -/
theorem refS_in (h : FVec Ideal S16384x2048 .bf16) (w : FVec Ideal S2048x7184 .f32) (R : Fin 16384) (d : Fin 128) (hd : d.val < 16) :
    (show EReal from Cert.Reference5Ideal.Read.val_main_v6 (F := Ideal) h w (ix2 R d)) = ∑ k : Fin 2048, h (ix2 R k) * w (ix2 k (⟨6144 + d.val, by omega⟩ : Fin 7184)) := by
  refine Eq.trans ?_ (dot_at h w R _)
  unfold Cert.Reference5Ideal.Read.val_main_v6
  rw [pad_apply, dif_pos (fun a => by
    match a with
    | ⟨0, _⟩ => exact ⟨Nat.zero_le _, Nat.mod_one _, by show (R.val - 0) / 1 < 16384; omega⟩
    | ⟨1, _⟩ => exact ⟨Nat.zero_le _, Nat.mod_one _, by show (d.val - 0) / 1 < 16; omega⟩)]
  refine (Cert.Reference5Ideal.Read.val_main_v3_apply (F := Ideal) h w _).trans (congrArg (Cert.Reference5Ideal.Read.val_main_v1 (F := Ideal) h w) ?_)
  funext a; apply Fin.ext
  match a with
  | ⟨0, _⟩ => show (R.val - 0) / 1 = R.val; omega
  | ⟨1, _⟩ => show 6144 + (d.val - 0) / 1 = 6144 + d.val; omega

/-- And past them. -/
theorem refS_out (h : FVec Ideal S16384x2048 .bf16) (w : FVec Ideal S2048x7184 .f32) (R : Fin 16384) (d : Fin 128) (hd : ¬ d.val < 16) :
    (show EReal from Cert.Reference5Ideal.Read.val_main_v6 (F := Ideal) h w (ix2 R d)) = 0 := by
  unfold Cert.Reference5Ideal.Read.val_main_v6
  rw [pad_apply, dif_neg (fun hin => hd (by have := (hin (1 : Fin 2)).2.2; change (d.val - 0) / 1 < 16 at this; omega))]
  exact pad_zero _

/-- The reference's narrow result is the product with the padded weights. -/
theorem refS_at (h : FVec Ideal S16384x2048 .bf16) (w : FVec Ideal S2048x7184 .f32) (R : Fin 16384) (d : Fin 128) :
    (show EReal from Cert.Reference5Ideal.Read.val_main_v6 (F := Ideal) h w (ix2 R d)) = ∑ k : Fin 2048, h (ix2 R k) * padW w (ix2 k d) := by
  by_cases hd : d.val < 16
  · refine (refS_in h w R d hd).trans (Finset.sum_congr rfl fun k _ => ?_)
    rw [padW_in w k d hd]
  · refine (refS_out h w R d hd).trans (Finset.sum_eq_zero fun k _ => ?_).symm
    exact (congrArg (fun p : EReal => (show EReal from h (ix2 R k)) * p) (padW_out w k d hd)).trans (mul_zero _)

variable (m : (ℓ : Loc nD τ sig) → Buf (Elt Ideal) ℓ) (c : Dev nD)

/-- The kernel's first steps make the wide weights. -/
theorem V_main_v3 : V m c main_v3 = truncf (F := Ideal) .bf16 (catW (m ((c : Thread nD τ).loc main_arg1))) bitsLt_bf16_f32 := by
  show StableHlo.after (List.flatten [hostOps0, hostOps0_1, hostOps0_2]) (fun b => m (c, b)) (Proc.devRef .tc main_v3) = _
  simp only [List.flatten_cons, List.flatten_nil, List.append_nil, List.cons_append, List.nil_append, StableHlo.TRef.binary, StableHlo.TRef.unary, StableHlo.TRef.toBuf, StableHlo.TRef.ofBuf, cast_eq]
  after_results
  rfl

/-- And the narrow ones. -/
theorem V_main_v6 : V m c main_v6 = truncf (F := Ideal) .bf16 (padW (m ((c : Thread nD τ).loc main_arg1))) bitsLt_bf16_f32 := by
  show StableHlo.after (List.flatten [hostOps0, hostOps0_1, hostOps0_2]) (fun b => m (c, b)) (Proc.devRef .tc main_v6) = _
  simp only [List.flatten_cons, List.flatten_nil, List.append_nil, List.cons_append, List.nil_append, StableHlo.TRef.binary, StableHlo.TRef.unary, StableHlo.TRef.toBuf, StableHlo.TRef.ofBuf, cast_eq]
  after_results
  rfl

/-- The rows a point stages. -/
theorem x_at (t : Fin cfg0.N) (r : Fin 1024) (k : Fin 2048) (i : S16384x2048.Idx) (h0 : (i 0).val = 1024 * (t.val / 4) + r.val) (h1 : (i 1).val = k.val) :
    iblk m c 0 t (ix2 r k) = m ((c : Thread nD τ).loc main_arg0) i := by
  obtain ⟨e, -⟩ := idx_facts t
  show V m c main_arg0 (((cfg0.win 0).blk t).view.emb (ix2 r k)) = _
  rw [V_main_arg0]
  refine congrArg _ ?_
  funext a; apply Fin.ext
  match a with
  | ⟨0, _⟩ =>
    show win0_0.index t (0 : Fin 2) * 1024 + 1 * r.val = (i 0).val
    rw [e]; show t.val / 4 * 1024 + 1 * r.val = (i 0).val; omega
  | ⟨1, _⟩ =>
    show win0_0.index t (1 : Fin 2) * 2048 + 1 * k.val = (i 1).val
    rw [e]; show 0 * 2048 + 1 * k.val = (i 1).val; omega

/-- The wide weights' columns it stages. -/
theorem w_at (t : Fin cfg0.N) (k : Fin 2048) (d : Fin 1024) (i : S2048x4096.Idx) (h0 : (i 0).val = k.val) (h1 : (i 1).val = 1024 * (t.val % 4) + d.val) :
    iblk m c 1 t (ix2 k d) = catW (m ((c : Thread nD τ).loc main_arg1)) i := by
  obtain ⟨-, e, -⟩ := idx_facts t
  show V m c main_v3 (((cfg0.win 1).blk t).view.emb (ix2 k d)) = _
  rw [V_main_v3]
  refine congrArg (catW (m ((c : Thread nD τ).loc main_arg1))) ?_
  funext a; apply Fin.ext
  match a with
  | ⟨0, _⟩ =>
    show win0_1.index t (0 : Fin 2) * 2048 + 1 * k.val = (i 0).val
    rw [e]; show 0 * 2048 + 1 * k.val = (i 0).val; omega
  | ⟨1, _⟩ =>
    show win0_1.index t (1 : Fin 2) * 1024 + 1 * d.val = (i 1).val
    rw [e]; show t.val % 4 * 1024 + 1 * d.val = (i 1).val; omega

/-- The narrow weights, all of them. -/
theorem v_at (t : Fin cfg0.N) (k : Fin 2048) (d : Fin 128) :
    iblk m c 2 t (ix2 k d) = padW (m ((c : Thread nD τ).loc main_arg1)) (ix2 k d) := by
  obtain ⟨-, -, e, -⟩ := idx_facts t
  show V m c main_v6 (((cfg0.win 2).blk t).view.emb (ix2 k d)) = _
  rw [V_main_v6]
  refine congrArg (padW (m ((c : Thread nD τ).loc main_arg1))) ?_
  funext a; apply Fin.ext
  match a with
  | ⟨0, _⟩ =>
    show win0_2.index t (0 : Fin 2) * 2048 + 1 * k.val = k.val
    rw [e]; show 0 * 2048 + 1 * k.val = k.val; omega
  | ⟨1, _⟩ =>
    show win0_2.index t (1 : Fin 2) * 128 + 1 * d.val = d.val
    rw [e]; show 0 * 128 + 1 * d.val = d.val; omega

/-- The wide result's array ends at what the reference computes from the same arguments. -/
theorem finalW : (dats m 0 c).arrAt 3 cfg0.N
    = Cert.Reference5Ideal.Read.val_main_v5 (F := Ideal) (m ((c : Thread nD τ).loc main_arg0)) (m ((c : Thread nD τ).loc main_arg1)) := by
  refine (dats m 0 c).arrAt_eq_of_covers 3 _ (by decide +kernel) fun t hf y => ?_
  obtain ⟨-, -, -, e3, -⟩ := idx_facts t
  have hN : cfg0.N = 64 := N_0
  have ht : t.val < 64 := hN ▸ t.isLt
  blk_simp
  rw [after0_3, outW_eq]
  have hy : y = ix2 (y 0 : Fin 1024) (y 1 : Fin 1024) := by
    funext a
    match a with
    | ⟨0, _⟩ => rfl
    | ⟨1, _⟩ => rfl
  have b0 : (y 0 : Fin 1024).val < 1024 := (y 0 : Fin 1024).isLt
  have b1 : (y 1 : Fin 1024).val < 1024 := (y 1 : Fin 1024).isLt
  let R : Fin 16384 := ⟨1024 * (t.val / 4) + (y 0 : Fin 1024).val, by omega⟩
  let D : Fin 4096 := ⟨1024 * (t.val % 4) + (y 1 : Fin 1024).val, by omega⟩
  refine (congrArg (wide (F := Ideal) (iblk m c 0 t) (iblk m c 1 t)) hy).trans ((wide_at _ _ (y 0) (y 1)).trans ?_)
  refine (Finset.sum_congr rfl fun k _ => congrArg₂ (fun p q : EReal => p * q) (x_at m c t (y 0) k (ix2 R k) rfl rfl)
    ((w_at m c t k (y 1) (ix2 k D) rfl rfl).trans (catW_at _ k D))).trans ?_
  refine (refW_at _ _ R D).symm.trans
    (congrArg (Cert.Reference5Ideal.Read.val_main_v5 (F := Ideal) (m ((c : Thread nD τ).loc main_arg0)) (m ((c : Thread nD τ).loc main_arg1))) ?_)
  funext a; apply Fin.ext
  match a with
  | ⟨0, _⟩ =>
    show 1024 * (t.val / 4) + (y 0).val = win0_3.index t (0 : Fin 2) * 1024 + 1 * (y 0).val
    rw [e3]; show 1024 * (t.val / 4) + (y 0).val = t.val / 4 * 1024 + 1 * (y 0).val; omega
  | ⟨1, _⟩ =>
    show 1024 * (t.val % 4) + (y 1).val = win0_3.index t (1 : Fin 2) * 1024 + 1 * (y 1).val
    rw [e3]; show 1024 * (t.val % 4) + (y 1).val = t.val % 4 * 1024 + 1 * (y 1).val; omega

/-- So does the narrow result's. -/
theorem finalS : (dats m 0 c).arrAt 4 cfg0.N
    = Cert.Reference5Ideal.Read.val_main_v6 (F := Ideal) (m ((c : Thread nD τ).loc main_arg0)) (m ((c : Thread nD τ).loc main_arg1)) := by
  refine (dats m 0 c).arrAt_eq_of_covers 4 _ (by decide +kernel) fun t hf y => ?_
  obtain ⟨-, -, -, -, e4⟩ := idx_facts t
  have hN : cfg0.N = 64 := N_0
  have ht : t.val < 64 := hN ▸ t.isLt
  blk_simp
  rw [after0_4, outS_eq]
  have hy : y = ix2 (y 0 : Fin 1024) (y 1 : Fin 128) := by
    funext a
    match a with
    | ⟨0, _⟩ => rfl
    | ⟨1, _⟩ => rfl
  have b0 : (y 0 : Fin 1024).val < 1024 := (y 0 : Fin 1024).isLt
  let R : Fin 16384 := ⟨1024 * (t.val / 4) + (y 0 : Fin 1024).val, by omega⟩
  refine (congrArg (side (F := Ideal) (iblk m c 0 t) (iblk m c 2 t)) hy).trans ((side_at _ _ (y 0) (y 1)).trans ?_)
  refine (Finset.sum_congr rfl fun k _ => congrArg₂ (fun p q : EReal => p * q) (x_at m c t (y 0) k (ix2 R k) rfl rfl) (v_at m c t k (y 1))).trans ?_
  refine (refS_at _ _ R (y 1)).symm.trans
    (congrArg (Cert.Reference5Ideal.Read.val_main_v6 (F := Ideal) (m ((c : Thread nD τ).loc main_arg0)) (m ((c : Thread nD τ).loc main_arg1))) ?_)
  funext a; apply Fin.ext
  match a with
  | ⟨0, _⟩ =>
    show 1024 * (t.val / 4) + (y 0).val = win0_4.index t (0 : Fin 2) * 1024 + 1 * (y 0).val
    rw [e4]; show 1024 * (t.val / 4) + (y 0).val = t.val / 4 * 1024 + 1 * (y 0).val; omega
  | ⟨1, _⟩ =>
    show (y 1).val = win0_4.index t (1 : Fin 2) * 128 + 1 * (y 1).val
    rw [e4]; show (y 1).val = 0 * 128 + 1 * (y 1).val; omega

/-- The rest of the input projection as printed runs, keeps its arguments and leaves every counter at zero. -/
theorem frame_p : Cert.quiescent_Kernel5 := fun m ρ _ => PSIDEP.frame_all m ρ

/-- So does its idealized version. -/
theorem frame_pi : Cert.quiescent_Kernel5Ideal := fun m ρ _ => frame_all m ρ

/-- And its reference. -/
theorem frame_ri : Cert.quiescent_Reference5Ideal := fun m ρ _ =>
  (θ_run _ _ _).mono (fun r h => ⟨fun c => (h c).2.2, sem_eq_zero_of_no_sems (by decide) r.2⟩) (Cert.Reference5Ideal.Value.run m ρ)

/-- The call and its reference end with the same two arrays: the rows times the other columns of the weights. -/
theorem algebraic : Cert.algebraic_Kernel5Ideal_Reference5Ideal := by
  intro m g m' g' _ ha
  refine ⟨fun c => Cert.Reference5Ideal.Read.val_main_v5 (F := Ideal) (m ((c.tc : Thread nD τ).loc main_arg0)) (m ((c.tc : Thread nD τ).loc main_arg1)),
    fun c => Cert.Reference5Ideal.Read.val_main_v6 (F := Ideal) (m ((c.tc : Thread nD τ).loc main_arg0)) (m ((c.tc : Thread nD τ).loc main_arg1)), ?_, ?_⟩
  · refine (θ_run _ _ _).mono (fun r h c => ?_) (run_main m g)
    exact ⟨((h.1 c).1 3).trans (finalW m c), ((h.1 c).1 4).trans (finalS m c),
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩
  · refine (θ_run _ _ _).mono (fun r h c => ⟨?_, ?_, (h c).2.2⟩) (Cert.Reference5Ideal.Value.run m' g')
    · refine (h c).1.trans (Eq.trans (b := Cert.Reference5Ideal.Read.val_main_v5 (F := Ideal) (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))) rfl ?_)
      rw [(ha c).1, (ha c).2]
    · refine (h c).2.1.trans (Eq.trans (b := Cert.Reference5Ideal.Read.val_main_v6 (F := Ideal) (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))) rfl ?_)
      rw [(ha c).1, (ha c).2]

end Cert.Proof.PSIDE

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel2.Frame
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.RI
public import proofs.«01_k».proof.Proof.P.Run
public import proofs.«01_k».proof.Proof.PI.Run
public import proofs.«01_k».proof.Proof.Val.Array
public import proofs.«01_k».proof.Proof.Ffn.Array
public import proofs.«01_k».proof.Proof.Mix.Array
public import proofs.«01_k».proof.Proof.Proj.In
public import proofs.«01_k».proof.Proof.Proj.Out
public import proofs.«01_k».proof.Proof.Proj.Side
public import proofs.«01_k».proof.Proof.Proj.SideFrame
public import proofs.«01_k».proof.Proof.Proj.SideVal
public import Idealize.ShloMosaic.Adequacy
public import Idealize.ShloMosaic.Init

@[expose] public section

noncomputable section

namespace Cert.Proof

open Idealize.ShloMosaic Idealize.SL.Sem

/-- The kernel as printed runs, keeps its arguments and leaves every counter at zero. -/
theorem frame_p : Cert.quiescent_Kernel := fun m ρ _ => SBP.frame_all m ρ

/-- So does its idealized version. -/
theorem frame_pi : Cert.quiescent_KernelIdeal := fun m ρ _ =>
  θ_run_with_sems (Cert.KernelIdeal.Gen.frame_of m ρ (SBI.dats m) fun _ _ => rfl) (SBI.run_main m ρ)

/-- And the reference. -/
theorem frame_ri : Cert.quiescent_ReferenceIdeal := fun m ρ _ => SBR.frame_all m ρ

/-- The masked scores' constant is named. -/
theorem preserves : Cert.preserves_Kernel_KernelIdeal :=
  IdealRules.named_const.statement Cert.KernelIdeal.κ "mask" .f32 0xF149F2CA#32 ⊥ rfl

/-- The precondition's side conditions hold. -/
theorem facts_pre : Cert.Pre_finite_scores_operands.Facts where
  bitsLt_bf16_f32 := by decide
  bcast_S_S4x4096x3072 := by decide

/-- An array whose entries all pass the precondition holds real numbers. -/
theorem real_of_pre [Cert.Pre_finite_scores_operands.Facts] (x : FVec Ideal Cert.Pre_finite_scores_operands.S4x4096x3072 .bf16) (g : FVec Ideal Cert.Pre_finite_scores_operands.S1x128 .f32)
    (h : Cert.Pre_finite_scores_operands.fn (F := Ideal) x g = fun _ => 1#1) : SBV.Real3 x := by
  intro i
  have e := congrFun h i
  have e' : Ideal.cmp .olt (max (x i) (-(x i)) : EReal) (Ideal.ofBits .f32 0x7F800000#32) = 1#1 := e
  rw [SBV.ofBits_top] at e'
  have l : max (x i : EReal) (-(x i)) < ⊤ := by
    by_contra n
    have : Ideal.cmp .olt (max (x i) (-(x i)) : EReal) ⊤ = 0#1 := by
      simp only [Ideal.cmp, decide_eq_false n]
      rfl
    rw [this] at e'
    exact absurd e' (by decide)
  refine EReal.coe_toReal ?_ ?_
  · intro t
    exact absurd (lt_of_le_of_lt (le_max_left _ _) l) (by rw [t]; exact lt_irrefl _)
  · intro t
    exact absurd (lt_of_le_of_lt (le_max_right _ _) l) (by rw [t]; exact lt_irrefl _)

/-- From finite projected activations the kernel and the reference end with the same array: the attention of each query
    over the keys before it, stick-breaking, normalised and scaled by the gain. -/
theorem algebraic : Cert.algebraic_KernelIdeal_ReferenceIdeal_pre_finite_scores_operands (hPre_finite_scores_operands := facts_pre) := by
  intro m g m' g' hp ha
  haveI := facts_pre
  refine ⟨fun c => Cert.ReferenceIdeal.Read.val_main_v47 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run _ _ _).mono (fun r h c => ?_) (SBI.run_main m g)
    exact ⟨((h.1 c).1 4).trans (SBV.final m c (real_of_pre _ _ (hp c))),
      ((h.1 c).1 2).trans (((SBI.dats m 0 c).arrAt_in 2 rfl _).trans (Cert.KernelIdeal.Gen.V_main_arg0 m c)),
      ((h.1 c).1 3).trans (((SBI.dats m 0 c).arrAt_in 3 rfl _).trans (Cert.KernelIdeal.Gen.V_main_arg1 m c))⟩
  · refine (θ_run _ _ _).mono (fun r h c => ⟨?_, (h c).2⟩) (Cert.ReferenceIdeal.Value.run m' g')
    refine (h c).1.trans ((Cert.ReferenceIdeal.Read.val_main_v47_eq m' c).trans ?_)
    rw [(ha c).1, (ha c).2]

/-- The idealized feed-forward call is the printed one, every cast dropped. -/
theorem preserves2 : Cert.preserves_Kernel2_Kernel2Ideal := trivial

/-- So is the first feed-forward call's. -/
theorem preserves3 : Cert.preserves_Kernel3_Kernel3Ideal := trivial

/-- So is the attention's input projection. -/
theorem preserves4 : Cert.preserves_Kernel4_Kernel4Ideal := trivial

/-- So is the rest of the input projection. -/
theorem preserves5 : Cert.preserves_Kernel5_Kernel5Ideal := trivial

/-- So is the output projection. -/
theorem preserves6 : Cert.preserves_Kernel6_Kernel6Ideal := trivial

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    facts_pre, frame_p, frame_pi, fun m ρ _ => frame_pi m ρ trivial, frame_ri, fun m ρ _ => frame_ri m ρ trivial,
    FFV.frame_p, FFV.frame_pi, FFV.frame_ri, FFM.frame_p, FFM.frame_pi, FFM.frame_ri,
    PIN.frame_p, PIN.frame_pi, PIN.frame_ri, PSIDE.frame_p, PSIDE.frame_pi, PSIDE.frame_ri, POUT.frame_p, POUT.frame_pi, POUT.frame_ri,
    preserves, algebraic, preserves2, FFV.algebraic, preserves3, FFM.algebraic, preserves4, PIN.algebraic,
    preserves5, PSIDE.algebraic, preserves6, POUT.algebraic⟩

end Cert.Proof

end
